-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 64, 128]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 64, 128]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x8192 : Shape := ⟨2, ![1024, 8192]⟩
abbrev S1x1024x8x128 : Shape := ⟨4, ![1, 1024, 8, 128]⟩
abbrev S8192x1024 : Shape := ⟨2, ![8192, 1024]⟩
abbrev S_ : Shape := ⟨0, ![]⟩
abbrev S1024x1024 : Shape := ⟨2, ![1024, 1024]⟩
abbrev S1024x8x128 : Shape := ⟨3, ![1024, 8, 128]⟩
abbrev S8x1024x128 : Shape := ⟨3, ![8, 1024, 128]⟩
abbrev S7x128x1024 : Shape := ⟨3, ![7, 128, 1024]⟩
abbrev S4x128x1024 : Shape := ⟨3, ![4, 128, 1024]⟩
abbrev S3x128x1024 : Shape := ⟨3, ![3, 128, 1024]⟩
abbrev S128x1024 : Shape := ⟨2, ![128, 1024]⟩
abbrev S7 : Shape := ⟨1, ![7]⟩
abbrev S4 : Shape := ⟨1, ![4]⟩
abbrev S3 : Shape := ⟨1, ![3]⟩
abbrev S128x128 : Shape := ⟨2, ![128, 128]⟩
abbrev S1x1024x128 : Shape := ⟨3, ![1, 1024, 128]⟩
abbrev S1024x128 : Shape := ⟨2, ![1024, 128]⟩
abbrev S128 : Shape := ⟨1, ![128]⟩
abbrev S128x1 : Shape := ⟨2, ![128, 1]⟩
abbrev S1x128x1024 : Shape := ⟨3, ![1, 128, 1024]⟩
abbrev S1 : Shape := ⟨1, ![1]⟩

abbrev nBuf : Space → Nat
  | .hbm => 40
  | .vmem => 11
  | .smem => 0
  | _ => 0

abbrev bufTy : (tb : Table) → Fin (tcTables nBuf tb) → BufTy
  | .hbm, ⟨0, _⟩ => ⟨S1x1024x1024, .f32⟩
  | .hbm, ⟨1, _⟩ => ⟨S1024x8192, .f32⟩
  | .hbm, ⟨2, _⟩ => ⟨S1x1024x8x128, .f32⟩
  | .hbm, ⟨3, _⟩ => ⟨S1x1024x8x128, .f32⟩
  | .hbm, ⟨4, _⟩ => ⟨S8192x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .f32⟩
  | .hbm, ⟨12, _⟩ => ⟨S1024x1024, .bf16⟩
  | .hbm, ⟨13, _⟩ => ⟨S1024x8x128, .f32⟩
  | .hbm, ⟨14, _⟩ => ⟨S8x1024x128, .f32⟩
  | .hbm, ⟨15, _⟩ => ⟨S8x1024x128, .bf16⟩
  | .hbm, ⟨16, _⟩ => ⟨S1024x8x128, .f32⟩
  | .hbm, ⟨17, _⟩ => ⟨S8x1024x128, .f32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1024x1024, .f32⟩
  | .hbm, ⟨27, _⟩ => ⟨S1024x1024, .bf16⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1024x1024, .f32⟩
  | .hbm, ⟨37, _⟩ => ⟨S1024x1024, .bf16⟩
  | .hbm, ⟨38, _⟩ => ⟨S1024x1024, .f32⟩
  | .hbm, ⟨39, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x1024x128, .bf16⟩
  | .local _ .vmem, ⟨3, _⟩ => ⟨S8x1024x128, .f32⟩
  | .local _ .vmem, ⟨4, _⟩ => ⟨S1024x1024, .bf16⟩
  | .local _ .vmem, ⟨5, _⟩ => ⟨S1024x1024, .f32⟩
  | .local _ .vmem, ⟨6, _⟩ => ⟨S7x128x1024, .bf16⟩
  | .local _ .vmem, ⟨7, _⟩ => ⟨S7x128x1024, .bf16⟩
  | .local _ .vmem, ⟨8, _⟩ => ⟨S4x128x1024, .bf16⟩
  | .local _ .vmem, ⟨9, _⟩ => ⟨S3x128x1024, .bf16⟩
  | .local _ .vmem, ⟨10, _⟩ => ⟨S128x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_c_6 : Ref sig .tc := ⟨.hbm, 30, rfl⟩
abbrev main_v19 : Ref sig .tc := ⟨.hbm, 31, rfl⟩
abbrev main_c_7 : Ref sig .tc := ⟨.hbm, 32, rfl⟩
abbrev main_v20 : Ref sig .tc := ⟨.hbm, 33, rfl⟩
abbrev main_v21 : Ref sig .tc := ⟨.hbm, 34, rfl⟩
abbrev main_c_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_6 : BitVec 32 := 1#32
  let v10 : BitVec 32 := Scalar.muli v5 c1_i32_6
  let v11 : BitVec 32 := Scalar.addi c0_i32 v10
  v11.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.addi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_8 : BitVec 32 := 1#32
  let v12 : BitVec 32 := Scalar.muli v8 c1_i32_8
  let v13 : BitVec 32 := Scalar.addi c0_i32_9 v12
  v13.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v14 : BitVec 32 := Scalar.muli v2 c128_i32
  let v15 : Index := Scalar.indexCast v14
  let c0 : Index := 0#32
  ![v15.toNat, 0]
@[reducible] def k0_t1_loop : Scf.Loop 32 :=
  let c0_i32_30 : BitVec 32 := 0#32
  let c8_i32_31 : BitVec 32 := 8#32
  let v88 : BitVec 32 := Scalar.addi c0_i32_30 c8_i32_31
  let c1_i32_32 : BitVec 32 := 1#32
  ⟨c0_i32_30, v88, c1_i32_32⟩
def k0_off2 (k0_t1 : Fin k0_t1_loop.trips) : Fin 2 → Nat :=
  let c0_205 : Index := 0#32
  let c0_i32_30 : BitVec 32 := 0#32
  let c1_i32_32 : BitVec 32 := 1#32
  let arg17 : BitVec 32 := Scf.iv c0_i32_30 c1_i32_32 k0_t1
  let c128_i32_204 : BitVec 32 := 128#32
  let v305 : BitVec 32 := Scalar.muli arg17 c128_i32_204
  let v306 : Index := Scalar.indexCast v305
  ![0, v306.toNat]
def k0_off3 (k0_t1 : Fin k0_t1_loop.trips) : Fin 3 → Nat :=
  let c0_i32_30 : BitVec 32 := 0#32
  let c1_i32_32 : BitVec 32 := 1#32
  let arg17 : BitVec 32 := Scf.iv c0_i32_30 c1_i32_32 k0_t1
  let v308 : Index := Scalar.indexCast arg17
  let c0_206 : Index := 0#32
  let c0_207 : Index := 0#32
  ![v308.toNat, 0, 0]
def k0_off4 (k0_t1 : Fin k0_t1_loop.trips) : Fin 2 → Nat :=
  let c0_i32_30 : BitVec 32 := 0#32
  let c1_i32_32 : BitVec 32 := 1#32
  let arg17 : BitVec 32 := Scf.iv c0_i32_30 c1_i32_32 k0_t1
  let c128_i32_216 : BitVec 32 := 128#32
  let v329 : BitVec 32 := Scalar.muli arg17 c128_i32_216
  let v330 : Index := Scalar.indexCast v329
  let c0_217 : Index := 0#32
  ![v330.toNat, 0]
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.addi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_44 : BitVec 32 := 1#32
  let v100 : BitVec 32 := Scalar.muli v8 c1_i32_44
  let v101 : BitVec 32 := Scalar.addi c0_i32_45 v100
  v101.toNat
@[reducible] def k0_t2_loop : Scf.Loop 32 :=
  let c1_i32_50 : BitVec 32 := 1#32
  let c6_i32 : BitVec 32 := 6#32
  let v110 : BitVec 32 := Scalar.addi c1_i32_50 c6_i32
  let c1_i32_51 : BitVec 32 := 1#32
  ⟨c1_i32_50, v110, c1_i32_51⟩
def k0_off5 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_50 : BitVec 32 := 1#32
  let c1_i32_51 : BitVec 32 := 1#32
  let arg17 : BitVec 32 := Scf.iv c1_i32_50 c1_i32_51 k0_t2
  let v305 : BitVec 32 := Scalar.subi v2 arg17
  let c16_i32_204 : BitVec 32 := 16#32
  let v306 : BitVec 32 := Scalar.addi v305 c16_i32_204
  let c8_i32_205 : BitVec 32 := 8#32
  let v307 : BitVec 32 := Scalar.remsi v306 c8_i32_205
  let c128_i32_206 : BitVec 32 := 128#32
  let v308 : BitVec 32 := Scalar.muli v307 c128_i32_206
  let v309 : Index := Scalar.indexCast v308
  let c0_207 : Index := 0#32
  ![v309.toNat, 0]
@[reducible] def k0_t3_loop : Scf.Loop 32 :=
  let c0_i32_231 : BitVec 32 := 0#32
  let c8_i32_232 : BitVec 32 := 8#32
  let v382 : BitVec 32 := Scalar.addi c0_i32_231 c8_i32_232
  let c1_i32_233 : BitVec 32 := 1#32
  ⟨c0_i32_231, v382, c1_i32_233⟩
def k0_off6 (k0_t3 : Fin k0_t3_loop.trips) : Fin 2 → Nat :=
  let c0_261 : Index := 0#32
  let c0_i32_231 : BitVec 32 := 0#32
  let c1_i32_233 : BitVec 32 := 1#32
  let arg18 : BitVec 32 := Scf.iv c0_i32_231 c1_i32_233 k0_t3
  let c128_i32_260 : BitVec 32 := 128#32
  let v427 : BitVec 32 := Scalar.muli arg18 c128_i32_260
  let v428 : Index := Scalar.indexCast v427
  ![0, v428.toNat]
def k0_off7 (k0_t3 : Fin k0_t3_loop.trips) : Fin 3 → Nat :=
  let c0_i32_231 : BitVec 32 := 0#32
  let c1_i32_233 : BitVec 32 := 1#32
  let arg18 : BitVec 32 := Scf.iv c0_i32_231 c1_i32_233 k0_t3
  let v430 : Index := Scalar.indexCast arg18
  let c0_262 : Index := 0#32
  let c0_263 : Index := 0#32
  ![v430.toNat, 0, 0]
def k0_off8 (k0_t3 : Fin k0_t3_loop.trips) : Fin 2 → Nat :=
  let c0_i32_231 : BitVec 32 := 0#32
  let c1_i32_233 : BitVec 32 := 1#32
  let arg18 : BitVec 32 := Scf.iv c0_i32_231 c1_i32_233 k0_t3
  let c128_i32_272 : BitVec 32 := 128#32
  let v451 : BitVec 32 := Scalar.muli arg18 c128_i32_272
  let v452 : Index := Scalar.indexCast v451
  let c0_273 : Index := 0#32
  ![v452.toNat, 0]
def k0_off9 (k0_t2 : Fin k0_t2_loop.trips) : Fin 1 → Nat :=
  let c1_i32_50 : BitVec 32 := 1#32
  let c1_i32_51 : BitVec 32 := 1#32
  let arg17 : BitVec 32 := Scf.iv c1_i32_50 c1_i32_51 k0_t2
  let c1_i32_236 : BitVec 32 := 1#32
  let v386 : BitVec 32 := Scalar.subi arg17 c1_i32_236
  ![v386.toNat]
def k0_off10 (k0_t2 : Fin k0_t2_loop.trips) : Fin 3 → Nat :=
  let c1_i32_50 : BitVec 32 := 1#32
  let c1_i32_51 : BitVec 32 := 1#32
  let arg17 : BitVec 32 := Scf.iv c1_i32_50 c1_i32_51 k0_t2
  let c1_i32_236 : BitVec 32 := 1#32
  let v386 : BitVec 32 := Scalar.subi arg17 c1_i32_236
  let c0_i32_239 : BitVec 32 := 0#32
  let c0_i32_240 : BitVec 32 := 0#32
  ![v386.toNat, 0, 0]
def k0_off11 (k0_t2 : Fin k0_t2_loop.trips) : Fin 3 → Nat :=
  let c1_i32_50 : BitVec 32 := 1#32
  let c1_i32_51 : BitVec 32 := 1#32
  let arg17 : BitVec 32 := Scf.iv c1_i32_50 c1_i32_51 k0_t2
  let c1_i32_245 : BitVec 32 := 1#32
  let v399 : BitVec 32 := Scalar.subi arg17 c1_i32_245
  let v400 : Index := Scalar.indexCast v399
  let c0_246 : Index := 0#32
  let c0_247 : Index := 0#32
  ![v400.toNat, 0, 0]
def k0_off12 (k0_t2 : Fin k0_t2_loop.trips) : Fin 3 → Nat :=
  let c1_i32_50 : BitVec 32 := 1#32
  let c1_i32_51 : BitVec 32 := 1#32
  let arg17 : BitVec 32 := Scf.iv c1_i32_50 c1_i32_51 k0_t2
  let v413 : Index := Scalar.indexCast arg17
  let c0_252 : Index := 0#32
  let c0_253 : Index := 0#32
  ![v413.toNat, 0, 0]
def k0_off13 (k0_t2 : Fin k0_t2_loop.trips) : Fin 1 → Nat :=
  let c1_i32_50 : BitVec 32 := 1#32
  let c1_i32_51 : BitVec 32 := 1#32
  let arg17 : BitVec 32 := Scf.iv c1_i32_50 c1_i32_51 k0_t2
  ![arg17.toNat]
def k0_off14 (k0_t2 : Fin k0_t2_loop.trips) : Fin 3 → Nat :=
  let c1_i32_50 : BitVec 32 := 1#32
  let c1_i32_51 : BitVec 32 := 1#32
  let arg17 : BitVec 32 := Scf.iv c1_i32_50 c1_i32_51 k0_t2
  let c0_i32_256 : BitVec 32 := 0#32
  let c0_i32_257 : BitVec 32 := 0#32
  ![arg17.toNat, 0, 0]
def k0_dev4 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.addi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_254 : BitVec 32 := 1#32
  let v417 : BitVec 32 := Scalar.muli v8 c1_i32_254
  let v418 : BitVec 32 := Scalar.addi c0_i32_255 v417
  v418.toNat
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v111 : BitVec 32 := Scalar.addi v2 c1_i32_53
  let c16_i32_54 : BitVec 32 := 16#32
  let v112 : BitVec 32 := Scalar.addi v111 c16_i32_54
  let c8_i32_55 : BitVec 32 := 8#32
  let v113 : BitVec 32 := Scalar.remsi v112 c8_i32_55
  let c128_i32_56 : BitVec 32 := 128#32
  let v114 : BitVec 32 := Scalar.muli v113 c128_i32_56
  let v115 : Index := Scalar.indexCast v114
  let c0_57 : Index := 0#32
  ![v115.toNat, 0]
@[reducible] def k0_t4_loop : Scf.Loop 32 :=
  let c0_i32_81 : BitVec 32 := 0#32
  let c8_i32_82 : BitVec 32 := 8#32
  let v188 : BitVec 32 := Scalar.addi c0_i32_81 c8_i32_82
  let c1_i32_83 : BitVec 32 := 1#32
  ⟨c0_i32_81, v188, c1_i32_83⟩
def k0_off16 (k0_t4 : Fin k0_t4_loop.trips) : Fin 2 → Nat :=
  let c0_205 : Index := 0#32
  let c0_i32_81 : BitVec 32 := 0#32
  let c1_i32_83 : BitVec 32 := 1#32
  let arg17 : BitVec 32 := Scf.iv c0_i32_81 c1_i32_83 k0_t4
  let c128_i32_204 : BitVec 32 := 128#32
  let v305 : BitVec 32 := Scalar.muli arg17 c128_i32_204
  let v306 : Index := Scalar.indexCast v305
  ![0, v306.toNat]
def k0_off17 (k0_t4 : Fin k0_t4_loop.trips) : Fin 3 → Nat :=
  let c0_i32_81 : BitVec 32 := 0#32
  let c1_i32_83 : BitVec 32 := 1#32
  let arg17 : BitVec 32 := Scf.iv c0_i32_81 c1_i32_83 k0_t4
  let v308 : Index := Scalar.indexCast arg17
  let c0_206 : Index := 0#32
  let c0_207 : Index := 0#32
  ![v308.toNat, 0, 0]
def k0_off18 (k0_t4 : Fin k0_t4_loop.trips) : Fin 2 → Nat :=
  let c0_i32_81 : BitVec 32 := 0#32
  let c1_i32_83 : BitVec 32 := 1#32
  let arg17 : BitVec 32 := Scf.iv c0_i32_81 c1_i32_83 k0_t4
  let c128_i32_216 : BitVec 32 := 128#32
  let v329 : BitVec 32 := Scalar.muli arg17 c128_i32_216
  let v330 : Index := Scalar.indexCast v329
  let c0_217 : Index := 0#32
  ![v330.toNat, 0]
@[reducible] def k0_t5_loop : Scf.Loop 32 :=
  let c0_i32_102 : BitVec 32 := 0#32
  let c7_i32 : BitVec 32 := 7#32
  let v211 : BitVec 32 := Scalar.addi c0_i32_102 c7_i32
  let c1_i32_103 : BitVec 32 := 1#32
  ⟨c0_i32_102, v211, c1_i32_103⟩
def k0_off19 (k0_t5 : Fin k0_t5_loop.trips) : Fin 1 → Nat :=
  let c0_i32_102 : BitVec 32 := 0#32
  let c1_i32_103 : BitVec 32 := 1#32
  let arg17 : BitVec 32 := Scf.iv c0_i32_102 c1_i32_103 k0_t5
  ![arg17.toNat]
def k0_off20 (k0_t5 : Fin k0_t5_loop.trips) : Fin 3 → Nat :=
  let c0_i32_102 : BitVec 32 := 0#32
  let c1_i32_103 : BitVec 32 := 1#32
  let arg17 : BitVec 32 := Scf.iv c0_i32_102 c1_i32_103 k0_t5
  let c0_i32_205 : BitVec 32 := 0#32
  let c0_i32_206 : BitVec 32 := 0#32
  ![arg17.toNat, 0, 0]
def k0_dev5 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.addi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_114 : BitVec 32 := 1#32
  let v220 : BitVec 32 := Scalar.muli v8 c1_i32_114
  let v221 : BitVec 32 := Scalar.addi c0_i32_115 v220
  v221.toNat
def k0_dev6 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_124 : BitVec 32 := 1#32
  let v230 : BitVec 32 := Scalar.muli v5 c1_i32_124
  let v231 : BitVec 32 := Scalar.addi c0_i32_125 v230
  v231.toNat
@[reducible] def k0_t6_loop : Scf.Loop 32 :=
  let c1_i32_130 : BitVec 32 := 1#32
  let c2_i32_131 : BitVec 32 := 2#32
  let v240 : BitVec 32 := Scalar.addi c1_i32_130 c2_i32_131
  let c1_i32_132 : BitVec 32 := 1#32
  ⟨c1_i32_130, v240, c1_i32_132⟩
def k0_off21 (k0_t6 : Fin k0_t6_loop.trips) : Fin 1 → Nat :=
  let c1_i32_130 : BitVec 32 := 1#32
  let c1_i32_132 : BitVec 32 := 1#32
  let arg17 : BitVec 32 := Scf.iv c1_i32_130 c1_i32_132 k0_t6
  let c1_i32_204 : BitVec 32 := 1#32
  let v305 : BitVec 32 := Scalar.subi arg17 c1_i32_204
  ![v305.toNat]
def k0_off22 (k0_t6 : Fin k0_t6_loop.trips) : Fin 3 → Nat :=
  let c1_i32_130 : BitVec 32 := 1#32
  let c1_i32_132 : BitVec 32 := 1#32
  let arg17 : BitVec 32 := Scf.iv c1_i32_130 c1_i32_132 k0_t6
  let c1_i32_205 : BitVec 32 := 1#32
  let v306 : BitVec 32 := Scalar.subi arg17 c1_i32_205
  let c0_i32_209 : BitVec 32 := 0#32
  let c0_i32_210 : BitVec 32 := 0#32
  ![v306.toNat, 0, 0]
def k0_off23 (k0_t6 : Fin k0_t6_loop.trips) : Fin 1 → Nat :=
  let c1_i32_130 : BitVec 32 := 1#32
  let c1_i32_132 : BitVec 32 := 1#32
  let arg17 : BitVec 32 := Scf.iv c1_i32_130 c1_i32_132 k0_t6
  ![arg17.toNat]
def k0_off24 (k0_t6 : Fin k0_t6_loop.trips) : Fin 3 → Nat :=
  let c1_i32_130 : BitVec 32 := 1#32
  let c1_i32_132 : BitVec 32 := 1#32
  let arg17 : BitVec 32 := Scf.iv c1_i32_130 c1_i32_132 k0_t6
  let c0_i32_216 : BitVec 32 := 0#32
  let c0_i32_217 : BitVec 32 := 0#32
  ![arg17.toNat, 0, 0]
def k0_dev7 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.addi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_214 : BitVec 32 := 1#32
  let v316 : BitVec 32 := Scalar.muli v8 c1_i32_214
  let v317 : BitVec 32 := Scalar.addi c0_i32_215 v316
  v317.toNat
def k0_off25 (k0_t6 : Fin k0_t6_loop.trips) : Fin 1 → Nat :=
  let c1_i32_130 : BitVec 32 := 1#32
  let c1_i32_132 : BitVec 32 := 1#32
  let arg17 : BitVec 32 := Scf.iv c1_i32_130 c1_i32_132 k0_t6
  let c1_i32_220 : BitVec 32 := 1#32
  let v326 : BitVec 32 := Scalar.subi arg17 c1_i32_220
  ![v326.toNat]
def k0_off26 (k0_t6 : Fin k0_t6_loop.trips) : Fin 3 → Nat :=
  let c1_i32_130 : BitVec 32 := 1#32
  let c1_i32_132 : BitVec 32 := 1#32
  let arg17 : BitVec 32 := Scf.iv c1_i32_130 c1_i32_132 k0_t6
  let c1_i32_221 : BitVec 32 := 1#32
  let v327 : BitVec 32 := Scalar.subi arg17 c1_i32_221
  let c0_i32_225 : BitVec 32 := 0#32
  let c0_i32_226 : BitVec 32 := 0#32
  ![v327.toNat, 0, 0]
def k0_off27 (k0_t6 : Fin k0_t6_loop.trips) : Fin 1 → Nat :=
  let c1_i32_130 : BitVec 32 := 1#32
  let c1_i32_132 : BitVec 32 := 1#32
  let arg17 : BitVec 32 := Scf.iv c1_i32_130 c1_i32_132 k0_t6
  ![arg17.toNat]
def k0_off28 (k0_t6 : Fin k0_t6_loop.trips) : Fin 3 → Nat :=
  let c1_i32_130 : BitVec 32 := 1#32
  let c1_i32_132 : BitVec 32 := 1#32
  let arg17 : BitVec 32 := Scf.iv c1_i32_130 c1_i32_132 k0_t6
  let c0_i32_232 : BitVec 32 := 0#32
  let c0_i32_233 : BitVec 32 := 0#32
  ![arg17.toNat, 0, 0]
def k0_dev8 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_230 : BitVec 32 := 1#32
  let v337 : BitVec 32 := Scalar.muli v5 c1_i32_230
  let v338 : BitVec 32 := Scalar.addi c0_i32_231 v337
  v338.toNat
def k0_off29 (k0_t6 : Fin k0_t6_loop.trips) : Fin 3 → Nat :=
  let c1_i32_130 : BitVec 32 := 1#32
  let c1_i32_132 : BitVec 32 := 1#32
  let arg17 : BitVec 32 := Scf.iv c1_i32_130 c1_i32_132 k0_t6
  let c1_i32_236 : BitVec 32 := 1#32
  let v347 : BitVec 32 := Scalar.subi arg17 c1_i32_236
  let v348 : Index := Scalar.indexCast v347
  let c0_237 : Index := 0#32
  let c0_238 : Index := 0#32
  ![v348.toNat, 0, 0]
def k0_off30 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_130 : BitVec 32 := 1#32
  let c1_i32_132 : BitVec 32 := 1#32
  let arg17 : BitVec 32 := Scf.iv c1_i32_130 c1_i32_132 k0_t6
  let c1_i32_239 : BitVec 32 := 1#32
  let v352 : BitVec 32 := Scalar.subi arg17 c1_i32_239
  let v353 : BitVec 32 := Scalar.subi v2 v352
  let c16_i32_240 : BitVec 32 := 16#32
  let v354 : BitVec 32 := Scalar.addi v353 c16_i32_240
  let c8_i32_241 : BitVec 32 := 8#32
  let v355 : BitVec 32 := Scalar.remsi v354 c8_i32_241
  let c128_i32_242 : BitVec 32 := 128#32
  let v356 : BitVec 32 := Scalar.muli v355 c128_i32_242
  let v357 : Index := Scalar.indexCast v356
  let c0_243 : Index := 0#32
  ![v357.toNat, 0]
def k0_off31 (k0_t6 : Fin k0_t6_loop.trips) : Fin 3 → Nat :=
  let c1_i32_130 : BitVec 32 := 1#32
  let c1_i32_132 : BitVec 32 := 1#32
  let arg17 : BitVec 32 := Scf.iv c1_i32_130 c1_i32_132 k0_t6
  let c1_i32_244 : BitVec 32 := 1#32
  let v359 : BitVec 32 := Scalar.subi arg17 c1_i32_244
  let v360 : Index := Scalar.indexCast v359
  let c0_245 : Index := 0#32
  let c0_246 : Index := 0#32
  ![v360.toNat, 0, 0]
def k0_off32 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_247 : BitVec 32 := 1#32
  let v364 : BitVec 32 := Scalar.addi v2 c1_i32_247
  let c1_i32_130 : BitVec 32 := 1#32
  let c1_i32_132 : BitVec 32 := 1#32
  let arg17 : BitVec 32 := Scf.iv c1_i32_130 c1_i32_132 k0_t6
  let v365 : BitVec 32 := Scalar.addi v364 arg17
  let c16_i32_248 : BitVec 32 := 16#32
  let v366 : BitVec 32 := Scalar.addi v365 c16_i32_248
  let c8_i32_249 : BitVec 32 := 8#32
  let v367 : BitVec 32 := Scalar.remsi v366 c8_i32_249
  let c128_i32_250 : BitVec 32 := 128#32
  let v368 : BitVec 32 := Scalar.muli v367 c128_i32_250
  let v369 : Index := Scalar.indexCast v368
  let c0_251 : Index := 0#32
  ![v369.toNat, 0]
def k0_dev9 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.addi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_148 : BitVec 32 := 1#32
  let v249 : BitVec 32 := Scalar.muli v8 c1_i32_148
  let v250 : BitVec 32 := Scalar.addi c0_i32_149 v249
  v250.toNat
def k0_off33 (d0 : Dev nD) (c2_i32_156 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v262 : BitVec 32 := Scalar.subi v2 c2_i32_156
  let c16_i32_157 : BitVec 32 := 16#32
  let v263 : BitVec 32 := Scalar.addi v262 c16_i32_157
  let c8_i32_158 : BitVec 32 := 8#32
  let v264 : BitVec 32 := Scalar.remsi v263 c8_i32_158
  let c128_i32_159 : BitVec 32 := 128#32
  let v265 : BitVec 32 := Scalar.muli v264 c128_i32_159
  let v266 : Index := Scalar.indexCast v265
  let c0_160 : Index := 0#32
  ![v266.toNat, 0]
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_174 : BitVec 32 := 1#32
  let v279 : BitVec 32 := Scalar.addi v2 c1_i32_174
  let c3_i32_175 : BitVec 32 := 3#32
  let v280 : BitVec 32 := Scalar.addi v279 c3_i32_175
  let c16_i32_176 : BitVec 32 := 16#32
  let v281 : BitVec 32 := Scalar.addi v280 c16_i32_176
  let c8_i32_177 : BitVec 32 := 8#32
  let v282 : BitVec 32 := Scalar.remsi v281 c8_i32_177
  let c128_i32_178 : BitVec 32 := 128#32
  let v283 : BitVec 32 := Scalar.muli v282 c128_i32_178
  let v284 : Index := Scalar.indexCast v283
  let c0_179 : Index := 0#32
  ![v284.toNat, 0]
@[reducible] def k0_t7_loop : Scf.Loop 32 :=
  let c0_i32_197 : BitVec 32 := 0#32
  let c4_i32 : BitVec 32 := 4#32
  let v303 : BitVec 32 := Scalar.addi c0_i32_197 c4_i32
  let c1_i32_198 : BitVec 32 := 1#32
  ⟨c0_i32_197, v303, c1_i32_198⟩
def k0_off35 (k0_t7 : Fin k0_t7_loop.trips) : Fin 1 → Nat :=
  let c0_i32_197 : BitVec 32 := 0#32
  let c1_i32_198 : BitVec 32 := 1#32
  let arg17 : BitVec 32 := Scf.iv c0_i32_197 c1_i32_198 k0_t7
  ![arg17.toNat]
def k0_off36 (k0_t7 : Fin k0_t7_loop.trips) : Fin 3 → Nat :=
  let c0_i32_197 : BitVec 32 := 0#32
  let c1_i32_198 : BitVec 32 := 1#32
  let arg17 : BitVec 32 := Scf.iv c0_i32_197 c1_i32_198 k0_t7
  let c0_i32_208 : BitVec 32 := 0#32
  let c0_i32_209 : BitVec 32 := 0#32
  ![arg17.toNat, 0, 0]
@[reducible] def k0_t8_loop : Scf.Loop 32 :=
  let c0_i32_200 : BitVec 32 := 0#32
  let c3_i32_201 : BitVec 32 := 3#32
  let v304 : BitVec 32 := Scalar.addi c0_i32_200 c3_i32_201
  let c1_i32_202 : BitVec 32 := 1#32
  ⟨c0_i32_200, v304, c1_i32_202⟩
def k0_off37 (k0_t8 : Fin k0_t8_loop.trips) : Fin 1 → Nat :=
  let c0_i32_200 : BitVec 32 := 0#32
  let c1_i32_202 : BitVec 32 := 1#32
  let arg17 : BitVec 32 := Scf.iv c0_i32_200 c1_i32_202 k0_t8
  ![arg17.toNat]
def k0_off38 (k0_t8 : Fin k0_t8_loop.trips) : Fin 3 → Nat :=
  let c0_i32_200 : BitVec 32 := 0#32
  let c1_i32_202 : BitVec 32 := 1#32
  let arg17 : BitVec 32 := Scf.iv c0_i32_200 c1_i32_202 k0_t8
  let c0_i32_208 : BitVec 32 := 0#32
  let c0_i32_209 : BitVec 32 := 0#32
  ![arg17.toNat, 0, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S1x1024x8192 : Shape := ⟨3, ![1, 1024, 8192]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x64x1024x1024 : Shape := ⟨4, ![1, 64, 1024, 1024]⟩
abbrev S1x1x1024x1024 : Shape := ⟨4, ![1, 1, 1024, 1024]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x8192, .f32⟩
  | .hbm, ⟨2, _⟩ => ⟨S1x1024x64x128, .f32⟩
  | .hbm, ⟨3, _⟩ => ⟨S1x1024x64x128, .f32⟩
  | .hbm, ⟨4, _⟩ => ⟨S8192x1024, .f32⟩
  | .hbm, ⟨5, _⟩ => ⟨S1x1024x8192, .f32⟩
  | .hbm, ⟨6, _⟩ => ⟨S1x1024x64x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S_, .i32⟩
  | .hbm, ⟨51, _⟩ => ⟨S1x1024, .i32⟩
  | .hbm, ⟨52, _⟩ => ⟨S1x1024, .i1⟩
  | .hbm, ⟨53, _⟩ => ⟨S1024x1024, .i1⟩
  | .hbm, ⟨54, _⟩ => ⟨S1024x1024, .i1⟩
  | .hbm, ⟨55, _⟩ => ⟨S1024x1024, .i32⟩
  | .hbm, ⟨56, _⟩ => ⟨S1024x1024, .i32⟩
  | .hbm, ⟨57, _⟩ => ⟨S1024x1024, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1024x1024, .i32⟩
  | .hbm, ⟨65, _⟩ => ⟨S1024x1024, .i32⟩
  | .hbm, ⟨66, _⟩ => ⟨S_, .i32⟩
  | .hbm, ⟨67, _⟩ => ⟨S1024x1024, .i32⟩
  | .hbm, ⟨68, _⟩ => ⟨S1024x1024, .i1⟩
  | .hbm, ⟨69, _⟩ => ⟨S_, .i32⟩
  | .hbm, ⟨70, _⟩ => ⟨S1024x1024, .i32⟩
  | .hbm, ⟨71, _⟩ => ⟨S1024x1024, .i1⟩
  | .hbm, ⟨72, _⟩ => ⟨S_, .i32⟩
  | .hbm, ⟨73, _⟩ => ⟨S_, .i1⟩
  | .hbm, ⟨74, _⟩ => ⟨S1024x1024, .i1⟩
  | .hbm, ⟨75, _⟩ => ⟨S1024x1024, .i1⟩
  | .hbm, ⟨76, _⟩ => ⟨S1024x1024, .i1⟩
  | .hbm, ⟨77, _⟩ => ⟨S1024x1024, .i32⟩
  | .hbm, ⟨78, _⟩ => ⟨S1024x1024, .i32⟩
  | .hbm, ⟨79, _⟩ => ⟨S1024x1024, .i32⟩
  | .hbm, ⟨80, _⟩ => ⟨S_, .i32⟩
  | .hbm, ⟨81, _⟩ => ⟨S1024x1024, .i32⟩
  | .hbm, ⟨82, _⟩ => ⟨S1024x1024, .i1⟩
  | .hbm, ⟨83, _⟩ => ⟨S1024x1024, .i1⟩
  | .hbm, ⟨84, _⟩ => ⟨S1x64x1024x1024, .f32⟩
  | .hbm, ⟨85, _⟩ => ⟨S_, .f32⟩
  | .hbm, ⟨86, _⟩ => ⟨S1x64x1024x1024, .f32⟩
  | .hbm, ⟨87, _⟩ => ⟨S1x64x1024x1024, .f32⟩
  | .hbm, ⟨88, _⟩ => ⟨S1x1x1024x1024, .i1⟩
  | .hbm, ⟨89, _⟩ => ⟨S_, .f32⟩
  | .hbm, ⟨90, _⟩ => ⟨S_, .f32⟩
  | .hbm, ⟨91, _⟩ => ⟨S1x64x1024x1024, .i1⟩
  | .hbm, ⟨92, _⟩ => ⟨S1x64x1024x1024, .f32⟩
  | .hbm, ⟨93, _⟩ => ⟨S1x64x1024x1024, .f32⟩
  | .hbm, ⟨94, _⟩ => ⟨S_, .f32⟩
  | .hbm, ⟨95, _⟩ => ⟨S1x64x1024, .f32⟩
  | .hbm, ⟨96, _⟩ => ⟨S1x64x1024x1, .f32⟩
  | .hbm, ⟨97, _⟩ => ⟨S1x64x1024x1024, .f32⟩
  | .hbm, ⟨98, _⟩ => ⟨S1x64x1024x1024, .f32⟩
  | .hbm, ⟨99, _⟩ => ⟨S1x64x1024x1024, .f32⟩
  | .hbm, ⟨100, _⟩ => ⟨S_, .i1⟩
  | .hbm, ⟨101, _⟩ => ⟨S1024, .i1⟩
  | .hbm, ⟨102, _⟩ => ⟨S1x1x1024x1, .i1⟩
  | .hbm, ⟨103, _⟩ => ⟨S_, .f32⟩
  | .hbm, ⟨104, _⟩ => ⟨S1x64x1024, .f32⟩
  | .hbm, ⟨105, _⟩ => ⟨S1x64x1024x1, .f32⟩
  | .hbm, ⟨106, _⟩ => ⟨S_, .f32⟩
  | .hbm, ⟨107, _⟩ => ⟨S_, .f32⟩
  | .hbm, ⟨108, _⟩ => ⟨S1x64x1024x1, .i1⟩
  | .hbm, ⟨109, _⟩ => ⟨S1x64x1024x1, .f32⟩
  | .hbm, ⟨110, _⟩ => ⟨S1x64x1024x1, .f32⟩
  | .hbm, ⟨111, _⟩ => ⟨S1x64x1024x1024, .f32⟩
  | .hbm, ⟨112, _⟩ => ⟨S1x64x1024x1024, .f32⟩
  | .hbm, ⟨113, _⟩ => ⟨S1x1x1024x1, .i1⟩
  | .hbm, ⟨114, _⟩ => ⟨S_, .f32⟩
  | .hbm, ⟨115, _⟩ => ⟨S_, .f32⟩
  | .hbm, ⟨116, _⟩ => ⟨S1x64x1024x1024, .i1⟩
  | .hbm, ⟨117, _⟩ => ⟨S1x64x1024x1024, .f32⟩
  | .hbm, ⟨118, _⟩ => ⟨S1x64x1024x1024, .f32⟩
  | .hbm, ⟨119, _⟩ => ⟨S1x64x128x1024, .f32⟩
  | .hbm, ⟨120, _⟩ => ⟨S1x1024x64x128, .f32⟩
  | .hbm, ⟨121, _⟩ => ⟨S1x1024x8192, .f32⟩
  | .hbm, ⟨122, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Views.lean ====
/-
  The kernel's slot buffers: a buffer of `n` slots of 128 × 1024 bf16 elements, held slot by slot at named contents, and
  the loads and stores the kernel makes to one slot.
-/
module

public import proofs.«01_k».proof.Proof.Gen.KernelIdeal
public import proofs.«01_k».proof.Proof.Gen.KernelIdeal.Skeleton
public import Idealize.ShloMosaic.Lib.Rounds
public import Idealize.ShloMosaic.Lib.Ring
public import Idealize.ShloMosaic.Lib.VecWindow
public import Idealize.ShloMosaic.Lib.Tactic
public import Idealize.ShloMosaic.Lib.Pipeline.Value

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## A slot of a buffer of slots -/

/-- The shape of a buffer of `n` slots. -/
abbrev Sn (n : ℕ) : Shape := ⟨3, ![n, 128, 1024]⟩

theorem casts_down : S1x128x1024.ShapeCasts S128x1024 := by decide
theorem casts_up : S128x1024.ShapeCasts S1x128x1024 := by decide

/-- One slot, with and without its leading axis: the two spellings of the same vector. -/
abbrev down {α : Type} (w : S1x128x1024.Idx → α) : S128x1024.Idx → α := shapeCast S128x1024 w casts_down
abbrev up {α : Type} (w : S128x1024.Idx → α) : S1x128x1024.Idx → α := shapeCast S1x128x1024 w casts_up

theorem up_down {α : Type} (w : S1x128x1024.Idx → α) : up (down w) = w := shapeCast_shapeCast _ _ _
theorem down_up {α : Type} (w : S128x1024.Idx → α) : down (up w) = w := shapeCast_shapeCast _ _ _

/-- The slot a buffer's program names at the offsets `off`. -/
abbrev slotO {n : ℕ} (M : Memref sig .tc .vmem (Sn n) .bf16) (off : Fin 3 → ℕ) (inb : ∀ a, off a + S1x128x1024.size a ≤ (Sn n).size a) :
    Memref sig .tc .vmem S128x1024 .bf16 :=
  (M.slice (Rect.unit (s := Sn n) off S1x128x1024.size inb) (fun _ => rfl)).squeeze S128x1024 Gen.squeezes_S1x128x1024_S128x1024

theorem slot_inb {n : ℕ} (s : Fin n) : ∀ a, (![s.val, 0, 0] : Fin 3 → ℕ) a + S1x128x1024.size a ≤ (Sn n).size a := by
  intro a; fin_cases a
  · show s.val + 1 ≤ n; omega
  · show 0 + 128 ≤ 128; omega
  · show 0 + 1024 ≤ 1024; omega

/-- Slot `s` of the buffer `M`. -/
abbrev slotM {n : ℕ} (M : Memref sig .tc .vmem (Sn n) .bf16) (s : Fin n) : Memref sig .tc .vmem S128x1024 .bf16 :=
  slotO M ![s.val, 0, 0] (slot_inb s)

theorem slotO_eq {n : ℕ} (M : Memref sig .tc .vmem (Sn n) .bf16) (s : Fin n) {off : Fin 3 → ℕ} (h : off = ![s.val, 0, 0])
    (inb : ∀ a, off a + S1x128x1024.size a ≤ (Sn n).size a) : slotO M off inb = slotM M s := by
  subst h; rfl

/-- The elements of a slot, seen from the whole buffer. -/
theorem slot_set {n : ℕ} (M : Memref sig .tc .vmem (Sn n) .bf16) (s : Fin n) :
    (slotM M s).view.set = (M.access (Rect.unit (s := Sn n) ![s.val, 0, 0] S1x128x1024.size (slot_inb s))).set :=
  View.set_reshape _ _

section PointsTo

variable {F : FTy → Type} [FloatOps F] {UU : Type} [URA UU]

local notation "𝕄" => MT nD τ sig Unit (Elt F) ℕ UU ℕ

/-- Slot `s` of `M` on device `c`, held at the share `q` with contents `A`. -/
def slotPt {n : ℕ} (c : Dev nD) (M : Memref sig .tc .vmem (Sn n) .bf16) (s : Fin n) (q : PosShare TreeShare) (A : Vec F S128x1024 .bf16) :
    sProp 𝕄 :=
  (slotM M s).view.loc (c : Thread nD τ) ↦[(slotM M s).view.set]{q} (slotM M s).view.rep A

/-- Slot `s` of `M` on device `c`, held whole at contents not named. -/
def slotAny {n : ℕ} (c : Dev nD) (M : Memref sig .tc .vmem (Sn n) .bf16) (s : Fin n) : sProp 𝕄 :=
  iprop(∃ A : Vec F S128x1024 .bf16, slotPt c M s fullShare A)

instance slotPt_storable {n : ℕ} (c : Dev nD) (M : Memref sig .tc .vmem (Sn n) .bf16) (s : Fin n) (q : PosShare TreeShare)
    (A : Vec F S128x1024 .bf16) : BI.Storable (upEmb : UEmb _ 𝕄) (slotPt c M s q A) := by
  unfold slotPt; infer_instance

instance slotAny_storable {n : ℕ} (c : Dev nD) (M : Memref sig .tc .vmem (Sn n) .bf16) (s : Fin n) :
    BI.Storable (upEmb : UEmb _ 𝕄) (slotAny (F := F) c M s) := by
  unfold slotAny; infer_instance

/-- Contents reading `A` through the slot's view are the slot held at `A`. -/
theorem slotPt_of_read {n : ℕ} (c : Dev nD) (M : Memref sig .tc .vmem (Sn n) .bf16) (s : Fin n) (q : PosShare TreeShare)
    {off : Fin 3 → ℕ} (h : off = ![s.val, 0, 0]) (inb : ∀ a, off a + S1x128x1024.size a ≤ (Sn n).size a)
    (g : Buf (Elt F) ((slotO M off inb).view.loc (c : Thread nD τ))) (A : Vec F S128x1024 .bf16)
    (hg : (slotO M off inb).view.read (Elt F) g = A) :
    ((slotO M off inb).view.loc (c : Thread nD τ) ↦[(slotO M off inb).view.set]{q} g : sProp 𝕄) ⊢ slotPt c M s q A := by
  subst h
  exact pointsTo_rep_of_read (c : Thread nD τ) (slotM M s) g q A hg

theorem slot_set' {n : ℕ} (M : Memref sig .tc .vmem (Sn n) .bf16) (s : Fin n) :
    (slotM M s).view.set = (Rect.unit (s := Sn n) ![s.val, 0, 0] S1x128x1024.size (slot_inb s)).set.map M.view.emb :=
  (slot_set M s).trans (View.set_slice _ _)

/-- The elements of a slot, among those of the whole buffer. -/
abbrev slotSet {n : ℕ} (M : Memref sig .tc .vmem (Sn n) .bf16) (s : Fin n) : Finset M.view.ty.Idx := (slotM M s).view.set

/-- Two slots share no element. -/
theorem slots_disjoint {n : ℕ} (M : Memref sig .tc .vmem (Sn n) .bf16) (s s' : Fin n) (hs : s ≠ s') :
    Disjoint (slotSet M s) (slotSet M s') := by
  rw [show slotSet M s = _ from slot_set' M s, show slotSet M s' = _ from slot_set' M s', Finset.disjoint_map]
  refine Rect.unit_disjoint 0 ?_
  have : s.val ≠ s'.val := fun h => hs (Fin.ext h)
  show s.val + 1 ≤ s'.val ∨ s'.val + 1 ≤ s.val
  omega

/-- The slots are the whole buffer. -/
theorem slots_cover {n : ℕ} (M : Memref sig .tc .vmem (Sn n) .bf16) (hM : M.view.set = Finset.univ) :
    ∀ i : M.view.ty.Idx, ∃ s : Fin n, i ∈ slotSet M s := by
  intro i
  have hi : i ∈ M.view.set := by rw [hM]; exact Finset.mem_univ _
  obtain ⟨j, _, rfl⟩ := Finset.mem_map.mp hi
  refine ⟨⟨(j 0).val, (j 0).isLt⟩, ?_⟩
  rw [show slotSet M _ = _ from slot_set' M _]
  refine Finset.mem_map_of_mem _ (Rect.mem_set_unit.mpr fun a => ?_)
  match a with
  | ⟨0, _⟩ => exact ⟨le_refl _, Nat.lt_succ_self _⟩
  | ⟨1, _⟩ => exact ⟨Nat.zero_le _, by have h : (j 1).val < 128 := (j 1).isLt; show (j 1).val < 0 + 128; omega⟩
  | ⟨2, _⟩ => exact ⟨Nat.zero_le _, by have h : (j 2).val < 1024 := (j 2).isLt; show (j 2).val < 0 + 1024; omega⟩

/-- A whole buffer falls apart into its slots. -/
theorem slots_split {n : ℕ} (c : Dev nD) (M : Memref sig .tc .vmem (Sn n) .bf16) (hM : M.view.set = Finset.univ)
    (f : Buf (Elt F) (M.view.loc (c : Thread nD τ))) :
    (M.view.loc (c : Thread nD τ) ↦{fullShare} f : sProp 𝕄) ⊢ bigSep Finset.univ fun s => slotAny (F := F) c M s := by
  rw [Ring.pointsTo_blocks (fun s : Fin n => slotSet M s) (slots_disjoint M)
    (Finset.eq_univ_of_forall fun i => Finset.mem_biUnion.mpr ((slots_cover M hM i).imp fun s hs => ⟨Finset.mem_univ _, hs⟩))]
  exact BI.bigSep_mono fun s _ => (slotPt_of_read c M s fullShare rfl (slot_inb s) f _ rfl).trans (exists_intro _)

/-- A slot held whole is its two half shares. -/
theorem slotPt_halves {n : ℕ} (c : Dev nD) (M : Memref sig .tc .vmem (Sn n) .bf16) (s : Fin n) (A : Vec F S128x1024 .bf16) :
    (slotPt c M s fullShare A : sProp 𝕄) ⊣⊢ iprop(slotPt c M s fullShare.left A ∗ slotPt c M s fullShare.right A) :=
  pointsTo_share (PosShare.mem_left_op_right fullShare)

abbrev 𝒱₀ : Variants := Variants.none

/-- A load of a slot reads its contents. -/
theorem wp_load_slot {n : ℕ} (c : Dev nD) (M : Memref sig .tc .vmem (Sn n) .bf16) (s : Fin n) (q : PosShare TreeShare)
    (A : Vec F S128x1024 .bf16) {off : Fin 3 → ℕ} (h : off = ![s.val, 0, 0])
    {inb : ∀ a, off a + S1x128x1024.size a ≤ (Sn n).size a} {hl} {α : Type}
    {k : Vec F S1x128x1024 .bf16 → Prog (TpuEff nD τ sig (Elt F) Λ₀ .tc) α} {Q : α → sProp 𝕄} :
    (slotPt c M s q A : sProp 𝕄)
      ⊢ iprop((slotPt c M s q A -∗ wp frame (wpE (defs₀ (F := F)) 𝒱₀ (c : Thread nD τ) none) Set.univ (k (up A)) Q)
        -∗ wp frame (wpE (defs₀ (F := F)) 𝒱₀ (c : Thread nD τ) none) Set.univ
            (.op (.load M (Rect.unit (s := Sn n) off S1x128x1024.size inb).toLoadRect hl) k) Q) := by
  subst h
  have hv : M.view.readAt (Elt F) (Rect.unit (s := Sn n) ![s.val, 0, 0] S1x128x1024.size inb).toLoadRect ((slotM M s).view.rep A) = up A := by
    have h1 := Memref.read_squeeze_slice (Val := Elt F) M (Rect.unit (s := Sn n) ![s.val, 0, 0] S1x128x1024.size inb) (fun _ => rfl)
      Gen.squeezes_S1x128x1024_S128x1024 casts_down ((slotM M s).view.rep A)
    rw [View.read_rep] at h1
    exact (up_down _).symm.trans (congrArg up h1.symm)
  have hw := wp_load (defs := defs₀ (F := F)) (Γ := .empty) 𝒱₀ (c : Thread nD τ) none Set.univ (m := M) (hl := hl) (k := k) (Q := Q)
    (r := (Rect.unit (s := Sn n) ![s.val, 0, 0] S1x128x1024.size inb).toLoadRect)
    (S := (slotM M s).view.set) (q := q) (f := (slotM M s).view.rep A)
    (by rw [slot_set, View.set_slice]; exact Finset.Subset.refl _)
  rw [hv] at hw
  exact hw

/-- A store over a slot leaves it at the vector stored. -/
theorem wp_store_slot {n : ℕ} (c : Dev nD) (M : Memref sig .tc .vmem (Sn n) .bf16) (s : Fin n) (A : Vec F S128x1024 .bf16)
    {off : Fin 3 → ℕ} (h : off = ![s.val, 0, 0]) {inb : ∀ a, off a + S1x128x1024.size a ≤ (Sn n).size a}
    {w : Vec F S1x128x1024 .bf16} {hx hm} {α : Type} {k : PUnit → Prog (TpuEff nD τ sig (Elt F) Λ₀ .tc) α} {Q : α → sProp 𝕄} :
    (slotPt c M s fullShare A : sProp 𝕄)
      ⊢ iprop((slotPt c M s fullShare (down w) -∗ wp frame (wpE (defs₀ (F := F)) 𝒱₀ (c : Thread nD τ) none) Set.univ (k ⟨⟩) Q)
        -∗ wp frame (wpE (defs₀ (F := F)) 𝒱₀ (c : Thread nD τ) none) Set.univ
            (.op (.store M (Rect.unit (s := Sn n) off S1x128x1024.size inb) w Finset.univ hx hm) k) Q) := by
  subst h
  have hw := wp_store (defs := defs₀ (F := F)) (Γ := .empty) 𝒱₀ (c : Thread nD τ) none Set.univ (m := M) (hx := hx) (hm := hm) (k := k) (Q := Q)
    (r := Rect.unit (s := Sn n) ![s.val, 0, 0] S1x128x1024.size inb) (w := w)
    (S := (slotM M s).view.set) (f := (slotM M s).view.rep A)
    (by rw [slot_set, View.setOn_univ])
  refine Entails.trans hw (wand_mono_left (wand_mono_left ?_))
  refine slotPt_of_read c M s fullShare rfl (slot_inb s) _ _ ?_
  have h1 := Memref.read_squeeze_slice (Val := Elt F) M (Rect.unit (s := Sn n) ![s.val, 0, 0] S1x128x1024.size inb) (fun _ => rfl)
    Gen.squeezes_S1x128x1024_S128x1024 casts_down ((M.access (Rect.unit (s := Sn n) ![s.val, 0, 0] S1x128x1024.size inb)).write (Elt F) ((slotM M s).view.rep A) w Finset.univ)
  refine h1.trans ?_
  rw [View.readAt_rect]
  exact congrArg down (View.read_write_univ _ _)

end PointsTo

end Cert.KernelIdeal.Pf
-- ==== Proof.Values.lean ====
/-
  What each device computes, written over any float type: its partial product for one row chunk, the running sums of the
  reduce-scatter, the chunk it owns at its end, and the result; the mesh arithmetic; and the memory steps on buffers held
  at named contents (whole-buffer reads, row chunks of the result).
-/
module

public import proofs.«01_k».proof.Proof.Views

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring -/

/-- The device `k` places to the right of `c` on the ring of eight. -/
abbrev sh (c : Dev nD) (k : ℕ) : Dev nD := ⟨(c.val + k) % 8, Nat.mod_lt _ (by decide)⟩

/-- The right neighbour, to which the reduce-scatter and half of the all-gather send; the left one. -/
abbrev rt (c : Dev nD) : Dev nD := sh c 1
abbrev lf (c : Dev nD) : Dev nD := sh c 7

theorem lf_rt (c : Dev nD) : lf (rt c) = c := by revert c; decide
theorem rt_lf (c : Dev nD) : rt (lf c) = c := by revert c; decide

/-! ## One device's values -/

/-- What a device's five input windows hold: the rows of `x`, its columns of the query weights, its keys, its values, and
    its rows of the output weights. -/
structure Ins (F : FTy → Type) where
  x : Vec F S1024x1024 .bf16
  wq : Vec F S1024x1024 .bf16
  kt : Vec F S8x1024x128 .bf16
  vv : Vec F S8x1024x128 .f32
  wo : Vec F S1024x1024 .bf16

theorem rows_inb (r : Fin 8) : ∀ a, (![128 * r.val, 0] : Fin 2 → ℕ) a + S128x1024.size a ≤ S1024x1024.size a := by revert r; decide
theorem cols_inb (h : Fin 8) : ∀ a, (![0, 128 * h.val] : Fin 2 → ℕ) a + S128x128.size a ≤ S128x1024.size a := by revert h; decide
theorem plane_inb (h : Fin 8) : ∀ a, (![h.val, 0, 0] : Fin 3 → ℕ) a + S1x1024x128.size a ≤ S8x1024x128.size a := by revert h; decide

/-- Rows `128 r` to `128 r + 127`; columns `128 h` to `128 h + 127`; plane `h`. -/
abbrev rowsR (r : Fin 8) : Rect S1024x1024 := Rect.unit (s := S1024x1024) ![128 * r.val, 0] S128x1024.size (rows_inb r)
abbrev colsR (h : Fin 8) : Rect S128x1024 := Rect.unit (s := S128x1024) ![0, 128 * h.val] S128x128.size (cols_inb h)
abbrev planeR (h : Fin 8) : Rect S8x1024x128 := Rect.unit (s := S8x1024x128) ![h.val, 0, 0] S1x1024x128.size (plane_inb h)

def rowsOf {e : EltTy} (X : Vec F S1024x1024 e) (r : Fin 8) : Vec F S128x1024 e := fun y => X ((rowsR r).toLoadRect.idx y)
def colsOf {e : EltTy} (X : Vec F S128x1024 e) (h : Fin 8) : Vec F S128x128 e := fun y => X ((colsR h).toLoadRect.idx y)
def planeOf {e : EltTy} (X : Vec F S8x1024x128 e) (h : Fin 8) : Vec F S1x1024x128 e := fun y => X ((planeR h).toLoadRect.idx y)

/-- The queries of row chunk `r`. -/
def qOf (i : Ins F) (r : Fin 8) : Vec F S128x1024 .bf16 := k0_pay1 (rowsOf i.x r) i.wq

/-- Column numbers; and the block number (64 rows to a block) of each row of the chunk whose first row is `w`. -/
def kbV : IVec S128x1024 32 := iota .tc S128x1024 32 [1] Gen.iota_S128x1024_d1_w32
def qbV (w : BitVec 32) : IVec S128x1024 32 :=
  k0_pay12 (addi (iota .tc S128x1024 32 [0] Gen.iota_S128x1024_d0_w32) (broadcast S128x1024 w)) 64#32
    (divsi (addi (iota .tc S128x1024 32 [0] Gen.iota_S128x1024_d0_w32) (broadcast S128x1024 w)) (broadcast S128x1024 64#32))
/-- The first row of chunk `r`, as the kernel's word. -/
def rowW (r : Fin 8) : BitVec 32 := BitVec.ofNat 32 (128 * r.val)

/-- One head's contribution added to what the heads before it gave. -/
def headStep (i : Ins F) (r : Fin 8) (h : Fin 8) (acc : FVec F S128x1024 .f32) : FVec F S128x1024 .f32 :=
  k0_pay4 kbV (qbV (rowW r)) acc (colsOf (qOf i r) h) (planeOf i.kt h) (planeOf i.vv h) (rowsOf i.wo h)

/-- The sum of the first `n` heads' contributions to row chunk `r`. -/
def headAcc (i : Ins F) (r : Fin 8) : ℕ → FVec F S128x1024 .f32
  | 0 => k0_pay3
  | n + 1 => if h : n < 8 then headStep i r ⟨n, h⟩ (headAcc i r n) else headAcc i r n

/-- A device's partial product for row chunk `r`: all eight of its heads. -/
def part (i : Ins F) (r : Fin 8) : FVec F S128x1024 .f32 := headAcc i r 8

/-! ## The values that travel -/

/-- What device `d` sends in round `s` of the reduce-scatter: the sum, over itself and the `s` devices to its left, of the
    partial products for chunk `d - s`, rounded to bf16 at each hop. -/
def RS (I : Dev nD → Ins F) : ℕ → Dev nD → Vec F S128x1024 .bf16
  | 0, d => down (k0_pay17 (part (I d) d))
  | s + 1, d => down (k0_pay6 (k0_pay5 (part (I d) (sh d (7 * (s + 1)))) (up (RS I s (lf d)))))

/-- The reduced chunk device `d` owns when the reduce-scatter ends (row chunk `d + 1`), and that chunk in bf16. -/
def ownC (I : Dev nD → Ins F) (d : Dev nD) : FVec F S128x1024 .f32 := k0_pay5 (part (I d) (rt d)) (up (RS I 6 (lf d)))
def ownB (I : Dev nD → Ins F) (d : Dev nD) : Vec F S128x1024 .bf16 := down (k0_pay6 (ownC I d))

/-- Row chunk `j` of the result on device `d`: its own chunk in f32, every other as its owner sent it. -/
def finC (I : Dev nD → Ins F) (d : Dev nD) (j : Fin 8) : FVec F S128x1024 .f32 :=
  if j = rt d then ownC I d else k0_pay7 (up (ownB I (lf j)))

/-! ## The result, chunk by chunk -/

/-- The result whose row chunk `r` is `g r`. -/
def asm (g : Fin 8 → Vec F S128x1024 .f32) : Vec F S1024x1024 .f32 := fun i =>
  g ⟨(i 0).val / 128, by have h : (i 0).val < 1024 := (i 0).isLt; omega⟩
    (Fin.cons ⟨(i 0).val % 128, Nat.mod_lt _ (by decide)⟩ (Fin.cons ⟨(i 1).val, (i 1).isLt⟩ (fun a => a.elim0)))

theorem asm_rows (X : Vec F S1024x1024 .f32) : asm (rowsOf X) = X := by
  funext i
  unfold asm rowsOf
  refine congrArg X (funext fun a => Fin.ext ?_)
  match a with
  | ⟨0, _⟩ => show 128 * ((i 0).val / 128) + 1 * ((i 0).val % 128) = (i 0).val; omega
  | ⟨1, _⟩ => show 0 + 1 * (i 1).val = (i 1).val; omega

theorem rows_asm (g : Fin 8 → Vec F S128x1024 .f32) (r : Fin 8) : rowsOf (asm g) r = g r := by
  funext y
  unfold rowsOf asm
  have h0 : (y 0).val < 128 := (y 0).isLt
  have e0 : ((rowsR r).toLoadRect.idx y 0).val = 128 * r.val + 1 * (y 0).val := rfl
  have e1 : ((rowsR r).toLoadRect.idx y 1).val = 0 + 1 * (y 1).val := rfl
  have hr : (⟨((rowsR r).toLoadRect.idx y 0).val / 128, by rw [e0]; omega⟩ : Fin 8) = r := Fin.ext (by show _ / 128 = _; rw [e0]; omega)
  refine (congrArg₂ (fun (q : Fin 8) z => g q z) hr (funext fun a => Fin.ext ?_))
  match a with
  | ⟨0, _⟩ => show ((rowsR r).toLoadRect.idx y 0).val % 128 = (y 0).val; rw [e0]; omega
  | ⟨1, _⟩ => show ((rowsR r).toLoadRect.idx y 1).val = (y 1).val; rw [e1]; omega

theorem asm_update_apply (g : Fin 8 → Vec F S128x1024 .f32) (r : Fin 8) (w : Vec F S128x1024 .f32) (i : S1024x1024.Idx) :
    asm (Function.update g r w) i = if (i 0).val / 128 = r.val then
      w (Fin.cons ⟨(i 0).val % 128, Nat.mod_lt _ (by decide)⟩ (Fin.cons ⟨(i 1).val, (i 1).isLt⟩ (fun a => a.elim0))) else asm g i := by
  unfold asm
  by_cases h : (i 0).val / 128 = r.val
  · rw [if_pos h, Function.update_apply, if_pos (Fin.ext h)]
  · rw [if_neg h, Function.update_apply, if_neg (fun e => h (congrArg Fin.val e))]

section Steps

variable {UU : Type} [URA UU]

local notation "𝕄" => MT nD τ sig Unit (Elt F) ℕ UU ℕ

/-- The buffer `M` on device `c`, held whole at contents `X`. -/
def bufPt {s : Shape} {e : EltTy} (c : Dev nD) (M : Memref sig .tc .vmem s e) (X : Vec F s e) : sProp 𝕄 :=
  M.view.loc (c : Thread nD τ) ↦[M.view.set]{fullShare} M.view.rep X

theorem bufPt_of_read {s : Shape} {e : EltTy} (c : Dev nD) (M : Memref sig .tc .vmem s e) (g : Buf (Elt F) (M.view.loc (c : Thread nD τ)))
    (X : Vec F s e) (h : M.view.read (Elt F) g = X) :
    (M.view.loc (c : Thread nD τ) ↦[M.view.set]{fullShare} g : sProp 𝕄) ⊢ bufPt c M X :=
  pointsTo_rep_of_read (c : Thread nD τ) M g fullShare X h

/-- A load of part of a buffer reads its contents there. -/
theorem wp_load_buf {s : Shape} {e : EltTy} (c : Dev nD) (M : Memref sig .tc .vmem s e) (X : Vec F s e) {r : LoadRect s} {hl} {α : Type}
    {k : (r.shape.Idx → Elt F e) → Prog (TpuEff nD τ sig (Elt F) Λ₀ .tc) α} {Q : α → sProp 𝕄} (Y : r.shape.Idx → Elt F e)
    (hY : (fun y => X (r.idx y)) = Y) :
    (bufPt c M X : sProp 𝕄)
      ⊢ iprop((bufPt c M X -∗ wp frame (wpE (defs₀ (F := F)) 𝒱₀ (c : Thread nD τ) none) Set.univ (k Y) Q)
        -∗ wp frame (wpE (defs₀ (F := F)) 𝒱₀ (c : Thread nD τ) none) Set.univ (.op (.load M r hl) k) Q) := by
  subst hY
  have hw := wp_load (defs := defs₀ (F := F)) (Γ := .empty) 𝒱₀ (c : Thread nD τ) none Set.univ (m := M) (hl := hl) (k := k) (Q := Q)
    (r := r) (S := M.view.set) (q := fullShare) (f := M.view.rep X) (Finset.map_subset_map.mpr (Finset.subset_univ _))
  rw [View.readAt_rep] at hw
  exact hw

theorem rows_eq {e : EltTy} (X : Vec F S1024x1024 e) (r : Fin 8) {off : Fin 2 → ℕ} (h : off = ![128 * r.val, 0])
    {inb : ∀ a, off a + S128x1024.size a ≤ S1024x1024.size a} :
    (fun y => X ((Rect.unit (s := S1024x1024) off S128x1024.size inb).toLoadRect.idx y)) = rowsOf X r := by subst h; rfl

theorem cols_eq {e : EltTy} (X : Vec F S128x1024 e) (r : Fin 8) {off : Fin 2 → ℕ} (h : off = ![0, 128 * r.val])
    {inb : ∀ a, off a + S128x128.size a ≤ S128x1024.size a} :
    (fun y => X ((Rect.unit (s := S128x1024) off S128x128.size inb).toLoadRect.idx y)) = colsOf X r := by subst h; rfl

theorem plane_eq {e : EltTy} (X : Vec F S8x1024x128 e) (r : Fin 8) {off : Fin 3 → ℕ} (h : off = ![r.val, 0, 0])
    {inb : ∀ a, off a + S1x1024x128.size a ≤ S8x1024x128.size a} :
    (fun y => X ((Rect.unit (s := S8x1024x128) off S1x1024x128.size inb).toLoadRect.idx y)) = planeOf X r := by subst h; rfl

theorem full_eq {e : EltTy} {n m : ℕ} (X : Vec F ⟨2, ![n, m]⟩ e)
    {inb : ∀ a, (![0, 0] : Fin 2 → ℕ) a + (⟨2, ![n, m]⟩ : Shape).size a ≤ (⟨2, ![n, m]⟩ : Shape).size a} :
    (fun y => X ((Rect.unit (s := ⟨2, ![n, m]⟩) ![0, 0] (⟨2, ![n, m]⟩ : Shape).size inb).toLoadRect.idx y)) = X := by
  funext y
  refine congrArg X (funext fun a => Fin.ext ?_)
  match a with
  | ⟨0, _⟩ => show 0 + 1 * (y 0).val = (y 0).val; omega
  | ⟨1, _⟩ => show 0 + 1 * (y 1).val = (y 1).val; omega

/-- A store over a whole buffer leaves the vector stored. -/
theorem wp_store_full {e : EltTy} {n m : ℕ} (c : Dev nD) (M : Memref sig .tc .vmem ⟨2, ![n, m]⟩ e) (X : Vec F ⟨2, ![n, m]⟩ e)
    {inb : ∀ a, (![0, 0] : Fin 2 → ℕ) a + (⟨2, ![n, m]⟩ : Shape).size a ≤ (⟨2, ![n, m]⟩ : Shape).size a}
    {w : Vec F ⟨2, ![n, m]⟩ e} {hx hm} {α : Type} {k : PUnit → Prog (TpuEff nD τ sig (Elt F) Λ₀ .tc) α} {Q : α → sProp 𝕄} :
    (bufPt c M X : sProp 𝕄)
      ⊢ iprop((bufPt c M w -∗ wp frame (wpE (defs₀ (F := F)) 𝒱₀ (c : Thread nD τ) none) Set.univ (k ⟨⟩) Q)
        -∗ wp frame (wpE (defs₀ (F := F)) 𝒱₀ (c : Thread nD τ) none) Set.univ
            (.op (.store M (Rect.unit (s := ⟨2, ![n, m]⟩) ![0, 0] (⟨2, ![n, m]⟩ : Shape).size inb) w Finset.univ hx hm) k) Q) := by
  have hw := wp_store (defs := defs₀ (F := F)) (Γ := .empty) 𝒱₀ (c : Thread nD τ) none Set.univ (m := M) (hx := hx) (hm := hm) (k := k) (Q := Q)
    (r := Rect.unit (s := ⟨2, ![n, m]⟩) ![0, 0] (⟨2, ![n, m]⟩ : Shape).size inb) (w := w)
    (S := M.view.set) (f := M.view.rep X) (by rw [View.setOn_univ]; exact View.set_slice_subset _ _)
  refine Entails.trans hw (wand_mono_left (wand_mono_left ?_))
  refine bufPt_of_read c M _ _ ?_
  have h1 : M.view.readAt (Elt F) (Rect.unit (s := ⟨2, ![n, m]⟩) ![0, 0] (⟨2, ![n, m]⟩ : Shape).size inb).toLoadRect
      ((M.access (Rect.unit (s := ⟨2, ![n, m]⟩) ![0, 0] (⟨2, ![n, m]⟩ : Shape).size inb)).write (Elt F) (M.view.rep X) w Finset.univ) = w := by
    rw [View.readAt_rect]; exact View.read_write_univ _ _
  exact (full_eq (F := F) _).symm.trans h1

/-- A store over row chunk `r` of the result changes that chunk and no other. -/
theorem wp_store_rows (c : Dev nD) (M : Memref sig .tc .vmem S1024x1024 .f32) (g : Fin 8 → Vec F S128x1024 .f32) (r : Fin 8)
    {off : Fin 2 → ℕ} (h : off = ![128 * r.val, 0]) {inb : ∀ a, off a + S128x1024.size a ≤ S1024x1024.size a}
    {w : Vec F S128x1024 .f32} {hx hm} {α : Type} {k : PUnit → Prog (TpuEff nD τ sig (Elt F) Λ₀ .tc) α} {Q : α → sProp 𝕄} :
    (bufPt c M (asm g) : sProp 𝕄)
      ⊢ iprop((bufPt c M (asm (Function.update g r w)) -∗ wp frame (wpE (defs₀ (F := F)) 𝒱₀ (c : Thread nD τ) none) Set.univ (k ⟨⟩) Q)
        -∗ wp frame (wpE (defs₀ (F := F)) 𝒱₀ (c : Thread nD τ) none) Set.univ
            (.op (.store M (Rect.unit (s := S1024x1024) off S128x1024.size inb) w Finset.univ hx hm) k) Q) := by
  subst h
  have hw := wp_store (defs := defs₀ (F := F)) (Γ := .empty) 𝒱₀ (c : Thread nD τ) none Set.univ (m := M) (hx := hx) (hm := hm) (k := k) (Q := Q)
    (r := rowsR r) (w := w)
    (S := M.view.set) (f := M.view.rep (asm g)) (by rw [View.setOn_univ]; exact View.set_slice_subset _ _)
  refine Entails.trans hw (wand_mono_left (wand_mono_left ?_))
  refine bufPt_of_read c M _ _ ?_
  funext i
  rw [asm_update_apply, View.read_apply]
  have hi0 : (i 0).val < 1024 := (i 0).isLt
  by_cases hi : (i 0).val / 128 = r.val
  · rw [if_pos hi]
    have hy : i = (rowsR r).emb (Fin.cons ⟨(i 0).val % 128, Nat.mod_lt _ (by decide)⟩ (Fin.cons ⟨(i 1).val, (i 1).isLt⟩ (fun a => a.elim0))) := by
      funext a; refine Fin.ext ?_
      match a with
      | ⟨0, _⟩ => show (i 0).val = 128 * r.val + 1 * ((i 0).val % 128); omega
      | ⟨1, _⟩ => show (i 1).val = 0 + 1 * (i 1).val; omega
    conv_lhs => rw [hy]
    exact View.read_write_of_mem (v := M.access (rowsR r)) _ _ (Finset.mem_univ _)
  · rw [if_neg hi, View.write_of_not_mem, ← View.read_apply, View.read_rep]
    rw [View.setOn_univ, View.set_slice]
    intro hm'
    have hm2 : i ∈ (rowsR r).set := (Finset.mem_map' _).mp hm'
    have h0 := (Rect.mem_set_unit.mp hm2) 0
    have h1 : 128 * r.val ≤ (i 0).val := h0.1
    have h2 : (i 0).val < 128 * r.val + 128 := h0.2
    omega

end Steps

end Cert.KernelIdeal.Pf
-- ==== Proof.Words.lean ====
/-
  The kernel states one head's step three times (for its own chunk, inside the reduce-scatter's loop, and for the chunk it
  ends up owning), each with the chunk's first row computed by word arithmetic. All three are the step of Values.lean.
-/
module

public import proofs.«01_k».proof.Proof.Values

@[expose] public section

set_option maxRecDepth 16384

noncomputable section

namespace Cert.KernelIdeal.Pf

open Cert.KernelIdeal Cert.KernelIdeal.Gen
open Idealize.ShloMosaic

variable {F : FTy → Type} [FloatOps F]

/-- A device's number, as the kernel computes it. -/
abbrev devW (d : Dev nD) : BitVec 32 := Scalar.remsi (Scalar.divsi (Dev.word d) 1#32) 8#32

theorem word_own (d : Dev nD) : Scalar.muli (devW d) 128#32 = rowW d := by revert d; decide +kernel
theorem word_back (d : Dev nD) (k : Fin 6) :
    Scalar.muli (Scalar.remsi (Scalar.addi (Scalar.subi (devW d) (BitVec.ofNat 32 (k.val + 1))) 16#32) 8#32) 128#32
      = rowW (sh d (7 * (k.val + 1))) := by revert d k; decide +kernel
theorem word_next (d : Dev nD) :
    Scalar.muli (Scalar.remsi (Scalar.addi (Scalar.addi (devW d) 1#32) 16#32) 8#32) 128#32 = rowW (rt d) := by revert d; decide +kernel

theorem pay9_eq (a : Vec F S128x1024 .bf16) (b : Vec F S1024x1024 .bf16) : k0_pay9 a b = k0_pay1 a b := rfl
theorem pay18_eq (a : Vec F S128x1024 .bf16) (b : Vec F S1024x1024 .bf16) : k0_pay18 a b = k0_pay1 a b := rfl

theorem qb_own (d : Dev nD) : k0_pay12 (k0_pay10 d) 64#32 (k0_pay11 d) = qbV (rowW d) := by
  rw [← word_own]; rfl

theorem trips_t2 : k0_t2_loop.trips = 6 := by decide
theorem iv_t2 (k : Fin k0_t2_loop.trips) : Scf.iv 1#32 1#32 k = BitVec.ofNat 32 (k.val + 1) := by revert k; decide +kernel

theorem qb_back (d : Dev nD) (k : Fin k0_t2_loop.trips) : k0_pay2 (devW d) 1#32 1#32 k = qbV (rowW (sh d (7 * (k.val + 1)))) := by
  have h := word_back d ⟨k.val, Nat.lt_of_lt_of_le k.isLt (le_of_eq trips_t2)⟩
  rw [← h, ← iv_t2]; rfl

/-- The first of the three forms of a head's step. -/
theorem pay16_eq (qb kb : IVec S128x1024 32) (v27 v30 : IVec S128x1024 32) (h : k0_pay12 v27 64#32 v30 = qb)
    (acc : FVec F S128x1024 .f32) (q : Vec F S128x128 .bf16) (k : Vec F S1x1024x128 .bf16) (v : Vec F S1x1024x128 .f32) (w : Vec F S128x1024 .bf16) :
    k0_pay16 (k0_pay12 v27 64#32 v30) (k0_pay13 kb) (k0_pay14 v27 kb 64#32 v30) acc q k v w = k0_pay4 kb qb acc q k v w := by
  subst h; rfl

/-- The third. -/
theorem pay24_eq (d : Dev nD) (kb : IVec S128x1024 32)
    (acc : FVec F S128x1024 .f32) (q : Vec F S128x128 .bf16) (k : Vec F S1x1024x128 .bf16) (v : Vec F S1x1024x128 .f32) (w : Vec F S128x1024 .bf16) :
    k0_pay24 kb (k0_pay20 (devW d)) (k0_pay21 (devW d)) (k0_pay22 (devW d)) acc q k v w = k0_pay4 kb (qbV (rowW (rt d))) acc q k v w := by
  rw [← word_next]; rfl

theorem pay15_eq : k0_pay15 (F := F) = k0_pay3 := rfl
theorem pay23_eq : k0_pay23 (F := F) = k0_pay3 := rfl
theorem pay25_eq (a : Vec F S128x1024 .f32) (b : Vec F S1x128x1024 .bf16) : k0_pay25 a b = k0_pay5 a b := rfl
theorem pay26_eq (a : Vec F S128x1024 .f32) : k0_pay26 a = k0_pay6 a := rfl
theorem pay17_eq (a : Vec F S128x1024 .f32) : k0_pay17 a = k0_pay6 a := rfl
theorem pay8_eq (a : Vec F S1x128x1024 .bf16) : k0_pay8 a = k0_pay7 a := rfl
theorem pay27_eq (a : Vec F S1x128x1024 .bf16) : k0_pay27 a = k0_pay7 a := rfl
theorem pay28_eq (a : Vec F S1x128x1024 .bf16) : k0_pay28 a = k0_pay7 a := rfl
theorem pay29_eq (a : Vec F S1x128x1024 .bf16) : k0_pay29 a = k0_pay7 a := rfl

end Cert.KernelIdeal.Pf
-- ==== Proof.Sched.lean ====
/-
  The protocol. Every device talks to its right and left neighbours on the ring of eight.

  * Barrier: at its start a device raises its left neighbour's barrier by one, handing over its own receive slots of the
    reduce-scatter (seven) and of the rightward all-gather (four), and its right neighbour's by one, handing over its own
    receive slots of the leftward all-gather (three). It then waits for two: it holds the slots it will write on its neighbours.
  * Reduce-scatter, rounds 0 to 6: a device copies its send slot `s` into its right neighbour's receive slot `s`; the copy
    raises its own send cell `s` (handing the send slot back) and the neighbour's receive cell `s` (handing over the landed
    slot at the running sum of its row chunk).
  * All-gather, rightward rounds 0 to 3 and leftward rounds 0 to 2: round 0 sends the device's own reduced chunk, a later
    round passes on the slot that landed the round before.
-/
module

public import proofs.«01_k».proof.Proof.Words

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state's algebra: the staging copies' ledger and the protocol's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers and cells -/

/-- The slot buffers: received and sent in the reduce-scatter, received in the two directions of the all-gather; the queries. -/
abbrev rbM : Memref sig .tc .vmem (Sn 7) .bf16 := Memref.whole cc0_scratch0
abbrev sbM : Memref sig .tc .vmem (Sn 7) .bf16 := Memref.whole cc0_scratch1
abbrev arM : Memref sig .tc .vmem (Sn 4) .bf16 := Memref.whole cc0_scratch2
abbrev alM : Memref sig .tc .vmem (Sn 3) .bf16 := Memref.whole cc0_scratch3
abbrev qcM : Memref sig .tc .vmem S128x1024 .bf16 := Memref.whole cc0_scratch4

abbrev barS : Sem sig := (SemArray.scalar (sig.barrier 0 rfl) : Sems sig S_).sem

abbrev barC (c : Dev nD) : GSem nD τ sig := ((c : Thread nD τ), .reg barS)
abbrev cellD (c : Dev nD) (n : ℕ) (h : n < 34) : GSem nD τ sig := ((c : Thread nD τ), .dma (⟨n, h⟩ : Fin 34))
abbrev rsS (c : Dev nD) (s : Fin 7) : GSem nD τ sig := cellD c (6 + s.val) (by omega)
abbrev rsR (c : Dev nD) (s : Fin 7) : GSem nD τ sig := cellD c (13 + s.val) (by omega)
abbrev arS (c : Dev nD) (s : Fin 4) : GSem nD τ sig := cellD c (20 + s.val) (by omega)
abbrev arR (c : Dev nD) (s : Fin 4) : GSem nD τ sig := cellD c (24 + s.val) (by omega)
abbrev alS (c : Dev nD) (s : Fin 3) : GSem nD τ sig := cellD c (28 + s.val) (by omega)
abbrev alR (c : Dev nD) (s : Fin 3) : GSem nD τ sig := cellD c (31 + s.val) (by omega)

/-- What one copy of a slot credits. -/
def N : ℕ := (slotM sbM 0).view.dmaCredit
theorem N_pos : 0 < N := View.dmaCredit_pos _ (by decide)

theorem credit_rb (s : Fin 7) : (slotM rbM s).view.dmaCredit = N := rfl
theorem credit_sb (s : Fin 7) : (slotM sbM s).view.dmaCredit = N := rfl
theorem credit_ar (s : Fin 4) : (slotM arM s).view.dmaCredit = N := rfl
theorem credit_al (s : Fin 3) : (slotM alM s).view.dmaCredit = N := rfl

/-- The semaphore a program names in an array of semaphores numbered from `base`. -/
theorem sem_at {n base : ℕ} (hb : base + (⟨1, ![n]⟩ : Shape).numel ≤ 34) (s : Fin n) {off : Fin 1 → ℕ} (h : off = ![s.val])
    (inb : ∀ a, off a + S1.size a ≤ (⟨1, ![n]⟩ : Shape).size a) (hlt : base + s.val < 34) :
    (((SemArray.consecutive base ⟨1, ![n]⟩ hb : DmaSems sig ⟨1, ![n]⟩).slice (Rect.unit (s := ⟨1, ![n]⟩) off S1.size inb)).squeeze S_
      Gen.squeezes_S1_S_).sem = (⟨base + s.val, hlt⟩ : Fin 34) := by
  subst h
  apply Fin.ext
  show base + ((⟨1, ![n]⟩ : Shape).rowMajor _).val = base + s.val
  congr 1
  rw [Shape.rowMajor_val_one]
  show s.val + 1 * (Shape.reshapeEquiv (s := S1) _ _ 0).val = s.val
  have h1 := (Shape.reshapeEquiv (s := S1) (s' := S_) Gen.squeezes_S1_S_.numel_eq (fun i => i.elim0) 0).isLt
  have h2 : S1.size 0 = 1 := rfl
  omega

/-! ## The schedule -/

/-- What the signals on device `c`'s barrier hand over: `false`, by its right neighbour; `true`, by its left one. -/
def barPay (c : Dev nD) : Bool → sProp 𝕄
  | false => iprop((bigSep Finset.univ fun s : Fin 7 => iprop(slotAny (F := F) (rt c) rbM s ∗ reached ER (rsR (rt c) s) 0))
      ∗ (bigSep Finset.univ fun s : Fin 4 => iprop(slotAny (F := F) (rt c) arM s ∗ reached ER (arR (rt c) s) 0)))
  | true => bigSep Finset.univ fun s : Fin 3 => iprop(slotAny (F := F) (lf c) alM s ∗ reached ER (alR (lf c) s) 0)

/-- What the copy crediting device `c`'s DMA cell `n` hands over. -/
def dmaPay (I : Dev nD → Ins F) (c : Dev nD) (n : ℕ) : sProp 𝕄 :=
  if _h : n < 6 then iprop(emp)
  else if _h : n < 13 then slotPt c sbM ⟨n - 6, by omega⟩ fullShare (RS I (n - 6) c)
  else if _h : n < 20 then slotPt c rbM ⟨n - 13, by omega⟩ fullShare (RS I (n - 13) (lf c))
  else if _h : n < 24 then
    (if _h : n = 20 then slotPt c sbM 0 fullShare.left (ownB I c)
      else slotPt c arM ⟨n - 21, by omega⟩ fullShare.left (ownB I (sh c (7 * (n - 20)))))
  else if _h : n < 28 then slotPt c arM ⟨n - 24, by omega⟩ fullShare (ownB I (sh c (7 * (n - 24 + 1))))
  else if _h : n < 31 then
    (if _h : n = 28 then slotPt c sbM 0 fullShare.right (ownB I c)
      else slotPt c alM ⟨n - 29, by omega⟩ fullShare.left (ownB I (sh c (n - 28))))
  else if _h : n < 34 then slotPt c alM ⟨n - 31, by omega⟩ fullShare (ownB I (sh c (n - 31 + 1)))
  else iprop(emp)

/-- One round on every barrier (two units) and on every copy's cell (one copy). -/
def rd (I : Dev nD → Ins F) : Rounds.Schedule (GSem nD τ sig) Bool 𝕄 where
  duties g r := if r = 0 ∧ g.1.2 = .tc then
      (match g.2 with | .reg _ => {false, true} | .dma n => if 6 ≤ n.val then {false} else ∅) else ∅
  unitless _ := False
  amount g _ _ := match g.2 with | .reg _ => 1 | .dma _ => N
  payload g _ d := match g.2 with | .reg _ => barPay g.1.1 d | .dma n => dmaPay I g.1.1 n.val
  amount_pos g _ _ _ := by
    cases g.2 with
    | reg _ => exact Nat.one_pos
    | dma _ => exact N_pos

instance barPay_storable (c : Dev nD) (d : Bool) : BI.Storable (upEmb : UEmb _ 𝕄) (barPay (F := F) c d) := by
  cases d <;> (unfold barPay; infer_instance)

instance dmaPay_storable (I : Dev nD → Ins F) (c : Dev nD) (n : ℕ) : BI.Storable (upEmb : UEmb _ 𝕄) (dmaPay I c n) := by
  unfold dmaPay; (repeat' split) <;> infer_instance

instance rd_payload_storable (I : Dev nD → Ins F) (g : GSem nD τ sig) (r : ℕ) (d : Bool) :
    BI.Storable (upEmb : UEmb _ 𝕄) ((rd I).payload g r d) := by
  obtain ⟨t, sm⟩ := g
  cases sm with
  | reg _ => exact barPay_storable t.1 d
  | dma n => exact dmaPay_storable I t.1 n.val

section Tables

variable (I : Dev nD → Ins F) (c : Dev nD)

theorem duties_bar : (rd I).duties (barC c) 0 = {false, true} := by dsimp only [rd]; exact if_pos ⟨rfl, rfl⟩
theorem duties_dma (n : ℕ) (h : n < 34) (h6 : 6 ≤ n) : (rd I).duties (cellD c n h) 0 = {false} := by
  dsimp only [rd]; exact (if_pos ⟨rfl, rfl⟩).trans (if_pos h6)
theorem duties_later (g : GSem nD τ sig) : ∀ r, 0 + 1 ≤ r → (rd I).duties g r = ∅ := fun r hr => by
  dsimp only [rd]; exact if_neg fun h => by omega

theorem expect_bar : (rd I).expect (barC c) 0 = 2 := by
  unfold Schedule.expect Schedule.amountOf; rw [duties_bar]; rfl
theorem expect_dma (n : ℕ) (h : n < 34) (h6 : 6 ≤ n) : (rd I).expect (cellD c n h) 0 = N := by
  unfold Schedule.expect Schedule.amountOf; rw [duties_dma I c n h h6, Finset.sum_singleton]; rfl

theorem rest_bar : bigSep ((rd I).duties (barC c) 0 \ ∅) (fun d => (rd I).payload (barC c) 0 d)
    = iprop(barPay (F := F) c false ∗ barPay (F := F) c true) := by
  rw [Finset.sdiff_empty, duties_bar, bigSep_insert (by decide), bigSep_singleton]; rfl
theorem rest_dma (n : ℕ) (h : n < 34) (h6 : 6 ≤ n) :
    bigSep ((rd I).duties (cellD c n h) 0 \ ∅) (fun d => (rd I).payload (cellD c n h) 0 d) = dmaPay I c n := by
  rw [Finset.sdiff_empty, duties_dma I c n h h6, bigSep_singleton]; rfl

/-! What each copy hands over, by its kind. -/

theorem pay_rsS (s : Fin 7) : dmaPay I c (6 + s.val) = slotPt c sbM s fullShare (RS I s.val c) := by
  unfold dmaPay
  rw [dif_neg (by omega), dif_pos (by omega)]
  simp only [Nat.add_sub_cancel_left]
theorem pay_rsR (s : Fin 7) : dmaPay I c (13 + s.val) = slotPt c rbM s fullShare (RS I s.val (lf c)) := by
  unfold dmaPay
  rw [dif_neg (by omega), dif_neg (by omega), dif_pos (by omega)]
  simp only [Nat.add_sub_cancel_left]
theorem pay_arS0 : dmaPay I c 20 = slotPt c sbM 0 fullShare.left (ownB I c) := by
  unfold dmaPay
  rw [dif_neg (by omega), dif_neg (by omega), dif_neg (by omega), dif_pos (by omega), dif_pos rfl]
theorem pay_arS (s : ℕ) (h : s + 1 < 4) :
    dmaPay I c (20 + (s + 1)) = slotPt c arM ⟨s, by omega⟩ fullShare.left (ownB I (sh c (7 * (s + 1)))) := by
  unfold dmaPay
  rw [dif_neg (by omega), dif_neg (by omega), dif_neg (by omega), dif_pos (by omega), dif_neg (by omega)]
  simp only [show 20 + (s + 1) - 21 = s by omega, show 20 + (s + 1) - 20 = s + 1 by omega]
theorem pay_arR (s : Fin 4) : dmaPay I c (24 + s.val) = slotPt c arM s fullShare (ownB I (sh c (7 * (s.val + 1)))) := by
  unfold dmaPay
  rw [dif_neg (by omega), dif_neg (by omega), dif_neg (by omega), dif_neg (by omega), dif_pos (by omega)]
  simp only [Nat.add_sub_cancel_left]
theorem pay_alS0 : dmaPay I c 28 = slotPt c sbM 0 fullShare.right (ownB I c) := by
  unfold dmaPay
  rw [dif_neg (by omega), dif_neg (by omega), dif_neg (by omega), dif_neg (by omega), dif_neg (by omega), dif_pos (by omega), dif_pos rfl]
theorem pay_alS (s : ℕ) (h : s + 1 < 3) :
    dmaPay I c (28 + (s + 1)) = slotPt c alM ⟨s, by omega⟩ fullShare.left (ownB I (sh c (s + 1))) := by
  unfold dmaPay
  rw [dif_neg (by omega), dif_neg (by omega), dif_neg (by omega), dif_neg (by omega), dif_neg (by omega), dif_pos (by omega), dif_neg (by omega)]
  simp only [show 28 + (s + 1) - 29 = s by omega, show 28 + (s + 1) - 28 = s + 1 by omega]
theorem pay_alR (s : Fin 3) : dmaPay I c (31 + s.val) = slotPt c alM s fullShare (ownB I (sh c (s.val + 1))) := by
  unfold dmaPay
  rw [dif_neg (by omega), dif_neg (by omega), dif_neg (by omega), dif_neg (by omega), dif_neg (by omega), dif_neg (by omega), dif_pos (by omega)]
  simp only [Nat.add_sub_cancel_left]

end Tables

/-! ## What a device owes; the levels of the waits -/

/-- The copies still to make onto the cells `cell s`, from number `a` on. -/
def owedFam {n : ℕ} (cell : Fin n → GSem nD τ sig) (a : ℕ) : CellTallies nD τ sig Unit :=
  ∑ s ∈ Finset.univ.filter (fun s : Fin n => a ≤ s.val), tallyAt (cell s) () N

theorem owedFam_step {n : ℕ} (cell : Fin n → GSem nD τ sig) (s : Fin n) :
    owedFam cell s.val = owedFam cell (s.val + 1) + tallyAt (cell s) () N := by
  unfold owedFam
  rw [show Finset.univ.filter (fun t : Fin n => s.val ≤ t.val) = insert s (Finset.univ.filter (fun t : Fin n => s.val + 1 ≤ t.val)) from by
    ext t; simp only [Finset.mem_filter, Finset.mem_univ, true_and, Finset.mem_insert, Fin.ext_iff]; omega,
    Finset.sum_insert (by simp), add_comm]

theorem owedFam_end {n : ℕ} (cell : Fin n → GSem nD τ sig) : owedFam cell n = 0 := by
  unfold owedFam
  rw [Finset.filter_false_of_mem (fun t _ => by omega), Finset.sum_empty]

theorem owedFam_pos {n : ℕ} (cell : Fin n → GSem nD τ sig) (a : ℕ) (g : GSem nD τ sig) (u : Unit) (h : 0 < owedFam cell a g u) :
    ∃ s : Fin n, a ≤ s.val ∧ g = cell s := by
  unfold owedFam at h
  rw [Finset.sum_apply, Finsupp.finsetSum_apply] at h
  obtain ⟨s, hs, hp⟩ := Finset.exists_ne_zero_of_sum_ne_zero (Nat.pos_iff_ne_zero.mp h)
  refine ⟨s, (Finset.mem_filter.mp hs).2, ?_⟩
  rw [tallyAt_apply] at hp
  by_contra hne
  exact hp (if_neg fun e => hne e.1)

/-- Owed after `a` rounds of the reduce-scatter, `b` of the rightward and `e` of the leftward all-gather have been sent. -/
def owedAt (c : Dev nD) (a b e : ℕ) : CellTallies nD τ sig Unit :=
  owedFam (rsR (rt c)) a + owedFam (arR (rt c)) b + owedFam (alR (lf c)) e

theorem owedAt_rs (c : Dev nD) (s : Fin 7) (b e : ℕ) :
    owedAt c s.val b e = owedAt c (s.val + 1) b e + tallyAt (rsR (rt c) s) () N := by
  unfold owedAt; rw [owedFam_step, add_right_comm _ (tallyAt _ _ _), add_right_comm _ (tallyAt _ _ _)]
theorem owedAt_ar (c : Dev nD) (a : ℕ) (s : Fin 4) (e : ℕ) :
    owedAt c a s.val e = owedAt c a (s.val + 1) e + tallyAt (arR (rt c) s) () N := by
  unfold owedAt; rw [owedFam_step (arR (rt c)), ← add_assoc, add_right_comm _ (tallyAt _ _ _)]
theorem owedAt_al (c : Dev nD) (a b : ℕ) (s : Fin 3) :
    owedAt c a b s.val = owedAt c a b (s.val + 1) + tallyAt (alR (lf c) s) () N := by
  unfold owedAt; rw [owedFam_step (alR (lf c)), ← add_assoc]
theorem owedAt_end (c : Dev nD) : owedAt c 7 4 3 = 0 := by
  unfold owedAt; rw [owedFam_end, owedFam_end, owedFam_end, add_zero, add_zero]

/-- At the start: every copy, and a unit on each neighbour's barrier. -/
def O₀ (c : Dev nD) : CellTallies nD τ sig Unit := owedAt c 0 0 0 + tallyAt (barC (rt c)) () 1 + tallyAt (barC (lf c)) () 1

def L (g : GSem nD τ sig) : Finset Unit := if g.1.2 = .tc then {()} else ∅

/-- The level of a DMA cell: 0 for a copy's source side and the staging copies; each receive cell above those waited for before. -/
def lvD (n : ℕ) : ℕ :=
  if n < 13 then 0 else if n < 20 then 2 + (n - 13) else if n < 24 then 0 else if n < 28 then 10 + 2 * (n - 24)
  else if n < 31 then 0 else 11 + 2 * (n - 31)
def lvS : SemLoc sig → ℕ
  | .reg _ => 1
  | .dma n => lvD n.val
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_rsR (c : Dev nD) (s : Fin 7) (u : Unit) : lv (rsR c s) u = 2 + s.val := by
  show lvD (13 + s.val) = _; unfold lvD; rw [if_neg (by omega), if_pos (by omega)]; omega
theorem lv_arR (c : Dev nD) (s : Fin 4) (u : Unit) : lv (arR c s) u = 10 + 2 * s.val := by
  show lvD (24 + s.val) = _; unfold lvD; rw [if_neg (by omega), if_neg (by omega), if_neg (by omega), if_pos (by omega)]; omega
theorem lv_alR (c : Dev nD) (s : Fin 3) (u : Unit) : lv (alR c s) u = 11 + 2 * s.val := by
  show lvD (31 + s.val) = _; unfold lvD
  rw [if_neg (by omega), if_neg (by omega), if_neg (by omega), if_neg (by omega), if_neg (by omega)]; omega

/-- What is owed lies on cells whose waits are permitted, of known levels. -/
theorem owedAt_pos (c : Dev nD) (a b e : ℕ) (g : GSem nD τ sig) (u : Unit) (h : 0 < owedAt c a b e g u) :
    () ∈ L g ∧ ((∃ s : Fin 7, a ≤ s.val ∧ lv g u = 2 + s.val) ∨ (∃ s : Fin 4, b ≤ s.val ∧ lv g u = 10 + 2 * s.val)
      ∨ (∃ s : Fin 3, e ≤ s.val ∧ lv g u = 11 + 2 * s.val)) := by
  unfold owedAt at h
  rw [Pi.add_apply, Finsupp.add_apply, Pi.add_apply, Finsupp.add_apply] at h
  have h3 : 0 < owedFam (rsR (rt c)) a g u ∨ 0 < owedFam (arR (rt c)) b g u ∨ 0 < owedFam (alR (lf c)) e g u := by omega
  rcases h3 with h | h | h
  · obtain ⟨s, hs, rfl⟩ := owedFam_pos _ _ _ _ h
    exact ⟨by rw [L_tc]; exact Finset.mem_singleton_self _, .inl ⟨s, hs, lv_rsR _ _ _⟩⟩
  · obtain ⟨s, hs, rfl⟩ := owedFam_pos _ _ _ _ h
    exact ⟨by rw [L_tc]; exact Finset.mem_singleton_self _, .inr (.inl ⟨s, hs, lv_arR _ _ _⟩)⟩
  · obtain ⟨s, hs, rfl⟩ := owedFam_pos _ _ _ _ h
    exact ⟨by rw [L_tc]; exact Finset.mem_singleton_self _, .inr (.inr ⟨s, hs, lv_alR _ _ _⟩)⟩

/-- A device may wait on a cell whose level is below those of all the copies it still owes. -/
theorem mayWait (c : Dev nD) (sm : SemLoc sig) (a b e : ℕ) (ha : a < 7 → lvS sm < 2 + a) (hb : b < 4 → lvS sm < 10 + 2 * b)
    (he : e < 3 → lvS sm < 11 + 2 * e) : (levAts L lv : sProp 𝕄) ⊢ MayWait (c : Thread nD τ) sm () (owedAt c a b e) :=
  MayOwe.of_cut (L := L) (lev := lv) (lvS sm)
    (fun p hp => by rw [Finset.mem_singleton.mp hp, L_tc]; exact Finset.mem_singleton_self _)
    (fun g u hg => (owedAt_pos c a b e g u hg).1)
    (fun p hp => by rw [Finset.mem_singleton.mp hp]; exact le_refl _)
    (fun g u hg => by
      rcases (owedAt_pos c a b e g u hg).2 with ⟨s, hs, h⟩ | ⟨s, hs, h⟩ | ⟨s, hs, h⟩ <;> rw [h]
      · have := ha (by omega); omega
      · have := hb (by omega); omega
      · have := he (by omega); omega)

end Cert.KernelIdeal.Pf

end
-- ==== Proof.Talk.lean ====
/-
  The protocol's steps as the kernel takes them: waiting for a copy, making a copy, and the families of resources a device
  spends and gains one by one.
-/
module

public import proofs.«01_k».proof.Proof.Sched

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A family of which the first `m` have been exchanged -/

section Fam

variable {M : Type} [URA M]

/-- Of the family over `Fin n`, the members below `m` are as `A` says, the others as `B` says. -/
def fam {n : ℕ} (m : ℕ) (A B : Fin n → sProp M) : sProp M := bigSep Finset.univ fun s => if s.val < m then A s else B s

theorem fam_zero {n : ℕ} (A B : Fin n → sProp M) : fam 0 A B = bigSep Finset.univ B := by
  unfold fam; exact congrArg _ (funext fun s => if_neg (Nat.not_lt_zero _))

theorem fam_end {n : ℕ} (A B : Fin n → sProp M) : fam n A B = bigSep Finset.univ A := by
  unfold fam; exact congrArg _ (funext fun s => if_pos s.isLt)

/-- Member `m` is exchanged: taken as `B` says, put back as `A` says. -/
theorem fam_step {n : ℕ} (s : Fin n) (A B : Fin n → sProp M) : fam s.val A B ⊢ iprop(B s ∗ (A s -∗ fam (s.val + 1) A B)) := by
  have h1 : fam s.val A B = iprop(B s ∗ bigSep (Finset.univ.erase s) fun t => if t.val < s.val then A t else B t) := by
    unfold fam; rw [bigSep_erase (Finset.mem_univ s), if_neg (lt_irrefl _)]; rfl
  have h2 : fam (s.val + 1) A B = iprop(A s ∗ bigSep (Finset.univ.erase s) fun t => if t.val < s.val then A t else B t) := by
    unfold fam; rw [bigSep_erase (Finset.mem_univ s), if_pos (Nat.lt_succ_self _)]
    refine congrArg (fun z => BI.BIBase.sep (A s) z) (bigSep_congr fun t ht => ?_)
    have hne : t.val ≠ s.val := fun e => (Finset.mem_erase.mp ht).1 (Fin.ext e)
    by_cases h : t.val < s.val
    · rw [if_pos h, if_pos (by omega)]
    · rw [if_neg h, if_neg (by omega)]
  rw [h1, h2]
  iintro ⟨HB, Hr⟩
  isplitl [HB]; · iexact HB
  iintro HA
  isplitl [HA]; · iexact HA
  iexact Hr

/-- A member already exchanged may be borrowed. -/
theorem fam_borrow {n : ℕ} (m : ℕ) (s : Fin n) (hs : s.val < m) (A B : Fin n → sProp M) :
    fam m A B ⊢ iprop(A s ∗ (A s -∗ fam m A B)) := by
  have h1 : fam m A B = iprop(A s ∗ bigSep (Finset.univ.erase s) fun t => if t.val < m then A t else B t) := by
    unfold fam; rw [bigSep_erase (Finset.mem_univ s), if_pos hs]; rfl
  rw [h1]
  iintro ⟨HA, Hr⟩
  isplitl [HA]; · iexact HA
  iintro HA
  isplitl [HA]; · iexact HA
  iexact Hr

end Fam

/-! ## What every device knows -/

abbrev scC (x : Dev nD × Fin 28) : GSem nD τ sig := cellD x.1 (6 + x.2.val) (by omega)

/-- The invariants of all the cells, at the names `K`, and the levels of the waits. -/
def know (I : Dev nD → Ins F) (K : GSem nD τ sig → ℕ) : sProp 𝕄 :=
  iprop((bigSep Finset.univ fun c : Dev nD => cellInv ER (rd I) (K (barC c)) (barC c))
    ∗ (bigSep Finset.univ fun x : Dev nD × Fin 28 => cellInv ER (rd I) (K (scC x)) (scC x)) ∗ levAts L lv)

instance know_persistent (I : Dev nD → Ins F) (K : GSem nD τ sig → ℕ) : BI.Persistent (know I K) := by unfold know; infer_instance

theorem know_bar (I : Dev nD → Ins F) (K : GSem nD τ sig → ℕ) (c : Dev nD) : know I K ⊢ cellInv ER (rd I) (K (barC c)) (barC c) := by
  have e : (bigSep Finset.univ fun c : Dev nD => cellInv ER (rd I) (K (barC c)) (barC c)) ⊢ cellInv ER (rd I) (K (barC c)) (barC c) :=
    bigSep_elim (Finset.mem_univ c)
  unfold know
  iintro ⟨H, -, -⟩
  iapply e; iexact H

theorem know_dma (I : Dev nD → Ins F) (K : GSem nD τ sig → ℕ) (c : Dev nD) (n : ℕ) (h : n < 34) (h6 : 6 ≤ n) :
    know I K ⊢ cellInv ER (rd I) (K (cellD c n h)) (cellD c n h) := by
  have e : cellD c n h = scC (c, ⟨n - 6, by omega⟩) := by
    unfold scC cellD; simp only [show 6 + (n - 6) = n by omega]
  rw [e]
  have e' : (bigSep Finset.univ fun x : Dev nD × Fin 28 => cellInv ER (rd I) (K (scC x)) (scC x))
      ⊢ cellInv ER (rd I) (K (scC (c, ⟨n - 6, by omega⟩))) (scC (c, ⟨n - 6, by omega⟩)) := bigSep_elim (Finset.mem_univ _)
  unfold know
  iintro ⟨-, H, -⟩
  iapply e'; iexact H

theorem know_lev (I : Dev nD → Ins F) (K : GSem nD τ sig → ℕ) : know I K ⊢ levAts L lv := by
  unfold know
  iintro ⟨-, -, H⟩
  iexact H

/-- The device owes `O`, whatever it has waited for. -/
def owesE (c : Dev nD) (O : CellTallies nD τ sig Unit) : sProp 𝕄 := iprop(∃ W : Waits sig Unit, owes (c : Thread nD τ) O W)

/-! ## Steps -/

/-- A wait for a copy: the landed slot and the cell's counter, back at zero. -/
theorem wp_wait_dma (I : Dev nD → Ins F) (K : GSem nD τ sig → ℕ) (c : Dev nD) (n : ℕ) (h : n < 34) (h6 : 6 ≤ n) {sem : DmaSem sig}
    (hs : sem = (⟨n, h⟩ : Fin 34)) {sp sp' : Space} {s s' : Shape} {e e' : EltTy} {src : Memref sig .tc sp' s' e'} {dst : Memref sig .tc sp s e}
    {hsrc : src.view.WordExact} {hdst : dst.view.WordExact} (hN : dst.view.dmaCredit = N) (O : CellTallies nD τ sig Unit)
    (hO : (levAts L lv : sProp 𝕄) ⊢ MayWait (c : Thread nD τ) (.dma (⟨n, h⟩ : Fin 34)) () O) {α : Type}
    {k : PUnit → Prog (TpuEff nD τ sig (Elt F) Λ₀ .tc) α} {Q : α → sProp 𝕄} :
    iprop(know I K ∗ cred (tallyAt (cellD c n h) () N) ∗ atPos ER (cellD c n h) 0 ∅ 0 ∗ owesE c O)
      ⊢ iprop(((semVal (cellD c n h) 0 ∗ dmaPay I c n ∗ owesE c O)
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  subst hs
  iintro ⟨#HK, Hc, Hat, HO⟩ Hk
  unfold owesE
  icases HO with ⟨%W, HO⟩
  ihave #Hinv := (know_dma I K c n h h6) $$ HK
  ihave #Hlev := (know_lev I K) $$ HK
  have hw : ∀ Kt : PUnit → sProp 𝕄, wpE (defs₀ (F := F)) 𝒱₀ (c : Thread nD τ) none Set.univ (.waitDma2 (⟨n, h⟩ : Fin 34) src dst hsrc hdst) Kt
      = waitSpec (c : Thread nD τ) Set.univ (.dma (⟨n, h⟩ : Fin 34)) N Kt := fun Kt => by rw [← hN]; rfl
  iapply (Rounds.wp_wait_rest_token 𝒱₀ ER (rd I) (c : Thread nD τ) none (defs := defs₀ (F := F)) (Γ := .empty) (κ := K (cellD c n h))
      hw (Set.mem_univ _) () (O := O) (W := W) (R := 0) (m := 0) (T := ∅)
      ((Nat.zero_add _).trans (expect_dma I c n h h6).symm)) $$ [Hc HO Hat]
  · isplitr; · iexact Hinv
    isplitl [Hc]; · iexact Hc
    isplitl [HO]; · iexact HO
    isplitr; · iapply hO; iexact Hlev
    iexact Hat
  iintro ⟨HO, Hat, -, Hpay⟩
  ihave Hp := (Entails.of_eq (rest_dma I c n h h6)) $$ Hpay
  imod (Rounds.cell_close ER (rd I) (Set.mem_univ (K (cellD c n h))) id (duties_later I (cellD c n h))) $$ [Hat] with Hv
  · isplitr; · iexact Hinv
    iexact Hat
  iapply Hk
  isplitl [Hv]; · iexact Hv
  isplitl [Hp]; · iexact Hp
  iexists _; iexact HO

/-- A copy of a slot into a neighbour's slot: both cells' payloads are the slots at the copied contents. -/
theorem wp_send_dma (I : Dev nD → Ins F) (K : GSem nD τ sig → ℕ) (c p : Dev nD) (n₁ n₂ : ℕ) (h₁ : n₁ < 34) (h₂ : n₂ < 34)
    (h6₁ : 6 ≤ n₁) (h6₂ : 6 ≤ n₂) {s₁ s₂ : DmaSem sig} (hs₁ : s₁ = (⟨n₁, h₁⟩ : Fin 34)) (hs₂ : s₂ = (⟨n₂, h₂⟩ : Fin 34))
    {ns nd : ℕ} (Ms : Memref sig .tc .vmem (Sn ns) .bf16) (Md : Memref sig .tc .vmem (Sn nd) .bf16) (ss : Fin ns) (sd : Fin nd)
    {offs offd : Fin 3 → ℕ} (hos : offs = ![ss.val, 0, 0]) (hod : offd = ![sd.val, 0, 0])
    {inbs : ∀ a, offs a + S1x128x1024.size a ≤ (Sn ns).size a} {inbd : ∀ a, offd a + S1x128x1024.size a ≤ (Sn nd).size a}
    (q : PosShare TreeShare) (A : Vec F S128x1024 .bf16) {x : Dev nD} (hx : x = p) (hN : (slotM Md sd).view.dmaCredit = N)
    (hp₁ : slotPt c Ms ss q A ⊢ dmaPay I c n₁) (hp₂ : slotPt p Md sd fullShare A ⊢ dmaPay I p n₂)
    {O₁ : CellTallies nD τ sig Unit} (O : CellTallies nD τ sig Unit) (hO : O₁ = O + tallyAt (cellD p n₂ h₂) () N)
    {hsc} {hsrc} {hdst} {hsem} {α : Type} {k : PUnit → Prog (TpuEff nD τ sig (Elt F) Λ₀ .tc) α} {Q : α → sProp 𝕄} :
    iprop(know I K ∗ slotPt c Ms ss q A ∗ slotAny (F := F) p Md sd ∗ owesE c O₁
        ∗ dutyTok ER (cellD c n₁ h₁) 0 false ∗ reached ER (cellD c n₁ h₁) 0
        ∗ dutyTok ER (cellD p n₂ h₂) 0 false ∗ reached ER (cellD p n₂ h₂) 0)
      ⊢ iprop(((cred (tallyAt (cellD c n₁ h₁) () N) ∗ owesE c O)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (slotO Ms offs inbs) (.remote (Dev.tc x) (slotO Md offd inbd) (.dma s₁) hsc) (.dma s₂) hsrc hdst hsem) k) Q) := by
  subst hs₁ hs₂ hos hod hx
  iintro ⟨#HK, Hs, Hd, HO, Ht₁, #Hr₁, Ht₂, #Hr₂⟩ Hk
  unfold owesE
  icases HO with ⟨%W, HO⟩
  ihave #Hi₁ := (know_dma I K c n₁ h₁ h6₁) $$ HK
  ihave #Hi₂ := (know_dma I K x n₂ h₂ h6₂) $$ HK
  unfold slotAny
  icases Hd with ⟨%B, Hd⟩
  unfold slotPt
  iapply (Rounds.wp_send_pointsTo 𝒱₀ ER (rd I) (c : Thread nD τ) none (defs := defs₀ (F := F)) (Γ := .empty) (c' := (x : Thread nD τ))
      (src := slotM Ms ss) (dst := slotM Md sd) (sS := .dma (⟨n₁, h₁⟩ : Fin 34)) (sem := .dma (⟨n₂, h₂⟩ : Fin 34)) (q := q)
      (fs := (slotM Ms ss).view.rep A) (fd := (slotM Md sd).view.rep B) (κ₁ := K (cellD c n₁ h₁)) (κ₂ := K (cellD x n₂ h₂))
      (r₁ := 0) (r₂ := 0) (d₁ := false) (d₂ := false)
      (by rw [duties_dma I c n₁ h₁ h6₁]; exact Finset.mem_singleton_self _) (by rw [duties_dma I x n₂ h₂ h6₂]; exact Finset.mem_singleton_self _)
      () () N hN rfl rfl O hO (W := W) hp₁
      (by
        rw [View.read_rep]
        exact (slotPt_of_read x Md sd fullShare rfl (slot_inb sd) _ A (View.read_write_univ _ _)).trans hp₂)) $$ [Hs Hd HO Ht₁ Ht₂]
  · isplitr; · iexact Hi₁
    isplitr; · iexact Hi₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists _; iexact HO

end Cert.KernelIdeal.Pf

end
-- ==== Proof.Attn.lean ====
/-
  One row chunk's attention, head by head: the kernel's loops over the eight heads, and the queries stored before them.
-/
module

public import proofs.«01_k».proof.Proof.Talk

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A run of a piece of the kernel on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A piece's run, then what follows it. -/
theorem wp_seq {α β : Type} (c : Dev nD) {p : Prog (TpuEff nD τ sig (Elt F) Λ₀ .tc) α} {k : α → Prog (TpuEff nD τ sig (Elt F) Λ₀ .tc) β}
    {Q' : α → sProp 𝕄} {P : sProp 𝕄} {Q : β → sProp 𝕄} (h : P ⊢ WP c p Q') :
    P ⊢ iprop((∀ x, Q' x -∗ WP c (k x) Q) -∗ WP c (p >>= k) Q) := by
  iintro HP Hk
  unfold WP
  rw [wp_bind]
  iapply (wp_wand_r frame (wpE (defs₀ (F := F)) 𝒱₀ (c : Thread nD τ) none) Set.univ)
  isplitl [HP]
  · iapply h; iexact HP
  · iexact Hk

/-- A piece's end. -/
theorem wp_done {α : Type} (c : Dev nD) (a : α) (Q : α → sProp 𝕄) : Q a ⊢ WP c (.ret a) Q := by
  unfold WP
  rw [wp_ret]
  iintro H
  imodintro
  iexact H

theorem hrb : rbM.IsWhole := Memref.isWhole_whole _
theorem hsb : sbM.IsWhole := Memref.isWhole_whole _
theorem har : arM.IsWhole := Memref.isWhole_whole _
theorem hal : alM.IsWhole := Memref.isWhole_whole _
theorem hqc : qcM.IsWhole := Memref.isWhole_whole _

variable (a0 : Memref sig .tc .vmem S1024x1024 .bf16) (h0 : a0.IsWhole) (a1 : Memref sig .tc .vmem S1024x1024 .bf16) (h1 : a1.IsWhole)
  (a2 : Memref sig .tc .vmem S8x1024x128 .bf16) (h2 : a2.IsWhole) (a3 : Memref sig .tc .vmem S8x1024x128 .f32) (h3 : a3.IsWhole)
  (a4 : Memref sig .tc .vmem S1024x1024 .bf16) (h4 : a4.IsWhole) (a5 : Memref sig .tc .vmem S1024x1024 .f32) (h5 : a5.IsWhole)
/-- What the loop over the heads reads: keys, values, output weights, and the queries of row chunk `r`. -/
def attn (c : Dev nD) (i : Ins F) (r : Fin 8) : sProp 𝕄 :=
  iprop(bufPt c a2 i.kt ∗ bufPt c a3 i.vv ∗ bufPt c a4 i.wo ∗ bufPt c qcM (qOf i r))

/-- One head: four loads and the step. -/
theorem wp_head (c : Dev nD) (i : Ins F) (r h : Fin 8) {o1 : Fin 2 → ℕ} {o2 o3 : Fin 3 → ℕ} {o4 : Fin 2 → ℕ}
    (e1 : o1 = ![0, 128 * h.val]) (e2 : o2 = ![h.val, 0, 0]) (e3 : o3 = ![h.val, 0, 0]) (e4 : o4 = ![128 * h.val, 0])
    {n1 : ∀ a, o1 a + S128x128.size a ≤ S128x1024.size a} {n2 : ∀ a, o2 a + S1x1024x128.size a ≤ S8x1024x128.size a}
    {n3 : ∀ a, o3 a + S1x1024x128.size a ≤ S8x1024x128.size a} {n4 : ∀ a, o4 a + S128x1024.size a ≤ S1024x1024.size a}
    {l1 l2 l3 l4} (y : Vec F S128x128 .bf16 → Vec F S1x1024x128 .bf16 → Vec F S1x1024x128 .f32 → Vec F S128x1024 .bf16 → FVec F S128x1024 .f32)
    (hy : y (colsOf (qOf i r) h) (planeOf i.kt h) (planeOf i.vv h) (rowsOf i.wo h) = headAcc i r (h.val + 1)) :
    attn a2 a3 a4 c i r ⊢ WP c
      (.op (.load qcM (Rect.unit (s := S128x1024) o1 S128x128.size n1).toLoadRect l1) fun q =>
        .op (.load a2 (Rect.unit (s := S8x1024x128) o2 S1x1024x128.size n2).toLoadRect l2) fun k =>
        .op (.load a3 (Rect.unit (s := S8x1024x128) o3 S1x1024x128.size n3).toLoadRect l3) fun v =>
        .op (.load a4 (Rect.unit (s := S1024x1024) o4 S128x1024.size n4).toLoadRect l4) fun w => .ret (y q k v w))
      (fun acc => iprop(⌜acc = headAcc i r (h.val + 1)⌝ ∗ attn a2 a3 a4 c i r)) := by
  unfold attn
  iintro ⟨Hk, Hv, Hw, Hq⟩
  iapply (wp_load_buf c qcM (qOf i r) _ (cols_eq _ h e1)) $$ Hq
  iintro Hq
  iapply (wp_load_buf c a2 i.kt _ (plane_eq _ h e2)) $$ Hk
  iintro Hk
  iapply (wp_load_buf c a3 i.vv _ (plane_eq _ h e3)) $$ Hv
  iintro Hv
  iapply (wp_load_buf c a4 i.wo _ (rows_eq _ h e4)) $$ Hw
  iintro Hw
  rw [hy]
  iapply (wp_done c)
  isplitr; · ipureintro; rfl
  isplitl [Hk]; · iexact Hk
  isplitl [Hv]; · iexact Hv
  isplitl [Hw]; · iexact Hw
  iexact Hq

/-- A loop over the heads, its trips as `wp_head` says. -/
theorem wp_heads (c : Dev nD) (i : Ins F) (r : Fin 8) {lb ub st : BitVec 32} {ok : Scf.OK lb ub st} (ht : Scf.trips lb ub st = 8)
    {init : FVec F S128x1024 .f32} (hi : init = k0_pay3)
    {body : Fin (Scf.trips lb ub st) → FVec F S128x1024 .f32 → Prog (TpuEff nD τ sig (Elt F) Λ₀ .tc) (FVec F S128x1024 .f32)}
    (hb : ∀ k : Fin (Scf.trips lb ub st), attn a2 a3 a4 c i r ⊢ WP c (body k (headAcc i r k.val))
      (fun acc => iprop(⌜acc = headAcc i r (k.val + 1)⌝ ∗ attn a2 a3 a4 c i r))) :
    attn a2 a3 a4 c i r ⊢ WP c (Scf.for lb ub st ok init body)
      (fun acc => iprop(⌜acc = part i r⌝ ∗ attn a2 a3 a4 c i r)) := by
  subst hi
  have hf := Scf.wp_for frame (wpE (defs₀ (F := F)) 𝒱₀ (c : Thread nD τ) none) Set.univ lb ub st ok (k0_pay3 (F := F)) body
    (fun n acc => iprop(⌜acc = headAcc i r n⌝ ∗ attn a2 a3 a4 c i r))
    (fun k acc => by
      iintro ⟨%h, H⟩
      subst h
      iapply (hb k); iexact H) (Q := fun acc => iprop(⌜acc = part i r⌝ ∗ attn a2 a3 a4 c i r))
  refine BIBase.Entails.trans ?_ hf
  rw [ht]
  iintro H
  isplitl [H]
  · isplitr; · ipureintro; rfl
    iexact H
  · iintro %acc H; iexact H

theorem headAcc_succ (i : Ins F) (r h : Fin 8) : headAcc i r (h.val + 1) = headStep i r h (headAcc i r h.val) := by
  show (if hh : h.val < 8 then headStep i r ⟨h.val, hh⟩ (headAcc i r h.val) else headAcc i r h.val) = _
  rw [dif_pos h.isLt]

theorem trips_t1 : k0_t1_loop.trips = 8 := by decide
theorem trips_t3 : k0_t3_loop.trips = 8 := by decide
theorem trips_t4 : k0_t4_loop.trips = 8 := by decide

abbrev as8 {n : ℕ} (e : n = 8) (k : Fin n) : Fin 8 := ⟨k.val, Nat.lt_of_lt_of_le k.isLt (le_of_eq e)⟩

/-- The device's first chunk, its own row chunk. -/
theorem wp_t1 (c : Dev nD) (i : Ins F) (v8 v14 : BitVec 32) :
    attn a2 a3 a4 c i c ⊢ WP c (Scf.Loop.for k0_t1_loop k0_t1_ok (k0_pay15 (F := F))
        (k0_t1_body a0 h0 a1 h1 a2 h2 a3 h3 a4 h4 a5 h5 rbM hrb sbM hsb arM har alM hal qcM hqc cc0_scratch5 cc0_scratch6 cc0_scratch7 cc0_scratch8 cc0_scratch9 cc0_scratch10 c (devW c) v8 v14
          (k0_pay12 (k0_pay10 c) 64#32 (k0_pay11 c)) (k0_pay13 kbV) (k0_pay14 (k0_pay10 c) kbV 64#32 (k0_pay11 c))))
      (fun acc => iprop(⌜acc = part i c⌝ ∗ attn a2 a3 a4 c i c)) := by
  refine wp_heads a2 a3 a4 c i c trips_t1 pay15_eq fun k => ?_
  unfold k0_t1_body
  simp only [Prog.lift, Prog.bind_op, Prog.bind_ret, Prog.pure_eq_ret]
  refine wp_head a2 a3 a4 c i c (as8 trips_t1 k) (k0_off2_eq k) (k0_off3_eq k) (k0_off3_eq k) (k0_off4_eq k) _ ?_
  rw [headAcc_succ]
  exact pay16_eq _ _ _ _ (qb_own c) _ _ _ _ _

/-- A later chunk of the reduce-scatter. -/
theorem wp_t3 (c : Dev nD) (i : Ins F) (r : Fin 8) (v8 : BitVec 32) (k2 : Fin k0_t2_loop.trips) (arg17 v308 : BitVec 32) :
    attn a2 a3 a4 c i r ⊢ WP c (Scf.Loop.for k0_t3_loop k0_t3_ok (k0_pay3 (F := F))
        (k0_t3_body a0 h0 a1 h1 a2 h2 a3 h3 a4 h4 a5 h5 rbM hrb sbM hsb arM har alM hal qcM hqc cc0_scratch5 cc0_scratch6 cc0_scratch7 cc0_scratch8 cc0_scratch9 cc0_scratch10 c v8 k2 arg17 v308 kbV (qbV (rowW r))))
      (fun acc => iprop(⌜acc = part i r⌝ ∗ attn a2 a3 a4 c i r)) := by
  refine wp_heads a2 a3 a4 c i r trips_t3 rfl fun k => ?_
  unfold k0_t3_body
  simp only [Prog.lift, Prog.bind_op, Prog.bind_ret, Prog.pure_eq_ret]
  refine wp_head a2 a3 a4 c i r (as8 trips_t3 k) (k0_off6_eq k) (k0_off7_eq k) (k0_off7_eq k) (k0_off8_eq k) _ ?_
  rw [headAcc_succ]
  rfl

/-- The last chunk, the right neighbour's row chunk. -/
theorem wp_t4 (c : Dev nD) (i : Ins F) (v114 : BitVec 32) :
    attn a2 a3 a4 c i (rt c) ⊢ WP c (Scf.Loop.for k0_t4_loop k0_t4_ok (k0_pay23 (F := F))
        (k0_t4_body a0 h0 a1 h1 a2 h2 a3 h3 a4 h4 a5 h5 rbM hrb sbM hsb arM har alM hal qcM hqc cc0_scratch5 cc0_scratch6 cc0_scratch7 cc0_scratch8 cc0_scratch9 cc0_scratch10 c v114 kbV (k0_pay20 (devW c)) (k0_pay21 (devW c)) (k0_pay22 (devW c))))
      (fun acc => iprop(⌜acc = part i (rt c)⌝ ∗ attn a2 a3 a4 c i (rt c))) := by
  refine wp_heads a2 a3 a4 c i (rt c) trips_t4 pay23_eq fun k => ?_
  unfold k0_t4_body
  simp only [Prog.lift, Prog.bind_op, Prog.bind_ret, Prog.pure_eq_ret]
  refine wp_head a2 a3 a4 c i (rt c) (as8 trips_t4 k) (k0_off16_eq k) (k0_off17_eq k) (k0_off17_eq k) (k0_off18_eq k) _ ?_
  rw [headAcc_succ]
  exact pay24_eq _ _ _ _ _ _ _

/-- The queries of a row chunk, stored for the loop over the heads. -/
theorem wp_queries (c : Dev nD) (i : Ins F) (r : Fin 8) {o : Fin 2 → ℕ} (e : o = ![128 * r.val, 0])
    {n1 : ∀ a, o a + S128x1024.size a ≤ S1024x1024.size a} {l1 l2 l3 hx hm}
    {p : Vec F S128x1024 .bf16 → Vec F S1024x1024 .bf16 → Vec F S128x1024 .bf16} (hp : p (rowsOf i.x r) i.wq = qOf i r)
    {α : Type} {k : PUnit → Prog (TpuEff nD τ sig (Elt F) Λ₀ .tc) α} {Q : α → sProp 𝕄} :
    iprop(bufPt c a0 i.x ∗ bufPt c a1 i.wq ∗ ∃ z, bufPt (F := F) c qcM z)
      ⊢ iprop(((bufPt c a0 i.x ∗ bufPt c a1 i.wq ∗ bufPt c qcM (qOf i r)) -∗ WP c (k ⟨⟩) Q)
        -∗ WP c (.op (.load a0 (Rect.unit (s := S1024x1024) o S128x1024.size n1).toLoadRect l1) fun x =>
          .op (.load a1 (Rect.unit (s := S1024x1024) ![0, 0] S1024x1024.size Gen.inb_S1024x1024_S1024x1024_0_0).toLoadRect l2) fun w =>
          .op (.load qcM (Rect.unit (s := S128x1024) ![0, 0] S128x1024.size Gen.inb_S128x1024_S128x1024_0_0).toLoadRect l3) fun _ =>
          .op (.store qcM (Rect.unit (s := S128x1024) ![0, 0] S128x1024.size Gen.inb_S128x1024_S128x1024_0_0) (p x w) Finset.univ hx hm) k) Q) := by
  iintro ⟨Hx, Hw, %z, Hq⟩ Hk
  iapply (wp_load_buf c a0 i.x _ (rows_eq _ r e)) $$ Hx
  iintro Hx
  iapply (wp_load_buf c a1 i.wq _ (full_eq _)) $$ Hw
  iintro Hw
  iapply (wp_load_buf c qcM z _ rfl) $$ Hq
  iintro Hq
  rw [hp]
  iapply (wp_store_full c qcM z) $$ Hq
  iintro Hq
  iapply Hk
  isplitl [Hx]; · iexact Hx
  isplitl [Hw]; · iexact Hw
  iexact Hq

end Cert.KernelIdeal.Pf

end
-- ==== Proof.Open.lean ====
/-
  The kernel's opening: the handshake with both neighbours, and the queries of the first chunk.
-/
module

public import proofs.«01_k».proof.Proof.Attn

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The output's rows, as far as known -/

/-- The output buffer: eight row chunks of which `p` is known. -/
def outG (c : Dev nD) (a5 : Memref sig .tc .vmem S1024x1024 .f32) (p : (Fin 8 → Vec F S128x1024 .f32) → Prop) : sProp 𝕄 :=
  iprop(∃ g, ⌜p g⌝ ∗ bufPt c a5 (asm g))

/-- A store over a row chunk. -/
theorem wp_store_out (c : Dev nD) (a5 : Memref sig .tc .vmem S1024x1024 .f32) (p p' : (Fin 8 → Vec F S128x1024 .f32) → Prop) (r : Fin 8)
    {w : Vec F S128x1024 .f32} (hp : ∀ g, p g → p' (Function.update g r w)) {off : Fin 2 → ℕ} (h : off = ![128 * r.val, 0])
    {inb : ∀ a, off a + S128x1024.size a ≤ S1024x1024.size a} {hx hm} {α : Type} {k : PUnit → Prog (TpuEff nD τ sig (Elt F) Λ₀ .tc) α}
    {Q : α → sProp 𝕄} :
    outG c a5 p ⊢ iprop((outG c a5 p' -∗ WP c (k ⟨⟩) Q)
      -∗ WP c (.op (.store a5 (Rect.unit (s := S1024x1024) off S128x1024.size inb) w Finset.univ hx hm) k) Q) := by
  unfold outG
  iintro ⟨%g, %hg, H⟩ Hk
  iapply (wp_store_rows c a5 g r h) $$ H
  iintro H
  iapply Hk
  iexists _
  isplitr; · ipureintro; exact hp g hg
  iexact H

/-- A load of a row chunk whose contents are known. -/
theorem wp_load_out (c : Dev nD) (a5 : Memref sig .tc .vmem S1024x1024 .f32) (p : (Fin 8 → Vec F S128x1024 .f32) → Prop) (r : Fin 8)
    (v : Vec F S128x1024 .f32) (hp : ∀ g, p g → g r = v) {off : Fin 2 → ℕ} (h : off = ![128 * r.val, 0])
    {inb : ∀ a, off a + S128x1024.size a ≤ S1024x1024.size a} {hl} {α : Type} {k : Vec F S128x1024 .f32 → Prog (TpuEff nD τ sig (Elt F) Λ₀ .tc) α}
    {Q : α → sProp 𝕄} :
    outG c a5 p ⊢ iprop((outG c a5 p -∗ WP c (k v) Q)
      -∗ WP c (.op (.load a5 (Rect.unit (s := S1024x1024) off S128x1024.size inb).toLoadRect hl) k) Q) := by
  unfold outG
  iintro ⟨%g, %hg, H⟩ Hk
  iapply (wp_load_buf c a5 (asm g) v ((rows_eq _ r h).trans ((rows_asm g r).trans (hp g hg)))) $$ H
  iintro H
  iapply Hk
  iexists _
  isplitr; · ipureintro; exact hg
  iexact H

/-- A load of a row chunk that is not used. -/
theorem wp_load_out_any (c : Dev nD) (a5 : Memref sig .tc .vmem S1024x1024 .f32) (p : (Fin 8 → Vec F S128x1024 .f32) → Prop) {off : Fin 2 → ℕ}
    {inb : ∀ a, off a + S128x1024.size a ≤ S1024x1024.size a} {hl} {α : Type} {k : Vec F S128x1024 .f32 → Prog (TpuEff nD τ sig (Elt F) Λ₀ .tc) α}
    {Q : α → sProp 𝕄} :
    outG c a5 p ⊢ iprop((∀ v, outG c a5 p -∗ WP c (k v) Q)
      -∗ WP c (.op (.load a5 (Rect.unit (s := S1024x1024) off S128x1024.size inb).toLoadRect hl) k) Q) := by
  unfold outG
  iintro ⟨%g, %hg, H⟩ Hk
  iapply (wp_load_buf c a5 (asm g) _ rfl) $$ H
  iintro H
  iapply Hk
  iexists _
  isplitr; · ipureintro; exact hg
  iexact H

/-! ## Neighbours -/

theorem sh_eq (c : Dev nD) (k : ℕ) (x : Dev nD) (h : x.val = (c.val + k) % 8) : x = sh c k := Fin.ext h

theorem dev_left1 (c : Dev nD) : (⟨k0_dev1 c, k0_dev1_lt c⟩ : Dev nD) = lf c := by revert c; decide
theorem dev_left6 (c : Dev nD) : (⟨k0_dev6 c, k0_dev6_lt c⟩ : Dev nD) = lf c := by revert c; decide
theorem dev_left8 (c : Dev nD) : (⟨k0_dev8 c, k0_dev8_lt c⟩ : Dev nD) = lf c := by revert c; decide
theorem dev_right2 (c : Dev nD) : (⟨k0_dev2 c, k0_dev2_lt c⟩ : Dev nD) = rt c := by revert c; decide
theorem dev_right3 (c : Dev nD) : (⟨k0_dev3 c, k0_dev3_lt c⟩ : Dev nD) = rt c := by revert c; decide
theorem dev_right4 (c : Dev nD) : (⟨k0_dev4 c, k0_dev4_lt c⟩ : Dev nD) = rt c := by revert c; decide
theorem dev_right5 (c : Dev nD) : (⟨k0_dev5 c, k0_dev5_lt c⟩ : Dev nD) = rt c := by revert c; decide
theorem dev_right7 (c : Dev nD) : (⟨k0_dev7 c, k0_dev7_lt c⟩ : Dev nD) = rt c := by revert c; decide
theorem dev_right9 (c : Dev nD) : (⟨k0_dev9 c, k0_dev9_lt c⟩ : Dev nD) = rt c := by revert c; decide

/-! ## The handshake -/

/-- What a device lends its neighbours: the slots they copy into, and that it has opened the cells their copies credit. -/
def lend (c : Dev nD) : sProp 𝕄 :=
  iprop((bigSep Finset.univ fun s : Fin 7 => iprop(slotAny (F := F) c rbM s ∗ reached ER (rsR c s) 0))
    ∗ (bigSep Finset.univ fun s : Fin 4 => iprop(slotAny (F := F) c arM s ∗ reached ER (arR c s) 0))
    ∗ bigSep Finset.univ fun s : Fin 3 => iprop(slotAny (F := F) c alM s ∗ reached ER (alR c s) 0))

/-- What the handshake takes. -/
def shakePre (c : Dev nD) : sProp 𝕄 :=
  iprop(atPos ER (barC c) 0 ∅ 0 ∗ cred (tallyAt (barC c) () 2) ∗ owesE c (O₀ c) ∗ dutyTok ER (barC (lf c)) 0 false
    ∗ dutyTok ER (barC (rt c)) 0 true ∗ reached ER (barC (lf c)) 0 ∗ reached ER (barC (rt c)) 0 ∗ lend (F := F) c)

/-- What the handshake leaves: both neighbours' slots, and the own counter back at zero. -/
def shakePost (c : Dev nD) : sProp 𝕄 :=
  iprop(owesE c (owedAt c 0 0 0) ∗ barPay (F := F) c false ∗ barPay (F := F) c true ∗ semVal (barC c) 0)

variable (a0 : Memref sig .tc .vmem S1024x1024 .bf16) (h0 : a0.IsWhole) (a1 : Memref sig .tc .vmem S1024x1024 .bf16) (h1 : a1.IsWhole)
  (a2 : Memref sig .tc .vmem S8x1024x128 .bf16) (h2 : a2.IsWhole) (a3 : Memref sig .tc .vmem S8x1024x128 .f32) (h3 : a3.IsWhole)
  (a4 : Memref sig .tc .vmem S1024x1024 .bf16) (h4 : a4.IsWhole) (a5 : Memref sig .tc .vmem S1024x1024 .f32) (h5 : a5.IsWhole)
set_option maxHeartbeats 1000000 in
/-- The handshake and the first chunk's queries. -/
theorem wp_part6 (I : Dev nD → Ins F) (K : GSem nD τ sig → ℕ) (c : Dev nD) :
    iprop(know I K ∗ shakePre (F := F) c ∗ bufPt c a0 (I c).x ∗ bufPt c a1 (I c).wq ∗ ∃ z, bufPt (F := F) c qcM z)
      ⊢ WP c (k0_part6 (F := F) a0 h0 a1 h1 a2 h2 a3 h3 a4 h4 a5 h5 rbM hrb sbM hsb arM har alM hal qcM hqc cc0_scratch5 cc0_scratch6 cc0_scratch7 cc0_scratch8 cc0_scratch9 cc0_scratch10) (fun x =>
        iprop(⌜∃ v5 v8 v14, x = ⟨c, devW c, v5, v8, v14, k0_pay10 c, kbV, 64#32, k0_pay11 c⟩⌝
          ∗ shakePost (F := F) c ∗ bufPt c a0 (I c).x ∗ bufPt c a1 (I c).wq ∗ bufPt c qcM (qOf (I c) c))) := by
  simp only [k0_part6_eq_skeleton]
  unfold k0_part6_skel WP shakePre lend
  simp only [semSignalWord, semWaitWord, Prog.lift, Prog.bind_op, Prog.bind_ret, Prog.pure_eq_ret, wp_deviceId, dev_left1, dev_right2]
  iintro ⟨#HK, ⟨Hat, Hcr, HO, Ht1, Ht2, #Hr1, #Hr2, Hrb, Har, Hal⟩, Hx, Hw, Hq⟩
  ihave #HIl := (know_bar I K (lf c)) $$ HK
  ihave #HIr := (know_bar I K (rt c)) $$ HK
  ihave #HIc := (know_bar I K c) $$ HK
  ihave #Hlev := (know_lev I K) $$ HK
  unfold owesE
  icases HO with ⟨%W, HO⟩
  iapply (Rounds.wp_signal 𝒱₀ ER (rd I) (c : Thread nD τ) none (defs := defs₀ (F := F)) (Γ := .empty) (dst := (lf c : Thread nD τ)) (sem := barS) (r := 0)
      (d := false) (κ := K (barC (lf c))) (k' := 1) (by rw [duties_bar]; decide) rfl () (owedAt c 0 0 0 + tallyAt (barC (rt c)) () 1) rfl)
    $$ [HO Ht1 Hrb Har]
  · isplitr; · iexact HIl
    isplitl [HO]; · iexact HO
    isplitl [Ht1]; · iexact Ht1
    isplitl [Hrb Har]
    · rw [show (rd I).payload (barC (lf c)) 0 false = barPay (F := F) (lf c) false from rfl]
      unfold barPay; rw [rt_lf]
      isplitl [Hrb]; · iexact Hrb
      iexact Har
    · iexact Hr1
  iintro HO
  iapply (Rounds.wp_signal 𝒱₀ ER (rd I) (c : Thread nD τ) none (defs := defs₀ (F := F)) (Γ := .empty) (dst := (rt c : Thread nD τ)) (sem := barS) (r := 0)
      (d := true) (κ := K (barC (rt c))) (k' := 1) (by rw [duties_bar]; decide) rfl () (owedAt c 0 0 0) rfl)
    $$ [HO Ht2 Hal]
  · isplitr; · iexact HIr
    isplitl [HO]; · iexact HO
    isplitl [Ht2]; · iexact Ht2
    isplitl [Hal]
    · rw [show (rd I).payload (barC (rt c)) 0 true = barPay (F := F) (rt c) true from rfl]
      unfold barPay; rw [lf_rt]
      iexact Hal
    · iexact Hr2
  iintro HO
  iapply (Rounds.wp_wait_rest_token 𝒱₀ ER (rd I) (c : Thread nD τ) none (defs := defs₀ (F := F)) (Γ := .empty) (κ := K (barC c))
      (wpE_semWait_eq 𝒱₀ (c : Thread nD τ) none Set.univ) (Set.mem_univ _) () (O := owedAt c 0 0 0) (W := W) (R := 0) (m := 0) (T := ∅)
      ((Nat.zero_add 2).trans (expect_bar I c).symm)) $$ [Hcr HO Hat]
  · isplitr; · iexact HIc
    isplitl [Hcr]; · iexact Hcr
    isplitl [HO]; · iexact HO
    isplitr
    · iapply (mayWait c (.reg barS) 0 0 0 (fun _ => by show 1 < 2; omega) (fun _ => by show 1 < 10; omega) (fun _ => by show 1 < 11; omega))
      iexact Hlev
    iexact Hat
  iintro ⟨HO, Hat, -, Hpay⟩
  imod (Rounds.cell_close ER (rd I) (Set.mem_univ (K (barC c))) id (duties_later I (barC c))) $$ [Hat] with Hbar
  · isplitr; · iexact HIc
    iexact Hat
  ihave Hp := (Entails.of_eq (rest_bar I c)) $$ Hpay
  icases Hp with ⟨Hp1, Hp2⟩
  iapply (wp_queries a0 a1 c (I c) c (k0_off1_eq c) (p := k0_pay9) (pay9_eq _ _)) $$ [Hx Hw Hq]
  · isplitl [Hx]; · iexact Hx
    isplitl [Hw]; · iexact Hw
    iexact Hq
  iintro ⟨Hx, Hw, Hq⟩
  iapply (wp_done c)
  isplitr; · ipureintro; exact ⟨_, _, _, rfl⟩
  unfold shakePost owesE
  isplitl [HO Hp1 Hp2 Hbar]
  · isplitl [HO]; · iexists _; iexact HO
    isplitl [Hp1]; · iexact Hp1
    isplitl [Hp2]; · iexact Hp2
    iexact Hbar
  isplitl [Hx]; · iexact Hx
  isplitl [Hw]; · iexact Hw
  iexact Hq

end Cert.KernelIdeal.Pf

end
-- ==== Proof.Scatter.lean ====
/-
  The reduce-scatter: each round's chunk is computed while the partial sum travels rightward; the running sum of chunk
  `c + 1` ends up on device `c`.
-/
module

public import proofs.«01_k».proof.Proof.Open

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A counted loop without a carried value. -/
theorem wp_units (c : Dev nD) {lb ub st : BitVec 32} {ok : Scf.OK lb ub st} {n : ℕ} (ht : Scf.trips lb ub st = n) (Iv : ℕ → sProp 𝕄)
    {body : Fin (Scf.trips lb ub st) → Unit → Prog (TpuEff nD τ sig (Elt F) Λ₀ .tc) Unit}
    (hb : ∀ k : Fin (Scf.trips lb ub st), Iv k.val ⊢ WP c (body k ()) (fun _ => Iv (k.val + 1))) :
    Iv 0 ⊢ WP c (Scf.for lb ub st ok () body) (fun _ => Iv n) := by
  have hf := Scf.wp_for frame (wpE (defs₀ (F := F)) 𝒱₀ (c : Thread nD τ) none) Set.univ lb ub st ok () body (fun n _ => Iv n)
    (fun k acc => hb k) (Q := fun _ => Iv n)
  refine BIBase.Entails.trans ?_ hf
  rw [ht]
  iintro H
  isplitl [H]; · iexact H
  iintro %acc H
  iexact H

/-- Every slot's copy credits the same. -/
theorem credit_slot {n : ℕ} (M : Memref sig .tc .vmem (Sn n) .bf16) (off : Fin 3 → ℕ) (inb : ∀ a, off a + S1x128x1024.size a ≤ (Sn n).size a) :
    (slotO M off inb).view.dmaCredit = N := rfl

/-! ## What one round of copies needs and leaves -/

/-- What a copy into slot `s` of `M` on `p` needs besides its source: the slot, both cells' rounds, and the place in its own
    cell's. -/
def kit {n : ℕ} (p : Dev nD) (M : Memref sig .tc .vmem (Sn n) .bf16) (g₁ g₂ : GSem nD τ sig) (s : Fin n) : sProp 𝕄 :=
  iprop(slotAny (F := F) p M s ∗ reached ER g₂ 0 ∗ reached ER g₁ 0 ∗ dutyTok ER g₁ 0 false ∗ dutyTok ER g₂ 0 false ∗ atPos ER g₁ 0 ∅ 0)

/-- What the wait for a copy into the cell `g` needs. -/
def due (g : GSem nD τ sig) : sProp 𝕄 := iprop(cred (tallyAt g () N) ∗ atPos ER g 0 ∅ 0)

/-- The reduce-scatter after `a` copies sent and `b` received. -/
def rsF (I : Dev nD → Ins F) (c : Dev nD) (a b : ℕ) : sProp 𝕄 :=
  iprop(fam a (fun s : Fin 7 => due (F := F) (rsS c s)) (fun s => iprop(slotAny (F := F) c sbM s ∗ kit (F := F) (rt c) rbM (rsS c s) (rsR (rt c) s) s))
    ∗ fam b (fun s : Fin 7 => iprop(semVal (rsR c s) 0 ∗ slotPt c rbM s fullShare (RS I s.val (lf c)))) (fun s => due (F := F) (rsR c s))
    ∗ owesE c (owedAt c a 0 0))

/-- The same, with the source slot of the next copy taken out. -/
def rsHole (I : Dev nD → Ins F) (c : Dev nD) (s : Fin 7) (b : ℕ) : sProp 𝕄 :=
  iprop(kit (F := F) (rt c) rbM (rsS c s) (rsR (rt c) s) s
    ∗ (due (F := F) (rsS c s) -∗ fam (s.val + 1) (fun s : Fin 7 => due (F := F) (rsS c s))
        (fun s => iprop(slotAny (F := F) c sbM s ∗ kit (F := F) (rt c) rbM (rsS c s) (rsR (rt c) s) s)))
    ∗ fam b (fun s : Fin 7 => iprop(semVal (rsR c s) 0 ∗ slotPt c rbM s fullShare (RS I s.val (lf c)))) (fun s => due (F := F) (rsR c s))
    ∗ owesE c (owedAt c s.val 0 0))

theorem rs_open (I : Dev nD → Ins F) (c : Dev nD) (s : Fin 7) (b : ℕ) :
    rsF I c s.val b ⊢ iprop(slotAny (F := F) c sbM s ∗ rsHole I c s b) := by
  unfold rsF rsHole
  iintro ⟨Hf, Hg, HO⟩
  ihave Hf := (fam_step s _ _) $$ Hf
  icases Hf with ⟨⟨Hs, Hk⟩, Hw⟩
  isplitl [Hs]; · iexact Hs
  isplitl [Hk]; · iexact Hk
  isplitl [Hw]; · iexact Hw
  isplitl [Hg]; · iexact Hg
  iexact HO

/-- Round `s`'s copy to the right neighbour. -/
theorem wp_rs_send (I : Dev nD → Ins F) (K : GSem nD τ sig → ℕ) (c : Dev nD) (s : Fin 7) (b : ℕ) {x : Dev nD} (hx : x = rt c)
    {s₁ s₂ : DmaSem sig} (hs₁ : s₁ = (⟨6 + s.val, by omega⟩ : Fin 34)) (hs₂ : s₂ = (⟨13 + s.val, by omega⟩ : Fin 34))
    {offs offd : Fin 3 → ℕ} (hos : offs = ![s.val, 0, 0]) (hod : offd = ![s.val, 0, 0])
    {inbs : ∀ a, offs a + S1x128x1024.size a ≤ (Sn 7).size a} {inbd : ∀ a, offd a + S1x128x1024.size a ≤ (Sn 7).size a}
    {hsc} {hsrc} {hdst} {hsem} {α : Type} {k : PUnit → Prog (TpuEff nD τ sig (Elt F) Λ₀ .tc) α} {Q : α → sProp 𝕄} :
    iprop(know I K ∗ slotPt c sbM s fullShare (RS I s.val c) ∗ rsHole I c s b)
      ⊢ iprop((rsF I c (s.val + 1) b -∗ WP c (k ⟨⟩) Q)
        -∗ WP c (.op (.enqueueDma (slotO sbM offs inbs) (.remote (Dev.tc x) (slotO rbM offd inbd) (.dma s₁) hsc) (.dma s₂) hsrc hdst hsem) k) Q) := by
  unfold rsHole kit
  iintro ⟨#HK, Hs, ⟨Hd, #Hr2, #Hr1, Ht1, Ht2, Hat⟩, Hw, Hg, HO⟩ Hk
  iapply (wp_send_dma I K c (rt c) (6 + s.val) (13 + s.val) (by omega) (by omega) (by omega) (by omega) hs₁ hs₂ sbM rbM s s hos hod fullShare
    (RS I s.val c) hx (credit_rb s) (Entails.of_eq (pay_rsS I c s).symm) (by rw [pay_rsR, lf_rt]) (owedAt c (s.val + 1) 0 0) (owedAt_rs c s 0 0))
    $$ [Hs Hd Ht1 Ht2 HO]
  · isplitr; · iexact HK
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  unfold rsF
  isplitl [Hw Hc Hat]
  · iapply Hw; unfold due
    isplitl [Hc]; · iexact Hc
    iexact Hat
  isplitl [Hg]; · iexact Hg
  iexact HO

/-- The wait for round `s`'s copy from the left neighbour. -/
theorem wp_rs_wait (I : Dev nD → Ins F) (K : GSem nD τ sig → ℕ) (c : Dev nD) (s : Fin 7)
    {sem : DmaSem sig} (hs : sem = (⟨13 + s.val, by omega⟩ : Fin 34)) {nm : ℕ} {src : Memref sig .tc .vmem S128x1024 .bf16} {M : Memref sig .tc .vmem (Sn nm) .bf16} {off : Fin 3 → ℕ}
    {inb : ∀ a, off a + S1x128x1024.size a ≤ (Sn nm).size a} {hsrc : src.view.WordExact} {hdst : (slotO M off inb).view.WordExact} {α : Type} {k : PUnit → Prog (TpuEff nD τ sig (Elt F) Λ₀ .tc) α} {Q : α → sProp 𝕄} :
    iprop(know I K ∗ rsF I c (s.val + 1) s.val)
      ⊢ iprop((rsF I c (s.val + 1) (s.val + 1) -∗ WP c (k ⟨⟩) Q) -∗ WP c (.op (.waitDma2 sem src (slotO M off inb) hsrc hdst) k) Q) := by
  unfold rsF
  iintro ⟨#HK, Hf, Hg, HO⟩ Hk
  ihave Hg := (fam_step s _ _) $$ Hg
  icases Hg with ⟨Hg, Hw⟩
  unfold due
  icases Hg with ⟨Hc, Hat⟩
  iapply (wp_wait_dma I K c (13 + s.val) (by omega) (by omega) hs (credit_slot M off inb) (owedAt c (s.val + 1) 0 0)
    (mayWait c (.dma (⟨13 + s.val, by omega⟩ : Fin 34)) (s.val + 1) 0 0
      (fun _ => lt_of_eq_of_lt (lv_rsR c s ()) (by omega)) (fun _ => lt_of_eq_of_lt (lv_rsR c s ()) (by omega))
      (fun _ => lt_of_eq_of_lt (lv_rsR c s ()) (by omega)))) $$ [Hc Hat HO]
  · isplitr; · iexact HK
    isplitl [Hc]; · iexact Hc
    isplitl [Hat]; · iexact Hat
    iexact HO
  rw [pay_rsR]
  iintro ⟨Hv, Hp, HO⟩
  iapply Hk
  isplitl [Hf]; · iexact Hf
  isplitr [HO]
  · iapply Hw
    isplitl [Hv]; · iexact Hv
    iexact Hp
  iexact HO

/-- The load of a received partial sum. -/
theorem wp_rs_load (I : Dev nD → Ins F) (c : Dev nD) (a b : ℕ) (s : Fin 7) (hs : s.val < b) {off : Fin 3 → ℕ} (h : off = ![s.val, 0, 0])
    {inb : ∀ a, off a + S1x128x1024.size a ≤ (Sn 7).size a} {hl} {α : Type} {k : Vec F S1x128x1024 .bf16 → Prog (TpuEff nD τ sig (Elt F) Λ₀ .tc) α}
    {Q : α → sProp 𝕄} :
    rsF I c a b ⊢ iprop((rsF I c a b -∗ WP c (k (up (RS I s.val (lf c)))) Q)
      -∗ WP c (.op (.load rbM (Rect.unit (s := Sn 7) off S1x128x1024.size inb).toLoadRect hl) k) Q) := by
  unfold rsF
  iintro ⟨Hf, Hg, HO⟩ Hk
  ihave Hg := (fam_borrow b s hs _ _) $$ Hg
  icases Hg with ⟨⟨Hv, Hp⟩, Hw⟩
  iapply (wp_load_slot c rbM s fullShare _ h) $$ Hp
  iintro Hp
  iapply Hk
  isplitl [Hf]; · iexact Hf
  isplitr [HO]
  · iapply Hw
    isplitl [Hv]; · iexact Hv
    iexact Hp
  iexact HO

variable (a0 : Memref sig .tc .vmem S1024x1024 .bf16) (h0 : a0.IsWhole) (a1 : Memref sig .tc .vmem S1024x1024 .bf16) (h1 : a1.IsWhole)
  (a2 : Memref sig .tc .vmem S8x1024x128 .bf16) (h2 : a2.IsWhole) (a3 : Memref sig .tc .vmem S8x1024x128 .f32) (h3 : a3.IsWhole)
  (a4 : Memref sig .tc .vmem S1024x1024 .bf16) (h4 : a4.IsWhole) (a5 : Memref sig .tc .vmem S1024x1024 .f32) (h5 : a5.IsWhole)
set_option maxHeartbeats 1000000 in
/-- The first chunk: attention, and its copy. -/
theorem wp_part8 (I : Dev nD → Ins F) (K : GSem nD τ sig → ℕ) (c : Dev nD) (v8 v14 : BitVec 32) :
    iprop(know I K ∗ rsF I c 0 0 ∗ attn a2 a3 a4 c (I c) c ∗ outG c a5 (fun _ => True))
      ⊢ WP c (k0_part8 (F := F) a0 h0 a1 h1 a2 h2 a3 h3 a4 h4 a5 h5 rbM hrb sbM hsb arM har alM hal qcM hqc cc0_scratch5 cc0_scratch6 cc0_scratch7 cc0_scratch8 cc0_scratch9 cc0_scratch10 c (devW c) v8 v14
          (k0_pay12 (k0_pay10 c) 64#32 (k0_pay11 c)) (k0_pay13 kbV) (k0_pay14 (k0_pay10 c) kbV 64#32 (k0_pay11 c))) (fun x =>
        iprop(⌜x = 1#32⌝ ∗ rsF I c 1 0 ∗ attn a2 a3 a4 c (I c) c ∗ outG c a5 (fun _ => True))) := by
  simp only [k0_part8_eq_skeleton]
  unfold k0_part8_skel
  iintro ⟨#HK, Hrs, Hat, Ho⟩
  iapply (wp_seq c (wp_t1 a0 h0 a1 h1 a2 h2 a3 h3 a4 h4 a5 h5 c (I c) v8 v14)) $$ Hat
  iintro %acc ⟨%hacc, Hat⟩
  subst hacc
  simp only [Prog.lift, Prog.bind_op, Prog.bind_ret, Prog.pure_eq_ret]
  iapply (wp_load_out_any c a5 _) $$ Ho
  iintro %w0 Ho
  iapply (wp_store_out c a5 _ (fun g => g c = part (I c) c) c (fun g _ => Function.update_self _ _ _) (k0_off1_eq c)) $$ Ho
  iintro Ho
  iapply (wp_load_out c a5 _ c (part (I c) c) (fun g h => h) (k0_off1_eq c)) $$ Ho
  iintro Ho
  have e0 : rsF I c 0 0 ⊢ iprop(slotAny (F := F) c sbM 0 ∗ rsHole I c 0 0) := rs_open I c 0 0
  ihave Hrs := e0 $$ Hrs
  unfold slotAny
  icases Hrs with ⟨⟨%A, Hs⟩, Hrs⟩
  iapply (wp_load_slot c sbM 0 fullShare A rfl) $$ Hs
  iintro Hs
  iapply (wp_store_slot c sbM 0 A rfl) $$ Hs
  iintro Hs
  iapply (wp_rs_send I K c 0 0 (dev_right3 c) (sem_at _ (0 : Fin 7) rfl _ _) (sem_at _ (0 : Fin 7) rfl _ _) rfl rfl) $$ [Hs Hrs]
  · isplitr; · iexact HK
    isplitl [Hs]; · iexact Hs
    iexact Hrs
  iintro Hrs
  iapply (wp_done c)
  isplitr; · ipureintro; rfl
  isplitl [Hrs]; · iexact Hrs
  isplitl [Hat]; · iexact Hat
  unfold outG
  icases Ho with ⟨%g, -, Ho⟩
  iexists g
  isplitr; · ipureintro; trivial
  iexact Ho

/-! ## The rounds between -/

theorem off5_row (c : Dev nD) (k : Fin k0_t2_loop.trips) : k0_off5 c k = ![128 * (sh c (7 * (k.val + 1))).val, 0] := by
  rw [k0_off5_eq]; revert c k; decide
theorem off15_row (c : Dev nD) : k0_off15 c = ![128 * (rt c).val, 0] := by
  rw [k0_off15_eq]; revert c; decide

/-- A round's queries. -/
theorem wp_part1 (c : Dev nD) (i : Ins F) (k : Fin k0_t2_loop.trips) (r : Fin 8) :
    iprop(bufPt c a0 i.x ∗ bufPt c a1 i.wq ∗ attn a2 a3 a4 c i r)
      ⊢ WP c (k0_part1 (F := F) a0 h0 a1 h1 a2 h2 a3 h3 a4 h4 a5 h5 rbM hrb sbM hsb arM har alM hal qcM hqc cc0_scratch5 cc0_scratch6 cc0_scratch7 cc0_scratch8 cc0_scratch9 cc0_scratch10 c (devW c) 1#32 1#32 k) (fun x =>
        iprop(⌜∃ u v w, x = ⟨u, v, w, kbV, qbV (rowW (sh c (7 * (k.val + 1))))⟩⌝
          ∗ bufPt c a0 i.x ∗ bufPt c a1 i.wq ∗ attn a2 a3 a4 c i (sh c (7 * (k.val + 1))))) := by
  simp only [k0_part1_eq_skeleton]
  unfold k0_part1_skel attn
  simp only [Prog.lift, Prog.bind_op, Prog.bind_ret, Prog.pure_eq_ret]
  iintro ⟨Hx, Hw, Hk, Hv, Ho, Hq⟩
  iapply (wp_queries a0 a1 c i (sh c (7 * (k.val + 1))) (off5_row c k) (p := k0_pay1) rfl) $$ [Hx Hw Hq]
  · isplitl [Hx]; · iexact Hx
    isplitl [Hw]; · iexact Hw
    iexists _; iexact Hq
  iintro ⟨Hx, Hw, Hq⟩
  rw [qb_back c k]
  iapply (wp_done c)
  isplitr; · ipureintro; exact ⟨_, _, _, rfl⟩
  isplitl [Hx]; · iexact Hx
  isplitl [Hw]; · iexact Hw
  isplitl [Hk]; · iexact Hk
  isplitl [Hv]; · iexact Hv
  isplitl [Ho]; · iexact Ho
  iexact Hq

/-- A round's attention, stored. -/
theorem wp_part2 (c : Dev nD) (i : Ins F) (k : Fin k0_t2_loop.trips) (v8 u w : BitVec 32) :
    iprop(attn a2 a3 a4 c i (sh c (7 * (k.val + 1))) ∗ outG c a5 (fun _ => True))
      ⊢ WP c (k0_part2 (F := F) a0 h0 a1 h1 a2 h2 a3 h3 a4 h4 a5 h5 rbM hrb sbM hsb arM har alM hal qcM hqc cc0_scratch5 cc0_scratch6 cc0_scratch7 cc0_scratch8 cc0_scratch9 cc0_scratch10 c v8 k u w kbV (qbV (rowW (sh c (7 * (k.val + 1)))))) (fun _ =>
        iprop(attn a2 a3 a4 c i (sh c (7 * (k.val + 1)))
          ∗ outG c a5 (fun g => g (sh c (7 * (k.val + 1))) = part i (sh c (7 * (k.val + 1)))))) := by
  simp only [k0_part2_eq_skeleton]
  unfold k0_part2_skel
  iintro ⟨Hat, Ho⟩
  iapply (wp_seq c (wp_t3 a0 h0 a1 h1 a2 h2 a3 h3 a4 h4 a5 h5 c i (sh c (7 * (k.val + 1))) v8 k u w)) $$ Hat
  iintro %acc ⟨%hacc, Hat⟩
  subst hacc
  simp only [Prog.lift, Prog.bind_op, Prog.bind_ret, Prog.pure_eq_ret]
  iapply (wp_load_out_any c a5 _) $$ Ho
  iintro %w0 Ho
  iapply (wp_store_out c a5 _ (fun g => g (sh c (7 * (k.val + 1))) = part i (sh c (7 * (k.val + 1)))) (sh c (7 * (k.val + 1)))
    (fun g _ => Function.update_self _ _ _) (off5_row c k)) $$ Ho
  iintro Ho
  iapply (wp_done c)
  isplitl [Hat]; · iexact Hat
  iexact Ho

/-- What the rounds keep: round `n` is the next. -/
def roundInv (I : Dev nD → Ins F) (K : GSem nD τ sig → ℕ) (c : Dev nD) (n : ℕ) : sProp 𝕄 :=
  iprop(know I K ∗ bufPt c a0 (I c).x ∗ bufPt c a1 (I c).wq ∗ attn a2 a3 a4 c (I c) (sh c (7 * n)) ∗ outG c a5 (fun _ => True) ∗ rsF I c (n + 1) n)

set_option maxHeartbeats 2000000 in
/-- One round: attention on the next chunk, the partial sum received, both added and sent on. -/
theorem wp_t2 (I : Dev nD → Ins F) (K : GSem nD τ sig → ℕ) (c : Dev nD) (v8 : BitVec 32) (k : Fin k0_t2_loop.trips) :
    roundInv a0 a1 a2 a3 a4 a5 I K c k.val ⊢ WP c (k0_t2_body (F := F) a0 h0 a1 h1 a2 h2 a3 h3 a4 h4 a5 h5 rbM hrb sbM hsb arM har alM hal qcM hqc cc0_scratch5 cc0_scratch6 cc0_scratch7 cc0_scratch8 cc0_scratch9 cc0_scratch10 c (devW c) v8 1#32 k ())
      (fun _ => roundInv a0 a1 a2 a3 a4 a5 I K c (k.val + 1)) := by
  have hk : k.val < 6 := Nat.lt_of_lt_of_le k.isLt (le_of_eq trips_t2)
  have h6 : k.val < 7 := by omega
  have h7 : k.val + 1 < 7 := by omega
  unfold k0_t2_body roundInv
  iintro ⟨#HK, Hx, Hw, Hat, Ho, Hrs⟩
  iapply (wp_seq c (wp_part1 a0 h0 a1 h1 a2 h2 a3 h3 a4 h4 a5 h5 c (I c) k (sh c (7 * k.val)))) $$ [Hx Hw Hat]
  · isplitl [Hx]; · iexact Hx
    isplitl [Hw]; · iexact Hw
    iexact Hat
  iintro %y ⟨%hy, Hx, Hw, Hat⟩
  obtain ⟨u, v, w, rfl⟩ := hy
  dsimp only
  iapply (wp_seq c (wp_part2 a0 h0 a1 h1 a2 h2 a3 h3 a4 h4 a5 h5 c (I c) k v8 u w)) $$ [Hat Ho]
  · isplitl [Hat]; · iexact Hat
    iexact Ho
  iintro %z ⟨Hat, Ho⟩
  simp only [k0_part3_eq_skeleton]
  unfold k0_part3_skel
  simp only [Prog.lift, Prog.bind_op, Prog.bind_ret, Prog.pure_eq_ret]
  iapply (wp_rs_wait I K c ⟨k.val, h6⟩ (sem_at _ (⟨k.val, h6⟩ : Fin 7) (k0_off9_eq k) _ _)) $$ [Hrs]
  · isplitr; · iexact HK
    iexact Hrs
  iintro Hrs
  iapply (wp_load_out c a5 _ (sh c (7 * (k.val + 1))) (part (I c) (sh c (7 * (k.val + 1)))) (fun g h => h) (off5_row c k)) $$ Ho
  iintro Ho
  iapply (wp_rs_load I c (k.val + 1) (k.val + 1) ⟨k.val, h6⟩ (Nat.lt_succ_self _) (k0_off11_eq k)) $$ Hrs
  iintro Hrs
  iapply (wp_load_out_any c a5 _) $$ Ho
  iintro %w1 Ho
  iapply (wp_store_out c a5 _ (fun g => g (sh c (7 * (k.val + 1))) = k0_pay5 (part (I c) (sh c (7 * (k.val + 1)))) (up (RS I k.val (lf c))))
    (sh c (7 * (k.val + 1))) (fun g _ => Function.update_self _ _ _) (off5_row c k)) $$ Ho
  iintro Ho
  iapply (wp_load_out c a5 _ (sh c (7 * (k.val + 1))) _ (fun g h => h) (off5_row c k)) $$ Ho
  iintro Ho
  have e0 : rsF I c (k.val + 1) (k.val + 1) ⊢ iprop(slotAny (F := F) c sbM (⟨k.val + 1, h7⟩ : Fin 7)
    ∗ rsHole I c (⟨k.val + 1, h7⟩ : Fin 7) (k.val + 1)) := rs_open I c ⟨k.val + 1, h7⟩ (k.val + 1)
  ihave Hrs := e0 $$ Hrs
  unfold slotAny
  icases Hrs with ⟨⟨%A, Hs⟩, Hrs⟩
  iapply (wp_load_slot c sbM ⟨k.val + 1, h7⟩ fullShare A (k0_off12_eq k)) $$ Hs
  iintro Hs
  iapply (wp_store_slot c sbM ⟨k.val + 1, h7⟩ A (k0_off12_eq k)) $$ Hs
  iintro Hs
  iapply (wp_rs_send I K c ⟨k.val + 1, h7⟩ (k.val + 1) (dev_right4 c) (sem_at _ (⟨k.val + 1, h7⟩ : Fin 7) (k0_off13_eq k) _ _)
    (sem_at _ (⟨k.val + 1, h7⟩ : Fin 7) (k0_off13_eq k) _ _) (k0_off14_eq k) (k0_off14_eq k)) $$ [Hs Hrs]
  · isplitr; · iexact HK
    isplitl [Hs]; · iexact Hs
    iexact Hrs
  iintro Hrs
  iapply (wp_done c)
  isplitr; · iexact HK
  isplitl [Hx]; · iexact Hx
  isplitl [Hw]; · iexact Hw
  isplitl [Hat]; · iexact Hat
  isplitl [Ho]
  · unfold outG
    icases Ho with ⟨%g, -, Ho⟩
    iexists g
    isplitr; · ipureintro; trivial
    iexact Ho
  iexact Hrs

set_option maxHeartbeats 1000000 in
/-- The rounds between, and the last chunk's queries. -/
theorem wp_part9 (I : Dev nD → Ins F) (K : GSem nD τ sig → ℕ) (c : Dev nD) (v8 : BitVec 32) :
    roundInv a0 a1 a2 a3 a4 a5 I K c 0
      ⊢ WP c (k0_part9 (F := F) a0 h0 a1 h1 a2 h2 a3 h3 a4 h4 a5 h5 rbM hrb sbM hsb arM har alM hal qcM hqc cc0_scratch5 cc0_scratch6 cc0_scratch7 cc0_scratch8 cc0_scratch9 cc0_scratch10 c (devW c) v8 1#32) (fun x =>
        iprop(⌜∃ u v, x = ⟨u, v, kbV, k0_pay20 (devW c), k0_pay21 (devW c), k0_pay22 (devW c)⟩⌝
          ∗ bufPt c a0 (I c).x ∗ bufPt c a1 (I c).wq ∗ attn a2 a3 a4 c (I c) (rt c) ∗ outG c a5 (fun _ => True) ∗ rsF I c 7 6)) := by
  simp only [k0_part9_eq_skeleton]
  unfold k0_part9_skel
  iintro H
  iapply (wp_seq c (wp_units c trips_t2 (roundInv a0 a1 a2 a3 a4 a5 I K c)
    (fun k => wp_t2 a0 h0 a1 h1 a2 h2 a3 h3 a4 h4 a5 h5 I K c v8 k))) $$ H
  iintro %_ H
  unfold roundInv attn
  icases H with ⟨-, Hx, Hw, ⟨Hk, Hv, Hwo, Hq⟩, Ho, Hrs⟩
  simp only [Prog.lift, Prog.bind_op, Prog.bind_ret, Prog.pure_eq_ret]
  iapply (wp_queries a0 a1 c (I c) (rt c) (off15_row c) (p := k0_pay18) (pay18_eq _ _)) $$ [Hx Hw Hq]
  · isplitl [Hx]; · iexact Hx
    isplitl [Hw]; · iexact Hw
    iexists _; iexact Hq
  iintro ⟨Hx, Hw, Hq⟩
  iapply (wp_done c)
  isplitr; · ipureintro; exact ⟨_, _, rfl⟩
  isplitl [Hx]; · iexact Hx
  isplitl [Hw]; · iexact Hw
  isplitl [Hk Hv Hwo Hq]
  · isplitl [Hk]; · iexact Hk
    isplitl [Hv]; · iexact Hv
    isplitl [Hwo]; · iexact Hwo
    iexact Hq
  isplitl [Ho]; · iexact Ho
  iexact Hrs

end Cert.KernelIdeal.Pf

end
-- ==== Proof.Gather.lean ====
/-
  The all-gather: the finished chunks travel both ways round the ring; what has been sent and received so far.
-/
module

public import proofs.«01_k».proof.Proof.Scatter

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The rightward all-gather's sends after `a` copies, and its receipts after `b`: of a received slot one half is kept, for the loads. -/
def arOut (c : Dev nD) (a : ℕ) : sProp 𝕄 :=
  fam a (fun s : Fin 4 => due (F := F) (arS c s)) (fun s => kit (F := F) (rt c) arM (arS c s) (arR (rt c) s) s)
def arIn (I : Dev nD → Ins F) (c : Dev nD) (b : ℕ) : sProp 𝕄 :=
  fam b (fun s : Fin 4 => iprop(semVal (arR c s) 0 ∗ slotPt c arM s fullShare.right (ownB I (sh c (7 * (s.val + 1)))))) (fun s => due (F := F) (arR c s))

/-- A copy of the rightward all-gather. -/
theorem wp_ar_send (I : Dev nD → Ins F) (K : GSem nD τ sig → ℕ) (c : Dev nD) (s : Fin 4) (e : ℕ) {x : Dev nD} (hx : x = rt c)
    {ns : ℕ} (Ms : Memref sig .tc .vmem (Sn ns) .bf16) (ss : Fin ns) (q : PosShare TreeShare) (A : Vec F S128x1024 .bf16)
    (hp : dmaPay I c (20 + s.val) = slotPt c Ms ss q A) (hA : ownB I (sh (rt c) (7 * (s.val + 1))) = A)
    {s₁ s₂ : DmaSem sig} (hs₁ : s₁ = (⟨20 + s.val, by omega⟩ : Fin 34)) (hs₂ : s₂ = (⟨24 + s.val, by omega⟩ : Fin 34))
    {offs offd : Fin 3 → ℕ} (hos : offs = ![ss.val, 0, 0]) (hod : offd = ![s.val, 0, 0])
    {inbs : ∀ a, offs a + S1x128x1024.size a ≤ (Sn ns).size a} {inbd : ∀ a, offd a + S1x128x1024.size a ≤ (Sn 4).size a}
    {hsc} {hsrc} {hdst} {hsem} {α : Type} {k : PUnit → Prog (TpuEff nD τ sig (Elt F) Λ₀ .tc) α} {Q : α → sProp 𝕄} :
    iprop(know I K ∗ slotPt c Ms ss q A ∗ arOut (F := F) c s.val ∗ owesE c (owedAt c 7 s.val e))
      ⊢ iprop(((arOut (F := F) c (s.val + 1) ∗ owesE c (owedAt c 7 (s.val + 1) e)) -∗ WP c (k ⟨⟩) Q)
        -∗ WP c (.op (.enqueueDma (slotO Ms offs inbs) (.remote (Dev.tc x) (slotO arM offd inbd) (.dma s₁) hsc) (.dma s₂) hsrc hdst hsem) k) Q) := by
  unfold arOut
  iintro ⟨#HK, Hs, Hf, HO⟩ Hk
  ihave Hf := (fam_step s _ _) $$ Hf
  unfold kit
  icases Hf with ⟨⟨Hd, #Hr2, #Hr1, Ht1, Ht2, Hat⟩, Hw⟩
  iapply (wp_send_dma I K c (rt c) (20 + s.val) (24 + s.val) (by omega) (by omega) (by omega) (by omega) hs₁ hs₂ Ms arM ss s hos hod q A hx
    (credit_ar s) (Entails.of_eq hp.symm) (by rw [pay_arR, hA]) (owedAt c 7 (s.val + 1) e) (owedAt_ar c 7 s e)) $$ [Hs Hd Ht1 Ht2 HO]
  · isplitr; · iexact HK
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hw Hc Hat]
  · iapply Hw; unfold due
    isplitl [Hc]; · iexact Hc
    iexact Hat
  iexact HO

/-- A wait of the rightward all-gather: the slot's two halves, one kept in the family. -/
theorem wp_ar_wait (I : Dev nD → Ins F) (K : GSem nD τ sig → ℕ) (c : Dev nD) (s : Fin 4) (a e : ℕ)
    (ha : a < 4 → 10 + 2 * s.val < 10 + 2 * a) (he : e < 3 → 10 + 2 * s.val < 11 + 2 * e)
    {sem : DmaSem sig} (hs : sem = (⟨24 + s.val, by omega⟩ : Fin 34)) {nm : ℕ} {src : Memref sig .tc .vmem S128x1024 .bf16}
    {M : Memref sig .tc .vmem (Sn nm) .bf16} {off : Fin 3 → ℕ} {inb : ∀ a, off a + S1x128x1024.size a ≤ (Sn nm).size a}
    {hsrc : src.view.WordExact} {hdst : (slotO M off inb).view.WordExact} {α : Type}
    {k : PUnit → Prog (TpuEff nD τ sig (Elt F) Λ₀ .tc) α} {Q : α → sProp 𝕄} :
    iprop(know I K ∗ arIn I c s.val ∗ owesE c (owedAt c 7 a e))
      ⊢ iprop(((slotPt c arM s fullShare.left (ownB I (sh c (7 * (s.val + 1)))) ∗ arIn I c (s.val + 1) ∗ owesE c (owedAt c 7 a e)) -∗ WP c (k ⟨⟩) Q)
        -∗ WP c (.op (.waitDma2 sem src (slotO M off inb) hsrc hdst) k) Q) := by
  unfold arIn
  iintro ⟨#HK, Hf, HO⟩ Hk
  ihave Hf := (fam_step s _ _) $$ Hf
  unfold due
  icases Hf with ⟨⟨Hc, Hat⟩, Hw⟩
  iapply (wp_wait_dma I K c (24 + s.val) (by omega) (by omega) hs (credit_slot M off inb) (owedAt c 7 a e)
    (mayWait c (.dma (⟨24 + s.val, by omega⟩ : Fin 34)) 7 a e (fun h => absurd h (lt_irrefl _))
      (fun h => lt_of_eq_of_lt (lv_arR c s ()) (ha h)) (fun h => lt_of_eq_of_lt (lv_arR c s ()) (he h)))) $$ [Hc Hat HO]
  · isplitr; · iexact HK
    isplitl [Hc]; · iexact Hc
    isplitl [Hat]; · iexact Hat
    iexact HO
  rw [pay_arR]
  iintro ⟨Hv, Hp, HO⟩
  ihave Hp := (slotPt_halves c arM s _).1 $$ Hp
  icases Hp with ⟨Hl, Hr⟩
  iapply Hk
  isplitl [Hl]; · iexact Hl
  isplitr [HO]
  · iapply Hw
    isplitl [Hv]; · iexact Hv
    iexact Hr
  iexact HO

/-- The load of a chunk received by the rightward all-gather. -/
theorem wp_ar_load (I : Dev nD → Ins F) (c : Dev nD) (b : ℕ) (s : Fin 4) (hs : s.val < b) {off : Fin 3 → ℕ} (h : off = ![s.val, 0, 0])
    {inb : ∀ a, off a + S1x128x1024.size a ≤ (Sn 4).size a} {hl} {α : Type} {k : Vec F S1x128x1024 .bf16 → Prog (TpuEff nD τ sig (Elt F) Λ₀ .tc) α}
    {Q : α → sProp 𝕄} :
    arIn I c b ⊢ iprop((arIn I c b -∗ WP c (k (up (ownB I (sh c (7 * (s.val + 1)))))) Q)
      -∗ WP c (.op (.load arM (Rect.unit (s := Sn 4) off S1x128x1024.size inb).toLoadRect hl) k) Q) := by
  unfold arIn
  iintro Hg Hk
  ihave Hg := (fam_borrow b s hs _ _) $$ Hg
  icases Hg with ⟨⟨Hv, Hp⟩, Hw⟩
  iapply (wp_load_slot c arM s fullShare.right _ h) $$ Hp
  iintro Hp
  iapply Hk
  iapply Hw
  isplitl [Hv]; · iexact Hv
  iexact Hp

/-- The leftward all-gather's sends after `a` copies, and its receipts after `b`: of a received slot one half is kept, for the loads. -/
def alOut (c : Dev nD) (a : ℕ) : sProp 𝕄 :=
  fam a (fun s : Fin 3 => due (F := F) (alS c s)) (fun s => kit (F := F) (lf c) alM (alS c s) (alR (lf c) s) s)
def alIn (I : Dev nD → Ins F) (c : Dev nD) (b : ℕ) : sProp 𝕄 :=
  fam b (fun s : Fin 3 => iprop(semVal (alR c s) 0 ∗ slotPt c alM s fullShare.right (ownB I (sh c (s.val + 1))))) (fun s => due (F := F) (alR c s))

/-- A copy of the leftward all-gather. -/
theorem wp_al_send (I : Dev nD → Ins F) (K : GSem nD τ sig → ℕ) (c : Dev nD) (s : Fin 3) (e : ℕ) {x : Dev nD} (hx : x = lf c)
    {ns : ℕ} (Ms : Memref sig .tc .vmem (Sn ns) .bf16) (ss : Fin ns) (q : PosShare TreeShare) (A : Vec F S128x1024 .bf16)
    (hp : dmaPay I c (28 + s.val) = slotPt c Ms ss q A) (hA : ownB I (sh (lf c) (s.val + 1)) = A)
    {s₁ s₂ : DmaSem sig} (hs₁ : s₁ = (⟨28 + s.val, by omega⟩ : Fin 34)) (hs₂ : s₂ = (⟨31 + s.val, by omega⟩ : Fin 34))
    {offs offd : Fin 3 → ℕ} (hos : offs = ![ss.val, 0, 0]) (hod : offd = ![s.val, 0, 0])
    {inbs : ∀ a, offs a + S1x128x1024.size a ≤ (Sn ns).size a} {inbd : ∀ a, offd a + S1x128x1024.size a ≤ (Sn 3).size a}
    {hsc} {hsrc} {hdst} {hsem} {α : Type} {k : PUnit → Prog (TpuEff nD τ sig (Elt F) Λ₀ .tc) α} {Q : α → sProp 𝕄} :
    iprop(know I K ∗ slotPt c Ms ss q A ∗ alOut (F := F) c s.val ∗ owesE c (owedAt c 7 e s.val))
      ⊢ iprop(((alOut (F := F) c (s.val + 1) ∗ owesE c (owedAt c 7 e (s.val + 1))) -∗ WP c (k ⟨⟩) Q)
        -∗ WP c (.op (.enqueueDma (slotO Ms offs inbs) (.remote (Dev.tc x) (slotO alM offd inbd) (.dma s₁) hsc) (.dma s₂) hsrc hdst hsem) k) Q) := by
  unfold alOut
  iintro ⟨#HK, Hs, Hf, HO⟩ Hk
  ihave Hf := (fam_step s _ _) $$ Hf
  unfold kit
  icases Hf with ⟨⟨Hd, #Hr2, #Hr1, Ht1, Ht2, Hat⟩, Hw⟩
  iapply (wp_send_dma I K c (lf c) (28 + s.val) (31 + s.val) (by omega) (by omega) (by omega) (by omega) hs₁ hs₂ Ms alM ss s hos hod q A hx
    (credit_al s) (Entails.of_eq hp.symm) (by rw [pay_alR, hA]) (owedAt c 7 e (s.val + 1)) (owedAt_al c 7 e s)) $$ [Hs Hd Ht1 Ht2 HO]
  · isplitr; · iexact HK
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hw Hc Hat]
  · iapply Hw; unfold due
    isplitl [Hc]; · iexact Hc
    iexact Hat
  iexact HO

/-- A wait of the leftward all-gather: the slot's two halves, one kept in the family. -/
theorem wp_al_wait (I : Dev nD → Ins F) (K : GSem nD τ sig → ℕ) (c : Dev nD) (s : Fin 3) (a e : ℕ)
    (ha : a < 4 → 11 + 2 * s.val < 10 + 2 * a) (he : e < 3 → 11 + 2 * s.val < 11 + 2 * e)
    {sem : DmaSem sig} (hs : sem = (⟨31 + s.val, by omega⟩ : Fin 34)) {nm : ℕ} {src : Memref sig .tc .vmem S128x1024 .bf16}
    {M : Memref sig .tc .vmem (Sn nm) .bf16} {off : Fin 3 → ℕ} {inb : ∀ a, off a + S1x128x1024.size a ≤ (Sn nm).size a}
    {hsrc : src.view.WordExact} {hdst : (slotO M off inb).view.WordExact} {α : Type}
    {k : PUnit → Prog (TpuEff nD τ sig (Elt F) Λ₀ .tc) α} {Q : α → sProp 𝕄} :
    iprop(know I K ∗ alIn I c s.val ∗ owesE c (owedAt c 7 a e))
      ⊢ iprop(((slotPt c alM s fullShare.left (ownB I (sh c (s.val + 1))) ∗ alIn I c (s.val + 1) ∗ owesE c (owedAt c 7 a e)) -∗ WP c (k ⟨⟩) Q)
        -∗ WP c (.op (.waitDma2 sem src (slotO M off inb) hsrc hdst) k) Q) := by
  unfold alIn
  iintro ⟨#HK, Hf, HO⟩ Hk
  ihave Hf := (fam_step s _ _) $$ Hf
  unfold due
  icases Hf with ⟨⟨Hc, Hat⟩, Hw⟩
  iapply (wp_wait_dma I K c (31 + s.val) (by omega) (by omega) hs (credit_slot M off inb) (owedAt c 7 a e)
    (mayWait c (.dma (⟨31 + s.val, by omega⟩ : Fin 34)) 7 a e (fun h => absurd h (lt_irrefl _))
      (fun h => lt_of_eq_of_lt (lv_alR c s ()) (ha h)) (fun h => lt_of_eq_of_lt (lv_alR c s ()) (he h)))) $$ [Hc Hat HO]
  · isplitr; · iexact HK
    isplitl [Hc]; · iexact Hc
    isplitl [Hat]; · iexact Hat
    iexact HO
  rw [pay_alR]
  iintro ⟨Hv, Hp, HO⟩
  ihave Hp := (slotPt_halves c alM s _).1 $$ Hp
  icases Hp with ⟨Hl, Hr⟩
  iapply Hk
  isplitl [Hl]; · iexact Hl
  isplitr [HO]
  · iapply Hw
    isplitl [Hv]; · iexact Hv
    iexact Hr
  iexact HO

/-- The load of a chunk received by the leftward all-gather. -/
theorem wp_al_load (I : Dev nD → Ins F) (c : Dev nD) (b : ℕ) (s : Fin 3) (hs : s.val < b) {off : Fin 3 → ℕ} (h : off = ![s.val, 0, 0])
    {inb : ∀ a, off a + S1x128x1024.size a ≤ (Sn 3).size a} {hl} {α : Type} {k : Vec F S1x128x1024 .bf16 → Prog (TpuEff nD τ sig (Elt F) Λ₀ .tc) α}
    {Q : α → sProp 𝕄} :
    alIn I c b ⊢ iprop((alIn I c b -∗ WP c (k (up (ownB I (sh c (s.val + 1))))) Q)
      -∗ WP c (.op (.load alM (Rect.unit (s := Sn 3) off S1x128x1024.size inb).toLoadRect hl) k) Q) := by
  unfold alIn
  iintro Hg Hk
  ihave Hg := (fam_borrow b s hs _ _) $$ Hg
  icases Hg with ⟨⟨Hv, Hp⟩, Hw⟩
  iapply (wp_load_slot c alM s fullShare.right _ h) $$ Hp
  iintro Hp
  iapply Hk
  iapply Hw
  isplitl [Hv]; · iexact Hv
  iexact Hp

/-! ## Waiting for the own copies -/

/-- The own cells from number `base` on, of which the first `m` have been waited for. -/
def closeF (I : Dev nD → Ins F) (c : Dev nD) {n : ℕ} (base : ℕ) (hb : base + n ≤ 34) (m : ℕ) : sProp 𝕄 :=
  fam m (fun s : Fin n => iprop(semVal (cellD c (base + s.val) (by omega)) 0 ∗ dmaPay I c (base + s.val)))
    (fun s : Fin n => due (F := F) (cellD c (base + s.val) (by omega)))

/-- A wait for an own copy. -/
theorem wp_close (I : Dev nD → Ins F) (K : GSem nD τ sig → ℕ) (c : Dev nD) {n : ℕ} (base : ℕ) (hb : base + n ≤ 34) (h6 : 6 ≤ base) (s : Fin n)
    (a e : ℕ) (hl : lvD (base + s.val) = 0) {sem : DmaSem sig} (hs : sem = (⟨base + s.val, by omega⟩ : Fin 34)) {nm : ℕ}
    {src : Memref sig .tc .vmem S128x1024 .bf16} {M : Memref sig .tc .vmem (Sn nm) .bf16} {off : Fin 3 → ℕ}
    {inb : ∀ a, off a + S1x128x1024.size a ≤ (Sn nm).size a} {hsrc : src.view.WordExact} {hdst : (slotO M off inb).view.WordExact} {α : Type}
    {k : PUnit → Prog (TpuEff nD τ sig (Elt F) Λ₀ .tc) α} {Q : α → sProp 𝕄} :
    iprop(know I K ∗ closeF I c (n := n) base hb s.val ∗ owesE c (owedAt c 7 a e))
      ⊢ iprop(((closeF I c (n := n) base hb (s.val + 1) ∗ owesE c (owedAt c 7 a e)) -∗ WP c (k ⟨⟩) Q)
        -∗ WP c (.op (.waitDma2 sem src (slotO M off inb) hsrc hdst) k) Q) := by
  unfold closeF
  iintro ⟨#HK, Hf, HO⟩ Hk
  ihave Hf := (fam_step s _ _) $$ Hf
  unfold due
  icases Hf with ⟨⟨Hc, Hat⟩, Hw⟩
  iapply (wp_wait_dma I K c (base + s.val) (by omega) (by omega) hs (credit_slot M off inb) (owedAt c 7 a e)
    (mayWait c (.dma (⟨base + s.val, by omega⟩ : Fin 34)) 7 a e (fun h => absurd h (lt_irrefl _))
      (fun _ => lt_of_eq_of_lt hl (by omega)) (fun _ => lt_of_eq_of_lt hl (by omega)))) $$ [Hc Hat HO]
  · isplitr; · iexact HK
    isplitl [Hc]; · iexact Hc
    isplitl [Hat]; · iexact Hat
    iexact HO
  iintro ⟨Hv, Hp, HO⟩
  iapply Hk
  isplitr [HO]
  · iapply Hw
    isplitl [Hv]; · iexact Hv
    iexact Hp
  iexact HO

theorem trips_t5 : k0_t5_loop.trips = 7 := by decide
theorem trips_t6 : k0_t6_loop.trips = 2 := by decide
theorem trips_t7 : k0_t7_loop.trips = 4 := by decide
theorem trips_t8 : k0_t8_loop.trips = 3 := by decide

variable (a0 : Memref sig .tc .vmem S1024x1024 .bf16) (h0 : a0.IsWhole) (a1 : Memref sig .tc .vmem S1024x1024 .bf16) (h1 : a1.IsWhole)
  (a2 : Memref sig .tc .vmem S8x1024x128 .bf16) (h2 : a2.IsWhole) (a3 : Memref sig .tc .vmem S8x1024x128 .f32) (h3 : a3.IsWhole)
  (a4 : Memref sig .tc .vmem S1024x1024 .bf16) (h4 : a4.IsWhole) (a5 : Memref sig .tc .vmem S1024x1024 .f32) (h5 : a5.IsWhole)
/-- What a loop of waits for the own copies keeps. -/
def closeInv (I : Dev nD → Ins F) (K : GSem nD τ sig → ℕ) (c : Dev nD) {n : ℕ} (base : ℕ) (hb : base + n ≤ 34) (a e m : ℕ) : sProp 𝕄 :=
  iprop(know I K ∗ closeF I c (n := n) base hb m ∗ owesE c (owedAt c 7 a e))

/-- The waits for the reduce-scatter's own copies. -/
theorem wp_t5 (I : Dev nD → Ins F) (K : GSem nD τ sig → ℕ) (c : Dev nD) (v8 v113 : BitVec 32) (v189 : FVec F S128x1024 .f32) :
    closeInv I K c (n := 7) 6 (by omega) 0 0 0 ⊢ WP c (Scf.Loop.for k0_t5_loop k0_t5_ok () (k0_t5_body (F := F) a0 h0 a1 h1 a2 h2 a3 h3 a4 h4 a5 h5 rbM hrb sbM hsb arM har alM hal qcM hqc cc0_scratch5 cc0_scratch6 cc0_scratch7 cc0_scratch8 cc0_scratch9 cc0_scratch10 c v8 v113 v189))
      (fun _ => closeInv I K c (n := 7) 6 (by omega) 0 0 7) := by
  refine wp_units c trips_t5 _ fun k => ?_
  have h7 : k.val < 7 := Nat.lt_of_lt_of_le k.isLt (le_of_eq trips_t5)
  unfold k0_t5_body closeInv
  simp only [Prog.lift, Prog.bind_op, Prog.bind_ret, Prog.pure_eq_ret]
  iintro ⟨#HK, Hf, HO⟩
  iapply (wp_close I K c 6 (by omega) (by omega) (⟨k.val, h7⟩ : Fin 7) 0 0 (by unfold lvD; rw [if_pos (by show 6 + k.val < 13; omega)])
    (sem_at _ (⟨k.val, h7⟩ : Fin 7) (k0_off19_eq k) _ _)) $$ [Hf HO]
  · isplitr; · iexact HK
    isplitl [Hf]; · iexact Hf
    iexact HO
  iintro ⟨Hf, HO⟩
  iapply (wp_done c)
  isplitr; · iexact HK
  isplitl [Hf]; · iexact Hf
  iexact HO

/-- The waits for the rightward all-gather's own copies. -/
theorem wp_t7 (I : Dev nD → Ins F) (K : GSem nD τ sig → ℕ) (c : Dev nD) :
    closeInv I K c (n := 4) 20 (by omega) 4 3 0 ⊢ WP c (Scf.Loop.for k0_t7_loop k0_t7_ok () (k0_t7_body (F := F) a0 h0 a1 h1 a2 h2 a3 h3 a4 h4 a5 h5 rbM hrb sbM hsb arM har alM hal qcM hqc cc0_scratch5 cc0_scratch6 cc0_scratch7 cc0_scratch8 cc0_scratch9 cc0_scratch10))
      (fun _ => closeInv I K c (n := 4) 20 (by omega) 4 3 4) := by
  refine wp_units c trips_t7 _ fun k => ?_
  have h7 : k.val < 4 := Nat.lt_of_lt_of_le k.isLt (le_of_eq trips_t7)
  unfold k0_t7_body closeInv
  simp only [Prog.lift, Prog.bind_op, Prog.bind_ret, Prog.pure_eq_ret]
  iintro ⟨#HK, Hf, HO⟩
  iapply (wp_close I K c 20 (by omega) (by omega) (⟨k.val, h7⟩ : Fin 4) 4 3 (by unfold lvD; rw [if_neg (by show ¬ 20 + k.val < 13; omega), if_neg (by show ¬ 20 + k.val < 20; omega), if_pos (by show 20 + k.val < 24; omega)])
    (sem_at _ (⟨k.val, h7⟩ : Fin 4) (k0_off35_eq k) _ _)) $$ [Hf HO]
  · isplitr; · iexact HK
    isplitl [Hf]; · iexact Hf
    iexact HO
  iintro ⟨Hf, HO⟩
  iapply (wp_done c)
  isplitr; · iexact HK
  isplitl [Hf]; · iexact Hf
  iexact HO

/-- The waits for the leftward all-gather's own copies. -/
theorem wp_t8 (I : Dev nD → Ins F) (K : GSem nD τ sig → ℕ) (c : Dev nD) :
    closeInv I K c (n := 3) 28 (by omega) 4 3 0 ⊢ WP c (Scf.Loop.for k0_t8_loop k0_t8_ok () (k0_t8_body (F := F) a0 h0 a1 h1 a2 h2 a3 h3 a4 h4 a5 h5 rbM hrb sbM hsb arM har alM hal qcM hqc cc0_scratch5 cc0_scratch6 cc0_scratch7 cc0_scratch8 cc0_scratch9 cc0_scratch10))
      (fun _ => closeInv I K c (n := 3) 28 (by omega) 4 3 3) := by
  refine wp_units c trips_t8 _ fun k => ?_
  have h7 : k.val < 3 := Nat.lt_of_lt_of_le k.isLt (le_of_eq trips_t8)
  unfold k0_t8_body closeInv
  simp only [Prog.lift, Prog.bind_op, Prog.bind_ret, Prog.pure_eq_ret]
  iintro ⟨#HK, Hf, HO⟩
  iapply (wp_close I K c 28 (by omega) (by omega) (⟨k.val, h7⟩ : Fin 3) 4 3 (by
      unfold lvD
      rw [if_neg (by show ¬ 28 + k.val < 13; omega), if_neg (by show ¬ 28 + k.val < 20; omega), if_neg (by show ¬ 28 + k.val < 24; omega),
        if_neg (by show ¬ 28 + k.val < 28; omega), if_pos (by show 28 + k.val < 31; omega)])
    (sem_at _ (⟨k.val, h7⟩ : Fin 3) (k0_off37_eq k) _ _)) $$ [Hf HO]
  · isplitr; · iexact HK
    isplitl [Hf]; · iexact Hf
    iexact HO
  iintro ⟨Hf, HO⟩
  iapply (wp_done c)
  isplitr; · iexact HK
  isplitl [Hf]; · iexact Hf
  iexact HO

end Cert.KernelIdeal.Pf

end
-- ==== Proof.Body.lean ====
/-
  The kernel's run on one device: its pieces in order.
-/
module

public import proofs.«01_k».proof.Proof.Gather

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The output's rows as they arrive -/

/-- After `a` chunks received from the left and `b` from the right, row chunk `j` has arrived. -/
def arrived (c : Dev nD) (a b : ℕ) (j : Fin 8) : Prop := j = rt c ∨ (c.val + 8 - j.val) % 8 < a ∨ (j.val + 14 - c.val) % 8 < b

/-- Every row chunk that has arrived is at its final value. -/
def doneP (I : Dev nD → Ins F) (c : Dev nD) (a b : ℕ) (g : Fin 8 → Vec F S128x1024 .f32) : Prop := ∀ j, arrived c a b j → g j = finC I c j

theorem done_zero (I : Dev nD → Ins F) (c : Dev nD) (g : Fin 8 → Vec F S128x1024 .f32) (h : g (rt c) = ownC I c) : doneP I c 0 0 g := by
  intro j hj
  rcases hj with rfl | h0 | h0
  · rw [h]; unfold finC; rw [if_pos rfl]
  · exact absurd h0 (Nat.not_lt_zero _)
  · exact absurd h0 (Nat.not_lt_zero _)

theorem finC_ar (I : Dev nD → Ins F) (c : Dev nD) (a : ℕ) (ha : a < 4) :
    finC I c (sh c (7 * a)) = k0_pay7 (up (ownB I (sh c (7 * (a + 1))))) := by
  have hc : c.val < 8 := c.isLt
  unfold finC
  rw [if_neg (fun h => by have := congrArg Fin.val h; dsimp only at this; omega)]
  congr 3
  apply Fin.ext; dsimp only; omega

theorem finC_al (I : Dev nD → Ins F) (c : Dev nD) (b : ℕ) (hb : b < 3) :
    finC I c (sh c (b + 2)) = k0_pay7 (up (ownB I (sh c (b + 1)))) := by
  have hc : c.val < 8 := c.isLt
  unfold finC
  rw [if_neg (fun h => by have := congrArg Fin.val h; dsimp only at this; omega)]
  congr 3
  apply Fin.ext; dsimp only; omega

/-- A chunk from the left stored. -/
theorem done_ar (I : Dev nD → Ins F) (c : Dev nD) (a b : ℕ) (ha : a < 4) (g : Fin 8 → Vec F S128x1024 .f32) (h : doneP I c a b g) :
    doneP I c (a + 1) b (Function.update g (sh c (7 * a)) (k0_pay7 (up (ownB I (sh c (7 * (a + 1))))))) := by
  intro j hj
  by_cases e : j = sh c (7 * a)
  · subst e; rw [Function.update_self, finC_ar I c a ha]
  · rw [Function.update_of_ne e]
    refine h j ?_
    have hc : c.val < 8 := c.isLt
    have hj8 : j.val < 8 := j.isLt
    have e' : j.val ≠ (c.val + 7 * a) % 8 := fun e' => e (Fin.ext e')
    rcases hj with h1 | h1 | h1
    · exact .inl h1
    · right; left; omega
    · right; right; exact h1

/-- A chunk from the right stored. -/
theorem done_al (I : Dev nD → Ins F) (c : Dev nD) (a b : ℕ) (hb : b < 3) (g : Fin 8 → Vec F S128x1024 .f32) (h : doneP I c a b g) :
    doneP I c a (b + 1) (Function.update g (sh c (b + 2)) (k0_pay7 (up (ownB I (sh c (b + 1)))))) := by
  intro j hj
  by_cases e : j = sh c (b + 2)
  · subst e; rw [Function.update_self, finC_al I c b hb]
  · rw [Function.update_of_ne e]
    refine h j ?_
    have hc : c.val < 8 := c.isLt
    have hj8 : j.val < 8 := j.isLt
    have e' : j.val ≠ (c.val + (b + 2)) % 8 := fun e' => e (Fin.ext e')
    rcases hj with h1 | h1 | h1
    · exact .inl h1
    · right; left; exact h1
    · right; right; omega

theorem arrived_all (c : Dev nD) (j : Fin 8) : arrived c 4 3 j := by
  have hc : c.val < 8 := c.isLt
  have hj8 : j.val < 8 := j.isLt
  by_cases e : j = rt c
  · exact .inl e
  · have e' : j.val ≠ (c.val + 1) % 8 := fun e' => e (Fin.ext e')
    unfold arrived
    right; omega

/-! ## The reduce-scatter's end -/

/-- An own cell's counter back at zero, and the slot it was about. -/
def rsOwn (c : Dev nD) (s : Fin 7) : sProp 𝕄 := iprop(semVal (rsS c s) 0 ∗ slotAny (F := F) c sbM s)

/-- What the reduce-scatter leaves at the end: counters back at zero, and its slots. -/
def rsEnd (c : Dev nD) : sProp 𝕄 :=
  iprop((bigSep Finset.univ fun s : Fin 7 => iprop(semVal (rsR c s) 0 ∗ slotAny (F := F) c rbM s))
    ∗ bigSep Finset.univ (rsOwn (F := F) c))

theorem any_of {n : ℕ} (c : Dev nD) (M : Memref sig .tc .vmem (Sn n) .bf16) (s : Fin n) {g : GSem nD τ sig} (A : Vec F S128x1024 .bf16) :
    (iprop(semVal g 0 ∗ slotPt c M s fullShare A) : sProp 𝕄) ⊢ iprop(semVal g 0 ∗ slotAny (F := F) c M s) := by
  unfold slotAny
  iintro ⟨Hv, Hs⟩
  isplitl [Hv]; · iexact Hv
  iexists _; iexact Hs

theorem rs_close (I : Dev nD → Ins F) (c : Dev nD) :
    rsF I c 7 7 ⊢ iprop(closeF I c (n := 7) 6 (by omega) 0
      ∗ (bigSep Finset.univ fun s : Fin 7 => iprop(semVal (rsR c s) 0 ∗ slotAny (F := F) c rbM s)) ∗ owesE c (owedAt c 7 0 0)) := by
  have e : (bigSep Finset.univ fun s : Fin 7 => iprop(semVal (rsR c s) 0 ∗ slotPt c rbM s fullShare (RS I s.val (lf c))))
      ⊢ bigSep Finset.univ fun s : Fin 7 => iprop(semVal (rsR c s) 0 ∗ slotAny (F := F) c rbM s) :=
    bigSep_mono fun s _ => any_of c rbM s _
  unfold rsF closeF
  rw [fam_end, fam_end, fam_zero]
  iintro ⟨Hf, Hg, HO⟩
  isplitl [Hf]; · iexact Hf
  isplitl [Hg]; · iapply e; iexact Hg
  iexact HO

theorem rs_closed (I : Dev nD → Ins F) (c : Dev nD) :
    closeF I c (n := 7) 6 (by omega) 7 ⊢ bigSep Finset.univ (rsOwn (F := F) c) := by
  unfold closeF
  rw [fam_end]
  refine bigSep_mono fun s _ => ?_
  rw [pay_rsS]
  exact any_of c sbM s _

variable (a0 : Memref sig .tc .vmem S1024x1024 .bf16) (h0 : a0.IsWhole) (a1 : Memref sig .tc .vmem S1024x1024 .bf16) (h1 : a1.IsWhole)
  (a2 : Memref sig .tc .vmem S8x1024x128 .bf16) (h2 : a2.IsWhole) (a3 : Memref sig .tc .vmem S8x1024x128 .f32) (h3 : a3.IsWhole)
  (a4 : Memref sig .tc .vmem S1024x1024 .bf16) (h4 : a4.IsWhole) (a5 : Memref sig .tc .vmem S1024x1024 .f32) (h5 : a5.IsWhole)
/-- The last chunk's attention. -/
theorem wp_part10 (I : Dev nD → Ins F) (c : Dev nD) (v114 : BitVec 32) :
    iprop(attn a2 a3 a4 c (I c) (rt c) ∗ outG c a5 (fun _ => True))
      ⊢ WP c (k0_part10 (F := F) a0 h0 a1 h1 a2 h2 a3 h3 a4 h4 a5 h5 rbM hrb sbM hsb arM har alM hal qcM hqc cc0_scratch5 cc0_scratch6 cc0_scratch7 cc0_scratch8 cc0_scratch9 cc0_scratch10 c v114 kbV (k0_pay20 (devW c)) (k0_pay21 (devW c)) (k0_pay22 (devW c))) (fun x =>
        iprop(⌜x = part (I c) (rt c)⌝ ∗ attn a2 a3 a4 c (I c) (rt c) ∗ outG c a5 (fun _ => True))) := by
  simp only [k0_part10_eq_skeleton]
  unfold k0_part10_skel
  iintro ⟨Hat, Ho⟩
  iapply (wp_seq c (wp_t4 a0 h0 a1 h1 a2 h2 a3 h3 a4 h4 a5 h5 c (I c) v114)) $$ Hat
  iintro %acc ⟨%hacc, Hat⟩
  subst hacc
  simp only [Prog.lift, Prog.bind_op, Prog.bind_ret, Prog.pure_eq_ret]
  iapply (wp_load_out_any c a5 _) $$ Ho
  iintro %w0 Ho
  iapply (wp_done c)
  isplitr; · ipureintro; rfl
  isplitl [Hat]; · iexact Hat
  iexact Ho

set_option maxHeartbeats 1000000 in
/-- The last partial sum received: the finished chunk, stored and rounded for its copies. -/
theorem wp_part11 (I : Dev nD → Ins F) (K : GSem nD τ sig → ℕ) (c : Dev nD) (v8 v113 : BitVec 32) :
    iprop(know I K ∗ rsF I c 7 6 ∗ outG c a5 (fun _ => True))
      ⊢ WP c (k0_part11 (F := F) a0 h0 a1 h1 a2 h2 a3 h3 a4 h4 a5 h5 rbM hrb sbM hsb arM har alM hal qcM hqc cc0_scratch5 cc0_scratch6 cc0_scratch7 cc0_scratch8 cc0_scratch9 cc0_scratch10 c v8 v113 (part (I c) (rt c))) (fun _ =>
        iprop(outG c a5 (doneP I c 0 0) ∗ slotPt c sbM 0 fullShare (ownB I c) ∗ (slotAny (F := F) c sbM 0 -∗ rsEnd (F := F) c)
          ∗ owesE c (owedAt c 7 0 0))) := by
  simp only [k0_part11_eq_skeleton]
  unfold k0_part11_skel
  simp only [Prog.lift, Prog.bind_op, Prog.bind_ret, Prog.pure_eq_ret]
  iintro ⟨#HK, Hrs, Ho⟩
  iapply (wp_store_out c a5 _ (fun g => g (rt c) = part (I c) (rt c)) (rt c) (fun g _ => Function.update_self _ _ _) (off15_row c)) $$ Ho
  iintro Ho
  iapply (wp_rs_wait I K c 6 (sem_at _ (6 : Fin 7) rfl _ _)) $$ [Hrs]
  · isplitr; · iexact HK
    iexact Hrs
  iintro Hrs
  have e7 : rsF I c ((6 : Fin 7).val + 1) ((6 : Fin 7).val + 1) ⊢ rsF I c 7 7 := Entails.of_eq rfl
  ihave Hrs := e7 $$ Hrs
  iapply (wp_load_out c a5 _ (rt c) (part (I c) (rt c)) (fun g h => h) (off15_row c)) $$ Ho
  iintro Ho
  iapply (wp_rs_load I c 7 7 6 (by decide) rfl) $$ Hrs
  iintro Hrs
  iapply (wp_load_out_any c a5 _) $$ Ho
  iintro %w1 Ho
  iapply (wp_store_out c a5 _ (fun g => g (rt c) = ownC I c) (rt c) (fun g _ => Function.update_self _ _ _) (off15_row c)) $$ Ho
  iintro Ho
  ihave Hrs := (rs_close I c) $$ Hrs
  icases Hrs with ⟨Hcl, Hgot, HO⟩
  iapply (wp_seq c (wp_t5 a0 h0 a1 h1 a2 h2 a3 h3 a4 h4 a5 h5 I K c v8 v113 (part (I c) (rt c)))) $$ [Hcl HO]
  · unfold closeInv
    isplitr; · iexact HK
    isplitl [Hcl]; · iexact Hcl
    iexact HO
  iintro %_ H
  unfold closeInv
  icases H with ⟨-, Hcl, HO⟩
  ihave Hcl := (rs_closed I c) $$ Hcl
  have e1 : (bigSep Finset.univ (rsOwn (F := F) c) : sProp 𝕄)
      = iprop(rsOwn (F := F) c 0 ∗ bigSep (Finset.univ.erase 0) (rsOwn (F := F) c)) :=
    bigSep_erase (Finset.mem_univ 0)
  ihave Hcl := (Entails.of_eq e1) $$ Hcl
  icases Hcl with ⟨H0, Hcl⟩
  unfold rsOwn slotAny
  icases H0 with ⟨Hv0, Hs⟩
  icases Hs with ⟨%A, Hs⟩
  iapply (wp_load_out c a5 _ (rt c) (ownC I c) (fun g h => h) (off15_row c)) $$ Ho
  iintro Ho
  iapply (wp_load_slot c sbM 0 fullShare A rfl) $$ Hs
  iintro Hs
  iapply (wp_store_slot c sbM 0 A rfl) $$ Hs
  iintro Hs
  iapply (wp_done c)
  isplitl [Ho]
  · unfold outG
    icases Ho with ⟨%g, %hg, Ho⟩
    iexists g
    isplitr; · ipureintro; exact done_zero I c g hg
    iexact Ho
  isplitl [Hs]; · iexact Hs
  isplitr [HO]
  · iintro Hs
    unfold rsEnd
    rw [e1]
    unfold rsOwn slotAny
    isplitl [Hgot]; · iexact Hgot
    isplitl [Hv0 Hs]
    · isplitl [Hv0]; · iexact Hv0
      iexact Hs
    iexact Hcl
  iexact HO

end Cert.KernelIdeal.Pf

end
-- ==== Proof.Run.lean ====
/-
  The all-gather's pieces in order, and the whole kernel on one device.
-/
module

public import proofs.«01_k».proof.Proof.Body

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem ownB_ar (I : Dev nD → Ins F) (c : Dev nD) (s : ℕ) : ownB I (sh (rt c) (7 * (s + 1 + 1))) = ownB I (sh c (7 * (s + 1))) := by
  congr 1; apply Fin.ext; dsimp only; omega
theorem ownB_ar0 (I : Dev nD → Ins F) (c : Dev nD) : ownB I (sh (rt c) (7 * (0 + 1))) = ownB I c := by
  congr 1; exact lf_rt c
theorem ownB_al (I : Dev nD → Ins F) (c : Dev nD) (s : ℕ) : ownB I (sh (lf c) (s + 1 + 1)) = ownB I (sh c (s + 1)) := by
  congr 1; apply Fin.ext; dsimp only; omega
theorem ownB_al0 (I : Dev nD → Ins F) (c : Dev nD) : ownB I (sh (lf c) (0 + 1)) = ownB I c := by
  congr 1; exact rt_lf c

theorem off30_row (c : Dev nD) (k : Fin k0_t6_loop.trips) : k0_off30 c k = ![128 * (sh c (7 * k.val)).val, 0] := by
  rw [k0_off30_eq]; revert c k; decide
theorem off32_row (c : Dev nD) (k : Fin k0_t6_loop.trips) : k0_off32 c k = ![128 * (sh c (k.val + 2)).val, 0] := by
  rw [k0_off32_eq]; revert c k; decide
theorem off33_row2 (c : Dev nD) : k0_off33 c 2#32 = ![128 * (sh c (7 * 2)).val, 0] := by
  refine (k0_off33_eq c 0).trans ?_; revert c; decide
theorem off33_row3 (c : Dev nD) : k0_off33 c 3#32 = ![128 * (sh c (7 * 3)).val, 0] := by
  refine (k0_off33_eq c 1).trans ?_; revert c; decide
theorem off34_row (c : Dev nD) : k0_off34 c = ![128 * (sh c (2 + 2)).val, 0] := by
  rw [k0_off34_eq]; revert c; decide

variable (a0 : Memref sig .tc .vmem S1024x1024 .bf16) (h0 : a0.IsWhole) (a1 : Memref sig .tc .vmem S1024x1024 .bf16) (h1 : a1.IsWhole)
  (a2 : Memref sig .tc .vmem S8x1024x128 .bf16) (h2 : a2.IsWhole) (a3 : Memref sig .tc .vmem S8x1024x128 .f32) (h3 : a3.IsWhole)
  (a4 : Memref sig .tc .vmem S1024x1024 .bf16) (h4 : a4.IsWhole) (a5 : Memref sig .tc .vmem S1024x1024 .f32) (h5 : a5.IsWhole)
/-- What the all-gather keeps: `a`, `e` copies sent rightward and leftward, `b`, `f` received. -/
def gather (I : Dev nD → Ins F) (K : GSem nD τ sig → ℕ) (c : Dev nD) (a b e f : ℕ) : sProp 𝕄 :=
  iprop(know I K ∗ outG c a5 (doneP I c b f) ∗ arOut (F := F) c a ∗ arIn I c b ∗ alOut (F := F) c e ∗ alIn I c f ∗ owesE c (owedAt c 7 a e))

set_option maxHeartbeats 2000000 in
/-- One round of the all-gather, both ways. -/
theorem wp_t6 (I : Dev nD → Ins F) (K : GSem nD τ sig → ℕ) (c : Dev nD) (v5 v8 : BitVec 32) (k : Fin k0_t6_loop.trips) :
    gather a5 I K c (k.val + 1) k.val (k.val + 1) k.val ⊢ WP c (k0_t6_body (F := F) a0 h0 a1 h1 a2 h2 a3 h3 a4 h4 a5 h5 rbM hrb sbM hsb arM har alM hal qcM hqc cc0_scratch5 cc0_scratch6 cc0_scratch7 cc0_scratch8 cc0_scratch9 cc0_scratch10 c (devW c) v5 v8 k ())
      (fun _ => gather a5 I K c (k.val + 1 + 1) (k.val + 1) (k.val + 1 + 1) (k.val + 1)) := by
  have hk : k.val < 2 := Nat.lt_of_lt_of_le k.isLt (le_of_eq trips_t6)
  have h4 : k.val < 4 := by omega
  have h5' : k.val + 1 < 4 := by omega
  have h3 : k.val < 3 := by omega
  have h3' : k.val + 1 < 3 := by omega
  unfold k0_t6_body gather
  simp only [k0_part4_eq_skeleton, k0_part5_eq_skeleton]
  unfold k0_part4_skel k0_part5_skel
  simp only [Prog.lift, Prog.bind_op, Prog.bind_ret, Prog.pure_eq_ret]
  iintro ⟨#HK, Ho, Hra, Hri, Hla, Hli, HO⟩
  iapply (wp_ar_wait I K c ⟨k.val, h4⟩ (k.val + 1) (k.val + 1) (fun _ => by dsimp only; omega) (fun _ => by dsimp only; omega)
    (sem_at _ (⟨k.val, h4⟩ : Fin 4) (k0_off21_eq k) _ _)) $$ [Hri HO]
  · isplitr; · iexact HK
    isplitl [Hri]; · iexact Hri
    iexact HO
  iintro ⟨Hs, Hri, HO⟩
  iapply (wp_ar_send I K c ⟨k.val + 1, h5'⟩ (k.val + 1) (dev_right7 c) arM ⟨k.val, h4⟩ fullShare.left _ (pay_arS I c k.val h5') (ownB_ar I c k.val)
    (sem_at _ (⟨k.val + 1, h5'⟩ : Fin 4) (k0_off23_eq k) _ _) (sem_at _ (⟨k.val + 1, h5'⟩ : Fin 4) (k0_off23_eq k) _ _)
    (k0_off22_eq k) (k0_off24_eq k)) $$ [Hs Hra HO]
  · isplitr; · iexact HK
    isplitl [Hs]; · iexact Hs
    isplitl [Hra]; · iexact Hra
    iexact HO
  iintro ⟨Hra, HO⟩
  iapply (wp_al_wait I K c ⟨k.val, h3⟩ (k.val + 1 + 1) (k.val + 1) (fun _ => by dsimp only; omega) (fun _ => by dsimp only; omega)
    (sem_at _ (⟨k.val, h3⟩ : Fin 3) (k0_off25_eq k) _ _)) $$ [Hli HO]
  · isplitr; · iexact HK
    isplitl [Hli]; · iexact Hli
    iexact HO
  iintro ⟨Hs, Hli, HO⟩
  iapply (wp_al_send I K c ⟨k.val + 1, h3'⟩ (k.val + 1 + 1) (dev_left8 c) alM ⟨k.val, h3⟩ fullShare.left _ (pay_alS I c k.val h3') (ownB_al I c k.val)
    (sem_at _ (⟨k.val + 1, h3'⟩ : Fin 3) (k0_off27_eq k) _ _) (sem_at _ (⟨k.val + 1, h3'⟩ : Fin 3) (k0_off27_eq k) _ _)
    (k0_off26_eq k) (k0_off28_eq k)) $$ [Hs Hla HO]
  · isplitr; · iexact HK
    isplitl [Hs]; · iexact Hs
    isplitl [Hla]; · iexact Hla
    iexact HO
  iintro ⟨Hla, HO⟩
  iapply (wp_ar_load I c (k.val + 1) ⟨k.val, h4⟩ (Nat.lt_succ_self _) (k0_off29_eq k)) $$ Hri
  iintro Hri
  iapply (wp_load_out_any c a5 _) $$ Ho
  iintro %w1 Ho
  iapply (wp_store_out c a5 _ (doneP I c (k.val + 1) k.val) (sh c (7 * k.val)) (fun g h => done_ar I c k.val k.val h4 g h) (off30_row c k)) $$ Ho
  iintro Ho
  iapply (wp_al_load I c (k.val + 1) ⟨k.val, h3⟩ (Nat.lt_succ_self _) (k0_off31_eq k)) $$ Hli
  iintro Hli
  iapply (wp_load_out_any c a5 _) $$ Ho
  iintro %w2 Ho
  rw [pay8_eq]
  iapply (wp_store_out c a5 _ (doneP I c (k.val + 1) (k.val + 1)) (sh c (k.val + 2)) (fun g h => done_al I c (k.val + 1) k.val h3 g h) (off32_row c k)) $$ Ho
  iintro Ho
  iapply (wp_done c)
  isplitr; · iexact HK
  isplitl [Ho]; · iexact Ho
  isplitl [Hra]; · iexact Hra
  isplitl [Hri]; · iexact Hri
  isplitl [Hla]; · iexact Hla
  isplitl [Hli]; · iexact Hli
  iexact HO

set_option maxHeartbeats 1000000 in
/-- The finished chunk sent both ways, and the rounds of the all-gather. -/
theorem wp_part12 (I : Dev nD → Ins F) (K : GSem nD τ sig → ℕ) (c : Dev nD) (v5 v8 : BitVec 32) :
    iprop(gather a5 I K c 0 0 0 0 ∗ slotPt c sbM 0 fullShare (ownB I c))
      ⊢ WP c (k0_part12 (F := F) a0 h0 a1 h1 a2 h2 a3 h3 a4 h4 a5 h5 rbM hrb sbM hsb arM har alM hal qcM hqc cc0_scratch5 cc0_scratch6 cc0_scratch7 cc0_scratch8 cc0_scratch9 cc0_scratch10 c (devW c) v5 v8) (fun _ => gather a5 I K c 3 2 3 2) := by
  simp only [k0_part12_eq_skeleton]
  unfold k0_part12_skel gather
  simp only [Prog.lift, Prog.bind_op, Prog.bind_ret, Prog.pure_eq_ret]
  iintro ⟨⟨#HK, Ho, Hra, Hri, Hla, Hli, HO⟩, Hs⟩
  ihave Hs := (slotPt_halves c sbM 0 _).1 $$ Hs
  icases Hs with ⟨Hl, Hr⟩
  iapply (wp_ar_send I K c 0 0 (dev_right5 c) sbM 0 fullShare.left _ (pay_arS0 I c) (ownB_ar0 I c)
    (sem_at _ (0 : Fin 4) rfl _ _) (sem_at _ (0 : Fin 4) rfl _ _) rfl rfl) $$ [Hl Hra HO]
  · isplitr; · iexact HK
    isplitl [Hl]; · iexact Hl
    isplitl [Hra]; · iexact Hra
    iexact HO
  iintro ⟨Hra, HO⟩
  iapply (wp_al_send I K c 0 1 (dev_left6 c) sbM 0 fullShare.right _ (pay_alS0 I c) (ownB_al0 I c)
    (sem_at _ (0 : Fin 3) rfl _ _) (sem_at _ (0 : Fin 3) rfl _ _) rfl rfl) $$ [Hr Hla HO]
  · isplitr; · iexact HK
    isplitl [Hr]; · iexact Hr
    isplitl [Hla]; · iexact Hla
    iexact HO
  iintro ⟨Hla, HO⟩
  iapply (wp_seq c (wp_units c trips_t6 (fun n => gather a5 I K c (n + 1) n (n + 1) n)
    (fun k => wp_t6 a0 h0 a1 h1 a2 h2 a3 h3 a4 h4 a5 h5 I K c v5 v8 k))) $$ [Ho Hra Hri Hla Hli HO]
  · unfold gather
    isplitr; · iexact HK
    isplitl [Ho]; · iexact Ho
    isplitl [Hra]; · iexact Hra
    isplitl [Hri]; · iexact Hri
    isplitl [Hla]; · iexact Hla
    isplitl [Hli]; · iexact Hli
    iexact HO
  iintro %_ H
  iapply (wp_done c)
  unfold gather
  iexact H

set_option maxHeartbeats 1000000 in
/-- The third chunk from the left: received, sent on, stored. -/
theorem wp_part13 (I : Dev nD → Ins F) (K : GSem nD τ sig → ℕ) (c : Dev nD) (v5 v8 : BitVec 32) :
    gather a5 I K c 3 2 3 2 ⊢ WP c (k0_part13 (F := F) a0 h0 a1 h1 a2 h2 a3 h3 a4 h4 a5 h5 rbM hrb sbM hsb arM har alM hal qcM hqc cc0_scratch5 cc0_scratch6 cc0_scratch7 cc0_scratch8 cc0_scratch9 cc0_scratch10 c (devW c) v5 v8) (fun _ => gather a5 I K c 4 3 3 2) := by
  simp only [k0_part13_eq_skeleton]
  unfold k0_part13_skel gather
  simp only [Prog.lift, Prog.bind_op, Prog.bind_ret, Prog.pure_eq_ret]
  iintro ⟨#HK, Ho, Hra, Hri, Hla, Hli, HO⟩
  iapply (wp_ar_wait I K c 2 3 3 (fun _ => by decide) (fun _ => by decide) (sem_at _ (2 : Fin 4) rfl _ _)) $$ [Hri HO]
  · isplitr; · iexact HK
    isplitl [Hri]; · iexact Hri
    iexact HO
  iintro ⟨Hs, Hri, HO⟩
  iapply (wp_ar_send I K c 3 3 (dev_right9 c) arM 2 fullShare.left _ (pay_arS I c 2 (by decide)) (ownB_ar I c 2)
    (sem_at _ (3 : Fin 4) rfl _ _) (sem_at _ (3 : Fin 4) rfl _ _) rfl rfl) $$ [Hs Hra HO]
  · isplitr; · iexact HK
    isplitl [Hs]; · iexact Hs
    isplitl [Hra]; · iexact Hra
    iexact HO
  iintro ⟨Hra, HO⟩
  iapply (wp_ar_load I c ((2 : Fin 4).val + 1) 2 (by decide) rfl) $$ Hri
  iintro Hri
  iapply (wp_load_out_any c a5 _) $$ Ho
  iintro %w1 Ho
  rw [pay27_eq]
  iapply (wp_store_out c a5 _ (doneP I c 3 2) (sh c (7 * 2)) (fun g h => done_ar I c 2 2 (by decide) g h) (off33_row2 c)) $$ Ho
  iintro Ho
  iapply (wp_done c)
  isplitr; · iexact HK
  isplitl [Ho]; · iexact Ho
  isplitl [Hra]; · iexact Hra
  isplitl [Hri]; · iexact Hri
  isplitl [Hla]; · iexact Hla
  isplitl [Hli]; · iexact Hli
  iexact HO

set_option maxHeartbeats 1000000 in
/-- The last chunks from either side: received, all but one stored. -/
theorem wp_part14 (I : Dev nD → Ins F) (K : GSem nD τ sig → ℕ) (c : Dev nD) (v8 : BitVec 32) :
    gather a5 I K c 4 3 3 2 ⊢ WP c (k0_part14 (F := F) a0 h0 a1 h1 a2 h2 a3 h3 a4 h4 a5 h5 rbM hrb sbM hsb arM har alM hal qcM hqc cc0_scratch5 cc0_scratch6 cc0_scratch7 cc0_scratch8 cc0_scratch9 cc0_scratch10 c (devW c) v8) (fun x =>
      iprop(⌜x = k0_pay7 (up (ownB I (sh c (7 * (3 + 1)))))⌝
        ∗ outG c a5 (doneP I c 3 3) ∗ arOut (F := F) c 4 ∗ arIn I c 4 ∗ alOut (F := F) c 3 ∗ alIn I c 3 ∗ owesE c (owedAt c 7 4 3)
        ∗ slotPt c arM 3 fullShare.left (ownB I (sh c (7 * (3 + 1)))) ∗ slotPt c alM 2 fullShare.left (ownB I (sh c (2 + 1))))) := by
  simp only [k0_part14_eq_skeleton]
  unfold k0_part14_skel gather
  simp only [Prog.lift, Prog.bind_op, Prog.bind_ret, Prog.pure_eq_ret]
  iintro ⟨#HK, Ho, Hra, Hri, Hla, Hli, HO⟩
  iapply (wp_al_wait I K c 2 4 3 (fun h => absurd h (by decide)) (fun h => absurd h (by decide)) (sem_at _ (2 : Fin 3) rfl _ _)) $$ [Hli HO]
  · isplitr; · iexact HK
    isplitl [Hli]; · iexact Hli
    iexact HO
  iintro ⟨Hl, Hli, HO⟩
  iapply (wp_al_load I c ((2 : Fin 3).val + 1) 2 (by decide) rfl) $$ Hli
  iintro Hli
  iapply (wp_load_out_any c a5 _) $$ Ho
  iintro %w1 Ho
  rw [pay28_eq]
  iapply (wp_store_out c a5 _ (doneP I c 3 3) (sh c (2 + 2)) (fun g h => done_al I c 3 2 (by decide) g h) (off34_row c)) $$ Ho
  iintro Ho
  iapply (wp_ar_wait I K c 3 4 3 (fun h => absurd h (by decide)) (fun h => absurd h (by decide)) (sem_at _ (3 : Fin 4) rfl _ _)) $$ [Hri HO]
  · isplitr; · iexact HK
    isplitl [Hri]; · iexact Hri
    iexact HO
  iintro ⟨Hs, Hri, HO⟩
  iapply (wp_ar_load I c ((3 : Fin 4).val + 1) 3 (by decide) rfl) $$ Hri
  iintro Hri
  iapply (wp_load_out_any c a5 _) $$ Ho
  iintro %w2 Ho
  rw [pay29_eq]
  iapply (wp_done c)
  isplitr; · ipureintro; rfl
  isplitl [Ho]; · iexact Ho
  isplitl [Hra]; · iexact Hra
  isplitl [Hri]; · iexact Hri
  isplitl [Hla]; · iexact Hla
  isplitl [Hli]; · iexact Hli
  isplitl [HO]; · iexact HO
  isplitl [Hs]; · iexact Hs
  iexact Hl

end Cert.KernelIdeal.Pf

end
-- ==== Proof.Whole.lean ====
/-
  The whole kernel on one device: from what a device holds at the start to what it leaves.
-/
module

public import proofs.«01_k».proof.Proof.Run

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Families

variable {M : Type} [URA M]

theorem bigSep_four (Φ : Fin 4 → sProp M) : bigSep Finset.univ Φ = iprop(Φ 0 ∗ Φ 1 ∗ Φ 2 ∗ Φ 3) :=
  bigSep_univ_eq_bigSepL [0, 1, 2, 3] (by decide) (by decide) Φ

theorem bigSep_three (Φ : Fin 3 → sProp M) : bigSep Finset.univ Φ = iprop(Φ 0 ∗ Φ 1 ∗ Φ 2) :=
  bigSep_univ_eq_bigSepL [0, 1, 2] (by decide) (by decide) Φ

/-- Two families over the same indices, as one. -/
theorem zip {ι : Type} [Fintype ι] [DecidableEq ι] {Φ Ψ Θ : ι → sProp M} (h : ∀ s, iprop(Φ s ∗ Ψ s) ⊢ Θ s) :
    iprop(bigSep Finset.univ Φ ∗ bigSep Finset.univ Ψ) ⊢ bigSep Finset.univ Θ :=
  BIBase.Entails.trans (Entails.of_eq (bigSep_sep _ _ _).symm) (bigSep_mono fun s _ => h s)

/-- One family of pairs, as two families. -/
theorem unzip {ι : Type} [Fintype ι] [DecidableEq ι] (Φ Ψ : ι → sProp M) :
    (bigSep Finset.univ fun s => iprop(Φ s ∗ Ψ s)) ⊢ iprop(bigSep Finset.univ Φ ∗ bigSep Finset.univ Ψ) :=
  Entails.of_eq (bigSep_sep _ _ _)

end Families

/-- A device's own half of what a copy needs. -/
def halfKit (g₁ g₂ : GSem nD τ sig) : sProp 𝕄 :=
  iprop(reached ER g₁ 0 ∗ dutyTok ER g₁ 0 false ∗ dutyTok ER g₂ 0 false ∗ atPos ER g₁ 0 ∅ 0)

theorem kit_join {n : ℕ} (p : Dev nD) (M : Memref sig .tc .vmem (Sn n) .bf16) (g₁ g₂ : GSem nD τ sig) (s : Fin n) :
    iprop(iprop(slotAny (F := F) p M s ∗ reached ER g₂ 0) ∗ halfKit (F := F) g₁ g₂) ⊢ kit (F := F) p M g₁ g₂ s := by
  unfold halfKit kit
  iintro ⟨⟨Hs, Hr2⟩, Hr1, Ht1, Ht2, Hat⟩
  isplitl [Hs]; · iexact Hs
  isplitl [Hr2]; · iexact Hr2
  isplitl [Hr1]; · iexact Hr1
  isplitl [Ht1]; · iexact Ht1
  isplitl [Ht2]; · iexact Ht2
  iexact Hat

/-- What a device brings for its copies: the waits for those it receives, its half of those it sends, and that it has opened
    the cells its neighbours' copies credit. -/
def pocket (c : Dev nD) : sProp 𝕄 :=
  iprop((bigSep Finset.univ fun s : Fin 7 => due (F := F) (rsR c s)) ∗ (bigSep Finset.univ fun s : Fin 4 => due (F := F) (arR c s))
    ∗ (bigSep Finset.univ fun s : Fin 3 => due (F := F) (alR c s))
    ∗ (bigSep Finset.univ fun s : Fin 7 => halfKit (F := F) (rsS c s) (rsR (rt c) s))
    ∗ (bigSep Finset.univ fun s : Fin 4 => halfKit (F := F) (arS c s) (arR (rt c) s))
    ∗ (bigSep Finset.univ fun s : Fin 3 => halfKit (F := F) (alS c s) (alR (lf c) s))
    ∗ (bigSep Finset.univ fun s : Fin 7 => reached ER (rsR c s) 0) ∗ (bigSep Finset.univ fun s : Fin 4 => reached ER (arR c s) 0)
    ∗ (bigSep Finset.univ fun s : Fin 3 => reached ER (alR c s) 0))

/-- The slot buffers, slot by slot, at contents not named. -/
def slots (c : Dev nD) : sProp 𝕄 :=
  iprop((bigSep Finset.univ fun s : Fin 7 => slotAny (F := F) c rbM s) ∗ (bigSep Finset.univ fun s : Fin 7 => slotAny (F := F) c sbM s)
    ∗ (bigSep Finset.univ fun s : Fin 4 => slotAny (F := F) c arM s) ∗ (bigSep Finset.univ fun s : Fin 3 => slotAny (F := F) c alM s))

/-- What the handshake takes, beside the loan. -/
def greet (c : Dev nD) : sProp 𝕄 :=
  iprop(atPos ER (barC c) 0 ∅ 0 ∗ cred (tallyAt (barC c) () 2) ∗ owesE c (O₀ c) ∗ dutyTok ER (barC (lf c)) 0 false
    ∗ dutyTok ER (barC (rt c)) 0 true ∗ reached ER (barC (lf c)) 0 ∗ reached ER (barC (rt c)) 0)

/-- The copies' counters, back at zero. -/
def zeros (c : Dev nD) : sProp 𝕄 :=
  iprop((bigSep Finset.univ fun s : Fin 7 => semVal (rsS c s) 0) ∗ (bigSep Finset.univ fun s : Fin 7 => semVal (rsR c s) 0)
    ∗ (bigSep Finset.univ fun s : Fin 4 => semVal (arS c s) 0) ∗ (bigSep Finset.univ fun s : Fin 4 => semVal (arR c s) 0)
    ∗ (bigSep Finset.univ fun s : Fin 3 => semVal (alS c s) 0) ∗ (bigSep Finset.univ fun s : Fin 3 => semVal (alR c s) 0))

/-- Two halves of a slot, at contents not named. -/
theorem half_join {n : ℕ} (c : Dev nD) (M : Memref sig .tc .vmem (Sn n) .bf16) (s : Fin n) (A : Vec F S128x1024 .bf16) :
    (iprop(slotPt c M s fullShare.left A ∗ slotPt c M s fullShare.right A) : sProp 𝕄) ⊢ slotAny (F := F) c M s := by
  unfold slotAny
  iintro H
  ihave H := (slotPt_halves c M s A).2 $$ H
  iexists A; iexact H

/-- The rightward all-gather's end: counters at zero, slots whole again. -/
theorem ar_end (I : Dev nD → Ins F) (c : Dev nD) :
    iprop(closeF I c (n := 4) 20 (by omega) 4 ∗ arIn I c 4 ∗ slotPt c arM 3 fullShare.left (ownB I (sh c (7 * (3 + 1)))))
      ⊢ iprop((bigSep Finset.univ fun s : Fin 4 => semVal (arS c s) 0) ∗ (bigSep Finset.univ fun s : Fin 4 => semVal (arR c s) 0)
        ∗ (bigSep Finset.univ fun s : Fin 4 => slotAny (F := F) c arM s) ∗ slotPt c sbM 0 fullShare.left (ownB I c)) := by
  unfold closeF arIn
  rw [fam_end, fam_end, bigSep_four, bigSep_four, bigSep_four, bigSep_four, bigSep_four,
    show dmaPay I c (20 + (0 : Fin 4).val) = _ from pay_arS0 I c,
    show dmaPay I c (20 + (1 : Fin 4).val) = _ from pay_arS I c 0 (by decide),
    show dmaPay I c (20 + (2 : Fin 4).val) = _ from pay_arS I c 1 (by decide),
    show dmaPay I c (20 + (3 : Fin 4).val) = _ from pay_arS I c 2 (by decide)]
  iintro ⟨⟨⟨Hv0, Hp0⟩, ⟨Hv1, Hp1⟩, ⟨Hv2, Hp2⟩, ⟨Hv3, Hp3⟩⟩, ⟨⟨Hw0, Hq0⟩, ⟨Hw1, Hq1⟩, ⟨Hw2, Hq2⟩, ⟨Hw3, Hq3⟩⟩, Hl⟩
  isplitl [Hv0 Hv1 Hv2 Hv3]
  · isplitl [Hv0]; · iexact Hv0
    isplitl [Hv1]; · iexact Hv1
    isplitl [Hv2]; · iexact Hv2
    iexact Hv3
  isplitl [Hw0 Hw1 Hw2 Hw3]
  · isplitl [Hw0]; · iexact Hw0
    isplitl [Hw1]; · iexact Hw1
    isplitl [Hw2]; · iexact Hw2
    iexact Hw3
  isplitr [Hp0]
  · isplitl [Hp1 Hq0]
    · iapply (half_join c arM 0 _); isplitl [Hp1]; · iexact Hp1
      iexact Hq0
    isplitl [Hp2 Hq1]
    · iapply (half_join c arM 1 _); isplitl [Hp2]; · iexact Hp2
      iexact Hq1
    isplitl [Hp3 Hq2]
    · iapply (half_join c arM 2 _); isplitl [Hp3]; · iexact Hp3
      iexact Hq2
    iapply (half_join c arM 3 _); isplitl [Hl]; · iexact Hl
    iexact Hq3
  iexact Hp0

/-- The leftward all-gather's end: counters at zero, slots whole again. -/
theorem al_end (I : Dev nD → Ins F) (c : Dev nD) :
    iprop(closeF I c (n := 3) 28 (by omega) 3 ∗ alIn I c 3 ∗ slotPt c alM 2 fullShare.left (ownB I (sh c (2 + 1))))
      ⊢ iprop((bigSep Finset.univ fun s : Fin 3 => semVal (alS c s) 0) ∗ (bigSep Finset.univ fun s : Fin 3 => semVal (alR c s) 0)
        ∗ (bigSep Finset.univ fun s : Fin 3 => slotAny (F := F) c alM s) ∗ slotPt c sbM 0 fullShare.right (ownB I c)) := by
  unfold closeF alIn
  rw [fam_end, fam_end, bigSep_three, bigSep_three, bigSep_three, bigSep_three, bigSep_three,
    show dmaPay I c (28 + (0 : Fin 3).val) = _ from pay_alS0 I c,
    show dmaPay I c (28 + (1 : Fin 3).val) = _ from pay_alS I c 0 (by decide),
    show dmaPay I c (28 + (2 : Fin 3).val) = _ from pay_alS I c 1 (by decide)]
  iintro ⟨⟨⟨Hv0, Hp0⟩, ⟨Hv1, Hp1⟩, ⟨Hv2, Hp2⟩⟩, ⟨⟨Hw0, Hq0⟩, ⟨Hw1, Hq1⟩, ⟨Hw2, Hq2⟩⟩, Hl⟩
  isplitl [Hv0 Hv1 Hv2]
  · isplitl [Hv0]; · iexact Hv0
    isplitl [Hv1]; · iexact Hv1
    iexact Hv2
  isplitl [Hw0 Hw1 Hw2]
  · isplitl [Hw0]; · iexact Hw0
    isplitl [Hw1]; · iexact Hw1
    iexact Hw2
  isplitr [Hp0]
  · isplitl [Hp1 Hq0]
    · iapply (half_join c alM 0 _); isplitl [Hp1]; · iexact Hp1
      iexact Hq0
    isplitl [Hp2 Hq1]
    · iapply (half_join c alM 1 _); isplitl [Hp2]; · iexact Hp2
      iexact Hq1
    iapply (half_join c alM 2 _); isplitl [Hl]; · iexact Hl
    iexact Hq2
  iexact Hp0

theorem rsEnd_open (c : Dev nD) :
    rsEnd (F := F) c ⊢ iprop((bigSep Finset.univ fun s : Fin 7 => semVal (rsR c s) 0) ∗ (bigSep Finset.univ fun s : Fin 7 => slotAny (F := F) c rbM s)
      ∗ (bigSep Finset.univ fun s : Fin 7 => semVal (rsS c s) 0) ∗ (bigSep Finset.univ fun s : Fin 7 => slotAny (F := F) c sbM s)) := by
  have u1 : rsEnd (F := F) c ⊢ iprop(iprop((bigSep Finset.univ fun s : Fin 7 => semVal (rsR c s) 0) ∗ bigSep Finset.univ fun s : Fin 7 => slotAny (F := F) c rbM s)
      ∗ iprop((bigSep Finset.univ fun s : Fin 7 => semVal (rsS c s) 0) ∗ bigSep Finset.univ fun s : Fin 7 => slotAny (F := F) c sbM s)) :=
    BI.sep_mono (unzip _ _) (unzip _ _)
  iintro H
  ihave H := u1 $$ H
  icases H with ⟨⟨H1, H2⟩, H3, H4⟩
  isplitl [H1]; · iexact H1
  isplitl [H2]; · iexact H2
  isplitl [H3]; · iexact H3
  iexact H4

theorem sh_zero7 (c : Dev nD) : sh c (7 * 0) = c := by revert c; decide

/-- The rightward copies' sends, all started, are all to be waited for. -/
theorem ar_close (I : Dev nD → Ins F) (c : Dev nD) : arOut (F := F) c 4 ⊢ closeF I c (n := 4) 20 (by omega) 0 := by
  unfold arOut closeF
  rw [fam_end, fam_zero]

/-- The leftward copies' sends, all started, are all to be waited for. -/
theorem al_close (I : Dev nD → Ins F) (c : Dev nD) : alOut (F := F) c 3 ⊢ closeF I c (n := 3) 28 (by omega) 0 := by
  unfold alOut closeF
  rw [fam_end, fam_zero]

variable (a0 : Memref sig .tc .vmem S1024x1024 .bf16) (h0 : a0.IsWhole) (a1 : Memref sig .tc .vmem S1024x1024 .bf16) (h1 : a1.IsWhole)
  (a2 : Memref sig .tc .vmem S8x1024x128 .bf16) (h2 : a2.IsWhole) (a3 : Memref sig .tc .vmem S8x1024x128 .f32) (h3 : a3.IsWhole)
  (a4 : Memref sig .tc .vmem S1024x1024 .bf16) (h4 : a4.IsWhole) (a5 : Memref sig .tc .vmem S1024x1024 .f32) (h5 : a5.IsWhole)
/-- The windows' buffers: the five inputs. -/
def wins (c : Dev nD) (i : Ins F) : sProp 𝕄 :=
  iprop(bufPt c a0 i.x ∗ bufPt c a1 i.wq ∗ bufPt c a2 i.kt ∗ bufPt c a3 i.vv ∗ bufPt c a4 i.wo)

set_option maxHeartbeats 2000000 in
/-- THE KERNEL on device `c`: given the inputs, the output window ends at the assembled chunks, and all is handed back. -/
theorem wp_kernel (I : Dev nD → Ins F) (K : GSem nD τ sig → ℕ) (c : Dev nD) :
    iprop(know I K ∗ greet (F := F) c ∗ pocket (F := F) c ∗ slots (F := F) c ∗ wins a0 a1 a2 a3 a4 c (I c)
        ∗ (∃ z, bufPt (F := F) c qcM z) ∗ (∃ z, bufPt (F := F) c a5 z))
      ⊢ WP c (cc0__body (F := F) a0 h0 a1 h1 a2 h2 a3 h3 a4 h4 a5 h5 rbM hrb sbM hsb arM har alM hal qcM hqc cc0_scratch5 cc0_scratch6 cc0_scratch7 cc0_scratch8 cc0_scratch9 cc0_scratch10) (fun _ =>
        iprop(wins a0 a1 a2 a3 a4 c (I c) ∗ (∃ z, bufPt (F := F) c qcM z) ∗ bufPt c a5 (asm (finC I c)) ∗ zeros (F := F) c ∗ slots (F := F) c
          ∗ semVal (barC c) 0 ∗ owesE c 0)) := by
  simp only [cc0__body_eq_skeleton]
  unfold cc0__body_skel greet pocket slots wins
  iintro ⟨#HK, ⟨Hat, Hcr, HO, Ht1, Ht2, #Hr1, #Hr2⟩, ⟨Hd1, Hd2, Hd3, Hk1, Hk2, Hk3, Hc1, Hc2, Hc3⟩, ⟨Hrb, Hsb, Har, Hal⟩,
    ⟨Hx, Hw, Hkt, Hvv, Hwo⟩, Hq, ⟨%z, Hz⟩⟩
  have l1 : iprop((bigSep Finset.univ fun s : Fin 7 => slotAny (F := F) c rbM s) ∗ bigSep Finset.univ fun s : Fin 7 => reached ER (rsR c s) 0)
      ⊢ bigSep Finset.univ fun s : Fin 7 => iprop(slotAny (F := F) c rbM s ∗ reached ER (rsR c s) 0) := Entails.of_eq (bigSep_sep _ _ _).symm
  have l2 : iprop((bigSep Finset.univ fun s : Fin 4 => slotAny (F := F) c arM s) ∗ bigSep Finset.univ fun s : Fin 4 => reached ER (arR c s) 0)
      ⊢ bigSep Finset.univ fun s : Fin 4 => iprop(slotAny (F := F) c arM s ∗ reached ER (arR c s) 0) := Entails.of_eq (bigSep_sep _ _ _).symm
  have l3 : iprop((bigSep Finset.univ fun s : Fin 3 => slotAny (F := F) c alM s) ∗ bigSep Finset.univ fun s : Fin 3 => reached ER (alR c s) 0)
      ⊢ bigSep Finset.univ fun s : Fin 3 => iprop(slotAny (F := F) c alM s ∗ reached ER (alR c s) 0) := Entails.of_eq (bigSep_sep _ _ _).symm
  -- the handshake: own slots lent, the neighbours' borrowed
  iapply (wp_seq c (wp_part6 a0 h0 a1 h1 a2 h2 a3 h3 a4 h4 a5 h5 I K c)) $$ [Hat Hcr HO Ht1 Ht2 Hrb Har Hal Hc1 Hc2 Hc3 Hx Hw Hq]
  · isplitr; · iexact HK
    isplitr [Hx Hw Hq]
    · unfold shakePre lend
      isplitl [Hat]; · iexact Hat
      isplitl [Hcr]; · iexact Hcr
      isplitl [HO]; · iexact HO
      isplitl [Ht1]; · iexact Ht1
      isplitl [Ht2]; · iexact Ht2
      isplitr; · iexact Hr1
      isplitr; · iexact Hr2
      isplitl [Hrb Hc1]
      · iapply l1
        isplitl [Hrb]; · iexact Hrb
        iexact Hc1
      isplitl [Har Hc2]
      · iapply l2
        isplitl [Har]; · iexact Har
        iexact Hc2
      iapply l3
      isplitl [Hal]; · iexact Hal
      iexact Hc3
    isplitl [Hx]; · iexact Hx
    isplitl [Hw]; · iexact Hw
    iexact Hq
  iintro %y ⟨%hy, Hsh, Hx, Hw, Hq⟩
  obtain ⟨v5, v8, v14, rfl⟩ := hy
  dsimp only
  unfold shakePost
  icases Hsh with ⟨HO, Hp1, Hp2, Hbar⟩
  unfold barPay
  icases Hp1 with ⟨Hprb, Hpar⟩
  have j1 : iprop((bigSep Finset.univ fun s : Fin 7 => iprop(slotAny (F := F) (rt c) rbM s ∗ reached ER (rsR (rt c) s) 0))
      ∗ bigSep Finset.univ fun s : Fin 7 => halfKit (F := F) (rsS c s) (rsR (rt c) s))
      ⊢ bigSep Finset.univ fun s : Fin 7 => kit (F := F) (rt c) rbM (rsS c s) (rsR (rt c) s) s := zip fun s => kit_join _ _ _ _ s
  have j2 : iprop((bigSep Finset.univ fun s : Fin 4 => iprop(slotAny (F := F) (rt c) arM s ∗ reached ER (arR (rt c) s) 0))
      ∗ bigSep Finset.univ fun s : Fin 4 => halfKit (F := F) (arS c s) (arR (rt c) s))
      ⊢ bigSep Finset.univ fun s : Fin 4 => kit (F := F) (rt c) arM (arS c s) (arR (rt c) s) s := zip fun s => kit_join _ _ _ _ s
  have j3 : iprop((bigSep Finset.univ fun s : Fin 3 => iprop(slotAny (F := F) (lf c) alM s ∗ reached ER (alR (lf c) s) 0))
      ∗ bigSep Finset.univ fun s : Fin 3 => halfKit (F := F) (alS c s) (alR (lf c) s))
      ⊢ bigSep Finset.univ fun s : Fin 3 => kit (F := F) (lf c) alM (alS c s) (alR (lf c) s) s := zip fun s => kit_join _ _ _ _ s
  ihave Hk1 := j1 $$ [Hprb Hk1]
  · isplitl [Hprb]; · iexact Hprb
    iexact Hk1
  ihave Hk2 := j2 $$ [Hpar Hk2]
  · isplitl [Hpar]; · iexact Hpar
    iexact Hk2
  ihave Hk3 := j3 $$ [Hp2 Hk3]
  · isplitl [Hp2]; · iexact Hp2
    iexact Hk3
  have j4 : iprop((bigSep Finset.univ fun s : Fin 7 => slotAny (F := F) c sbM s)
      ∗ bigSep Finset.univ fun s : Fin 7 => kit (F := F) (rt c) rbM (rsS c s) (rsR (rt c) s) s)
      ⊢ bigSep Finset.univ fun s : Fin 7 => iprop(slotAny (F := F) c sbM s ∗ kit (F := F) (rt c) rbM (rsS c s) (rsR (rt c) s) s) :=
    Entails.of_eq (bigSep_sep _ _ _).symm
  ihave Hk1 := j4 $$ [Hsb Hk1]
  · isplitl [Hsb]; · iexact Hsb
    iexact Hk1
  -- the reduce-scatter
  simp only [k0_part7_eq_skeleton]
  unfold k0_part7_skel
  simp only [Prog.pure_eq_ret, Prog.bind_ret]
  have hz : bufPt (F := F) c a5 z ⊢ outG c a5 (fun _ => True) := by
    unfold outG
    iintro H
    iexists (rowsOf z)
    isplitr; · ipureintro; trivial
    rw [asm_rows]
    iexact H
  ihave Ho := hz $$ Hz
  iapply (wp_seq c (wp_part8 a0 h0 a1 h1 a2 h2 a3 h3 a4 h4 a5 h5 I K c v8 v14)) $$ [Hk1 Hd1 HO Hkt Hvv Hwo Hq Ho]
  · isplitr; · iexact HK
    isplitl [Hk1 Hd1 HO]
    · unfold rsF
      rw [fam_zero, fam_zero]
      isplitl [Hk1]; · iexact Hk1
      isplitl [Hd1]; · iexact Hd1
      iexact HO
    isplitr [Ho]
    · unfold attn
      isplitl [Hkt]; · iexact Hkt
      isplitl [Hvv]; · iexact Hvv
      isplitl [Hwo]; · iexact Hwo
      iexact Hq
    iexact Ho
  iintro %y ⟨%hy, Hrs, Hattn, Ho⟩
  subst hy
  have e0 : attn a2 a3 a4 c (I c) c ⊢ attn a2 a3 a4 c (I c) (sh c (7 * 0)) := by
    rw [show sh c (7 * 0) = c from sh_zero7 c]
  ihave Hattn := e0 $$ Hattn
  iapply (wp_seq c (wp_part9 a0 h0 a1 h1 a2 h2 a3 h3 a4 h4 a5 h5 I K c v8)) $$ [Hrs Hattn Ho Hx Hw]
  · unfold roundInv
    isplitr; · iexact HK
    isplitl [Hx]; · iexact Hx
    isplitl [Hw]; · iexact Hw
    isplitl [Hattn]; · iexact Hattn
    isplitl [Ho]; · iexact Ho
    iexact Hrs
  iintro %y ⟨%hy, Hx, Hw, Hattn, Ho, Hrs⟩
  obtain ⟨v113, v114, rfl⟩ := hy
  dsimp only
  iapply (wp_seq c (wp_part10 a0 h0 a1 h1 a2 h2 a3 h3 a4 h4 a5 h5 I c v114)) $$ [Hattn Ho]
  · isplitl [Hattn]; · iexact Hattn
    iexact Ho
  iintro %y ⟨%hy, Hattn, Ho⟩
  subst hy
  iapply (wp_seq c (wp_part11 a0 h0 a1 h1 a2 h2 a3 h3 a4 h4 a5 h5 I K c v8 v113)) $$ [Hrs Ho]
  · isplitr; · iexact HK
    isplitl [Hrs]; · iexact Hrs
    iexact Ho
  iintro %y ⟨Ho, Hs, Hrs, HO⟩
  -- the all-gather
  iapply (wp_seq c (wp_part12 a0 h0 a1 h1 a2 h2 a3 h3 a4 h4 a5 h5 I K c v5 v8)) $$ [Ho Hs Hk2 Hk3 Hd2 Hd3 HO]
  · unfold gather arOut arIn alOut alIn
    rw [fam_zero, fam_zero, fam_zero, fam_zero]
    isplitr [Hs]
    · isplitr; · iexact HK
      isplitl [Ho]; · iexact Ho
      isplitl [Hk2]; · iexact Hk2
      isplitl [Hd2]; · iexact Hd2
      isplitl [Hk3]; · iexact Hk3
      isplitl [Hd3]; · iexact Hd3
      iexact HO
    iexact Hs
  iintro %y H
  iapply (wp_seq c (wp_part13 a0 h0 a1 h1 a2 h2 a3 h3 a4 h4 a5 h5 I K c v5 v8)) $$ H
  iintro %y H
  iapply (wp_seq c (wp_part14 a0 h0 a1 h1 a2 h2 a3 h3 a4 h4 a5 h5 I K c v8)) $$ H
  iintro %y ⟨%hy, Ho, Hra, Hri, Hla, Hli, HO, Hl3, Hl2⟩
  subst hy
  simp only [Prog.lift, Prog.bind_op, Prog.bind_ret]
  iapply (wp_store_out c a5 _ (doneP I c 4 3) (sh c (7 * 3)) (fun g h => done_ar I c 3 3 (by decide) g h) (off33_row3 c)) $$ Ho
  iintro Ho
  -- the own copies' ends
  iapply (wp_seq c (wp_t7 a0 h0 a1 h1 a2 h2 a3 h3 a4 h4 a5 h5 I K c)) $$ [Hra HO]
  · unfold closeInv
    isplitr; · iexact HK
    isplitl [Hra]
    · iapply (ar_close I c); iexact Hra
    iexact HO
  iintro %y H
  unfold closeInv
  icases H with ⟨-, Hra, HO⟩
  iapply (wp_seq c (wp_t8 a0 h0 a1 h1 a2 h2 a3 h3 a4 h4 a5 h5 I K c)) $$ [Hla HO]
  · unfold closeInv
    isplitr; · iexact HK
    isplitl [Hla]
    · iapply (al_close I c); iexact Hla
    iexact HO
  iintro %y H
  unfold closeInv
  icases H with ⟨-, Hla, HO⟩
  ihave Ha := (ar_end I c) $$ [Hra Hri Hl3]
  · isplitl [Hra]; · iexact Hra
    isplitl [Hri]; · iexact Hri
    iexact Hl3
  icases Ha with ⟨Hv1, Hv2, Har, Hs1⟩
  ihave Ha := (al_end I c) $$ [Hla Hli Hl2]
  · isplitl [Hla]; · iexact Hla
    isplitl [Hli]; · iexact Hli
    iexact Hl2
  icases Ha with ⟨Hv3, Hv4, Hal, Hs2⟩
  ihave Hs := (half_join c sbM 0 (ownB I c)) $$ [Hs1 Hs2]
  · isplitl [Hs1]; · iexact Hs1
    iexact Hs2
  ihave Hrs := Hrs $$ Hs
  ihave Hrs := (rsEnd_open c) $$ Hrs
  icases Hrs with ⟨Hv5, Hrb, Hv6, Hsb⟩
  iapply (wp_done c)
  unfold attn zeros
  icases Hattn with ⟨Hkt, Hvv, Hwo, Hq⟩
  isplitl [Hx Hw Hkt Hvv Hwo]
  · isplitl [Hx]; · iexact Hx
    isplitl [Hw]; · iexact Hw
    isplitl [Hkt]; · iexact Hkt
    isplitl [Hvv]; · iexact Hvv
    iexact Hwo
  isplitl [Hq]; · iexists _; iexact Hq
  isplitl [Ho]
  · unfold outG
    icases Ho with ⟨%g, %hg, Ho⟩
    rw [show g = finC I c from funext fun j => hg j (arrived_all c j)]
    iexact Ho
  isplitl [Hv1 Hv2 Hv3 Hv4 Hv5 Hv6]
  · isplitl [Hv6]; · iexact Hv6
    isplitl [Hv5]; · iexact Hv5
    isplitl [Hv1]; · iexact Hv1
    isplitl [Hv2]; · iexact Hv2
    isplitl [Hv3]; · iexact Hv3
    iexact Hv4
  isplitl [Hrb Hsb Har Hal]
  · isplitl [Hrb]; · iexact Hrb
    isplitl [Hsb]; · iexact Hsb
    isplitl [Har]; · iexact Har
    iexact Hal
  isplitl [Hbar]; · iexact Hbar
  rw [owedAt_end]
  iexact HO

end Cert.KernelIdeal.Pf

end
-- ==== Proof.Deal.lean ====
/-
  The cells of one device, numbered; what a device is dealt at launch, and how it opens its cells with it.
-/
module

public import proofs.«01_k».proof.Proof.Whole
public import Idealize.ShloMosaic.Lib.Pipeline.RegionTalk
public import Idealize.ShloMosaic.Lib.Rounds.Family

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Split

variable {M : Type} [URA M]

/-- A family over `a + b` indices, as its first `a` and its last `b`. -/
theorem bigSep_add {a b : ℕ} (Φ : Fin (a + b) → sProp M) :
    bigSep Finset.univ Φ = iprop((bigSep Finset.univ fun s : Fin a => Φ (Fin.castAdd b s)) ∗ bigSep Finset.univ fun s : Fin b => Φ (Fin.natAdd a s)) := by
  rw [bigSep_univ_equiv finSumFinEquiv Φ, bigSep_univ_sum]
  simp only [finSumFinEquiv_apply_left, finSumFinEquiv_apply_right]
  rfl

/-- The twenty-eight cells by their kinds: sent and received in the reduce-scatter, in the rightward, and in the leftward
    all-gather. -/
theorem split28 (Φ : Fin 28 → sProp M) : bigSep Finset.univ Φ
    = iprop((bigSep Finset.univ fun s : Fin 7 => Φ ⟨s.val, by omega⟩) ∗ (bigSep Finset.univ fun s : Fin 7 => Φ ⟨7 + s.val, by omega⟩)
      ∗ (bigSep Finset.univ fun s : Fin 4 => Φ ⟨14 + s.val, by omega⟩) ∗ (bigSep Finset.univ fun s : Fin 4 => Φ ⟨18 + s.val, by omega⟩)
      ∗ (bigSep Finset.univ fun s : Fin 3 => Φ ⟨22 + s.val, by omega⟩) ∗ (bigSep Finset.univ fun s : Fin 3 => Φ ⟨25 + s.val, by omega⟩)) := by
  rw [bigSep_add (a := 7) (b := 21) Φ, bigSep_add (a := 7) (b := 14) fun s => Φ (Fin.natAdd 7 s),
    bigSep_add (a := 4) (b := 10) fun s => Φ (Fin.natAdd 7 (Fin.natAdd 7 s)),
    bigSep_add (a := 4) (b := 6) fun s => Φ (Fin.natAdd 7 (Fin.natAdd 7 (Fin.natAdd 4 s))),
    bigSep_add (a := 3) (b := 3) fun s => Φ (Fin.natAdd 7 (Fin.natAdd 7 (Fin.natAdd 4 (Fin.natAdd 4 s))))]
  refine congrArg₂ _ (bigSep_congr fun s _ => congrArg Φ (Fin.ext rfl)) (congrArg₂ _ (bigSep_congr fun s _ => congrArg Φ (Fin.ext rfl))
    (congrArg₂ _ (bigSep_congr fun s _ => congrArg Φ (Fin.ext ?_)) (congrArg₂ _ (bigSep_congr fun s _ => congrArg Φ (Fin.ext ?_))
      (congrArg₂ _ (bigSep_congr fun s _ => congrArg Φ (Fin.ext ?_)) (bigSep_congr fun s _ => congrArg Φ (Fin.ext ?_))))))
  · show 7 + (7 + s.val) = 14 + s.val; omega
  · show 7 + (7 + (4 + s.val)) = 18 + s.val; omega
  · show 7 + (7 + (4 + (4 + s.val))) = 22 + s.val; omega
  · show 7 + (7 + (4 + (4 + (3 + s.val)))) = 25 + s.val; omega

/-- A persistent family holds every member. -/
theorem bigSep_take {ι : Type} [Fintype ι] [DecidableEq ι] (Φ : ι → sProp M) (i : ι) : bigSep Finset.univ Φ ⊢ Φ i := by
  rw [bigSep_univ_at Φ i]; iintro ⟨H, -⟩; iexact H

end Split

theorem cellD_congr (c : Dev nD) {n n' : ℕ} (h : n < 34) (h' : n' < 34) (e : n = n') : cellD c n h = cellD c n' h' := by
  subst e; rfl

/-- A family over a device's twenty-eight cells, by their kinds. -/
theorem split_cells (c : Dev nD) (Φ : GSem nD τ sig → sProp 𝕄) : (bigSep Finset.univ fun k : Fin 28 => Φ (scC (c, k)))
    = iprop((bigSep Finset.univ fun s : Fin 7 => Φ (rsS c s)) ∗ (bigSep Finset.univ fun s : Fin 7 => Φ (rsR c s))
      ∗ (bigSep Finset.univ fun s : Fin 4 => Φ (arS c s)) ∗ (bigSep Finset.univ fun s : Fin 4 => Φ (arR c s))
      ∗ (bigSep Finset.univ fun s : Fin 3 => Φ (alS c s)) ∗ (bigSep Finset.univ fun s : Fin 3 => Φ (alR c s))) := by
  rw [split28]
  refine congrArg₂ _ (bigSep_congr fun s _ => congrArg Φ (cellD_congr c _ _ ?_)) (congrArg₂ _ (bigSep_congr fun s _ => congrArg Φ (cellD_congr c _ _ ?_))
    (congrArg₂ _ (bigSep_congr fun s _ => congrArg Φ (cellD_congr c _ _ ?_)) (congrArg₂ _ (bigSep_congr fun s _ => congrArg Φ (cellD_congr c _ _ ?_))
      (congrArg₂ _ (bigSep_congr fun s _ => congrArg Φ (cellD_congr c _ _ ?_)) (bigSep_congr fun s _ => congrArg Φ (cellD_congr c _ _ ?_))))))
  · rfl
  · show 6 + (7 + s.val) = 13 + s.val; omega
  · show 6 + (14 + s.val) = 20 + s.val; omega
  · show 6 + (18 + s.val) = 24 + s.val; omega
  · show 6 + (22 + s.val) = 28 + s.val; omega
  · show 6 + (25 + s.val) = 31 + s.val; omega

/-- The kernel's own DMA semaphores. -/
abbrev osem (k : Fin 28) : SemLoc sig := .dma (⟨6 + k.val, by omega⟩ : Fin 34)

theorem own_eq (c : Dev nD) : (Pipeline.ownSems0 osem c : sProp 𝕄) = bigSep Finset.univ fun k : Fin 28 => semVal (scC (c, k)) 0 := rfl

theorem zeros_eq (c : Dev nD) : (Pipeline.ownSems0 osem c : sProp 𝕄) = zeros (F := F) c := by
  unfold zeros
  exact split_cells c fun g => semVal g 0

/-! ## What a device is dealt -/

/-- For the handshake. -/
def dealt (c : Dev nD) : sProp 𝕄 :=
  iprop(atPos ER (barC c) 0 ∅ 0 ∗ cred (tallyAt (barC c) () 2) ∗ dutyTok ER (barC (lf c)) 0 false ∗ dutyTok ER (barC (rt c)) 0 true
    ∗ reached ER (barC (lf c)) 0 ∗ reached ER (barC (rt c)) 0)

/-- The tokens of the copies it makes. -/
def toks (c : Dev nD) : sProp 𝕄 :=
  iprop((bigSep Finset.univ fun s : Fin 7 => dutyTok ER (rsS c s) 0 false) ∗ (bigSep Finset.univ fun s : Fin 7 => dutyTok ER (rsR (rt c) s) 0 false)
    ∗ (bigSep Finset.univ fun s : Fin 4 => dutyTok ER (arS c s) 0 false) ∗ (bigSep Finset.univ fun s : Fin 4 => dutyTok ER (arR (rt c) s) 0 false)
    ∗ (bigSep Finset.univ fun s : Fin 3 => dutyTok ER (alS c s) 0 false) ∗ (bigSep Finset.univ fun s : Fin 3 => dutyTok ER (alR (lf c) s) 0 false))

/-- The credit of the copies it receives. -/
def creds (c : Dev nD) : sProp 𝕄 :=
  iprop((bigSep Finset.univ fun s : Fin 7 => cred (tallyAt (rsR c s) () N)) ∗ (bigSep Finset.univ fun s : Fin 4 => cred (tallyAt (arR c s) () N))
    ∗ (bigSep Finset.univ fun s : Fin 3 => cred (tallyAt (alR c s) () N)))

variable (I : Dev nD → Ins F)

/-- Before its cells are open. -/
def Tk (c : Dev nD) : sProp 𝕄 :=
  iprop(∃ K, know I K ∗ dealt (F := F) c ∗ (bigSep Finset.univ fun k : Fin 28 => openTok ER (scC (c, k))) ∗ toks (F := F) c ∗ creds (F := F) c)
/-- After. -/
def Xk (c : Dev nD) : sProp 𝕄 := iprop(∃ K, know I K ∗ dealt (F := F) c ∗ pocket (F := F) c)

/-- The invariant of each of a device's cells, from all of them. -/
theorem know_cells (K : GSem nD τ sig → ℕ) (c : Dev nD) :
    know I K ⊢ bigSep Finset.univ fun k : Fin 28 => cellInv ER (rd I) (K (scC (c, k))) (scC (c, k)) := by
  unfold know
  rw [bigSep_univ_prod fun x : Dev nD × Fin 28 => (cellInv ER (rd I) (K (scC x)) (scC x) : sProp 𝕄)]
  iintro ⟨-, H, -⟩
  iapply (bigSep_take (fun a : Dev nD => bigSep Finset.univ fun k : Fin 28 => (cellInv ER (rd I) (K (scC (a, k))) (scC (a, k)) : sProp 𝕄)) c) $$ H

/-- The cells open, by their kinds. -/
theorem open_cells (K : GSem nD τ sig → ℕ) (c : Dev nD) :
    iprop(know I K ∗ (bigSep Finset.univ fun k : Fin 28 => openTok ER (scC (c, k))) ∗ Pipeline.ownSems0 osem c)
      ⊢ (|={Set.univ}=> ((bigSep Finset.univ fun k : Fin 28 => atPos ER (scC (c, k)) 0 ∅ 0)
          ∗ bigSep Finset.univ fun k : Fin 28 => reached ER (scC (c, k)) 0) : sProp 𝕄) := by
  have e0 := Rounds.cells_open ER (rd I) (Es := Set.univ) (Finset.univ : Finset (Fin 28)) (fun k => scC (c, k)) (fun k => K (scC (c, k)))
    (fun _ _ => Set.mem_univ _)
  rw [own_eq]
  iintro ⟨#HK, Hop, Hs⟩
  ihave HI := (know_cells I K c) $$ HK
  imod e0 $$ [HI Hop Hs] with H
  · isplitl [HI Hop]
    · iapply (zip (fun k : Fin 28 => .rfl)); isplitl [HI] <;> iassumption
    · iexact Hs
  imodintro
  iapply (unzip _ _) $$ H

theorem due_join (g : GSem nD τ sig) : iprop(cred (tallyAt g () N) ∗ atPos ER g 0 ∅ 0) ⊢ due (F := F) g := by
  unfold due; exact .rfl

theorem half_mk (g₁ g₂ : GSem nD τ sig) :
    iprop(iprop(reached ER g₁ 0 ∗ dutyTok ER g₁ 0 false) ∗ iprop(dutyTok ER g₂ 0 false ∗ atPos ER g₁ 0 ∅ 0)) ⊢ halfKit (F := F) g₁ g₂ := by
  unfold halfKit
  iintro ⟨⟨H1, H2⟩, H3, H4⟩
  isplitl [H1]; · iexact H1
  isplitl [H2]; · iexact H2
  isplitl [H3] <;> iassumption

/-- A family of send cells' halves. -/
theorem halves {n : ℕ} (g₁ g₂ : Fin n → GSem nD τ sig) :
    iprop((bigSep Finset.univ fun s => reached ER (g₁ s) 0) ∗ (bigSep Finset.univ fun s => dutyTok ER (g₁ s) 0 false)
      ∗ (bigSep Finset.univ fun s => dutyTok ER (g₂ s) 0 false) ∗ (bigSep Finset.univ fun s => atPos ER (g₁ s) 0 ∅ 0))
      ⊢ (bigSep Finset.univ fun s => halfKit (F := F) (g₁ s) (g₂ s) : sProp 𝕄) := by
  iintro ⟨H1, H2, H3, H4⟩
  iapply (zip fun s => half_mk (g₁ s) (g₂ s))
  isplitl [H1 H2]
  · iapply (zip fun s => .rfl); isplitl [H1] <;> iassumption
  · iapply (zip fun s => .rfl); isplitl [H3] <;> iassumption

theorem hopen (c : Dev nD) : iprop(Tk I c ∗ Pipeline.ownSems0 osem c ∗ levAts L lv) ⊢ (|={Set.univ}=> Xk I c : sProp 𝕄) := by
  unfold Tk
  iintro ⟨⟨%K, #HK, Hd, Hop, Ht, Hc⟩, Hs, -⟩
  imod (open_cells I K c) $$ [Hop Hs] with ⟨Hat, Hre⟩
  · isplitr; · iexact HK
    isplitl [Hop] <;> iassumption
  imodintro
  ihave Hat := (Entails.of_eq (split_cells (F := F) c fun g => atPos ER g 0 ∅ 0)) $$ Hat
  ihave Hre := (Entails.of_eq (split_cells (F := F) c fun g => reached ER g 0)) $$ Hre
  icases Hat with ⟨HaS, HaR, HbS, HbR, HlS, HlR⟩
  icases Hre with ⟨HrS, HrR, HsS, HsR, HtS, HtR⟩
  unfold toks creds
  icases Ht with ⟨T1, T2, T3, T4, T5, T6⟩
  icases Hc with ⟨C1, C2, C3⟩
  unfold Xk
  iexists K
  isplitr; · iexact HK
  isplitl [Hd]; · iexact Hd
  unfold pocket
  isplitl [C1 HaR]; · iapply (zip fun s => due_join (rsR c s)); isplitl [C1] <;> iassumption
  isplitl [C2 HbR]; · iapply (zip fun s => due_join (arR c s)); isplitl [C2] <;> iassumption
  isplitl [C3 HlR]; · iapply (zip fun s => due_join (alR c s)); isplitl [C3] <;> iassumption
  isplitl [HrS T1 T2 HaS]
  · iapply (halves (fun s => rsS c s) (fun s => rsR (rt c) s))
    isplitl [HrS]; · iexact HrS
    isplitl [T1]; · iexact T1
    isplitl [T2] <;> iassumption
  isplitl [HsS T3 T4 HbS]
  · iapply (halves (fun s => arS c s) (fun s => arR (rt c) s))
    isplitl [HsS]; · iexact HsS
    isplitl [T3]; · iexact T3
    isplitl [T4] <;> iassumption
  isplitl [HtS T5 T6 HlS]
  · iapply (halves (fun s => alS c s) (fun s => alR (lf c) s))
    isplitl [HtS]; · iexact HtS
    isplitl [T5]; · iexact T5
    isplitl [T6] <;> iassumption
  isplitl [HrR]; · iexact HrR
  isplitl [HsR] <;> iassumption

/-! ## The slot buffers, put together again -/

theorem slotAny_exists {n : ℕ} (c : Dev nD) (M : Memref sig .tc .vmem (Sn n) .bf16) (s : Fin n) :
    (slotAny (F := F) c M s : sProp 𝕄) ⊢ iprop(∃ f, M.view.loc (c : Thread nD τ) ↦[slotSet M s]{fullShare} f) := by
  unfold slotAny slotPt
  iintro ⟨%A, H⟩
  iexists _
  iexact H

theorem slots_join {n : ℕ} (c : Dev nD) (M : Memref sig .tc .vmem (Sn n) .bf16) (hM : M.view.set = Finset.univ)
    (f₀ : Buf (Elt F) (M.view.loc (c : Thread nD τ))) :
    (bigSep Finset.univ fun s => slotAny (F := F) c M s : sProp 𝕄) ⊢ iprop(∃ f, M.view.loc (c : Thread nD τ) ↦{fullShare} f) := by
  have hd := slots_disjoint M
  refine BIBase.Entails.trans (bigSep_mono fun s _ => ?_) (Ring.pointsTo_blocks_join_exists (fun s : Fin n => slotSet M s) hd
    (Finset.eq_univ_of_forall fun i => Finset.mem_biUnion.mpr ((slots_cover M hM i).imp fun s hs => ⟨Finset.mem_univ _, hs⟩)) f₀)
  exact slotAny_exists c M s

end Cert.KernelIdeal.Pf

end
-- ==== Proof.Region.lean ====
/-
  The kernel's call: its windows, what it takes and what it leaves, as one step of the whole program.
-/
module

public import proofs.«01_k».proof.Proof.Deal
public import Idealize.ShloMosaic.Lib.Pipeline.ValueKit
public import proofs.«01_k».proof.Proof.Gen.KernelIdeal.Regions
public import proofs.«01_k».proof.Proof.Gen.KernelIdeal.Points

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ)

/-- What each device's kernel is given: the values the host operations before it compute. -/
def insOf (c : Dev nD) : Ins F :=
  ⟨Gen.V1 m c main_v6, Gen.V1 m c main_v17, Gen.V1 m c main_v9, Gen.V1 m c main_v11, Gen.V1 m c main_v23⟩

/-- What each device's kernel computes. -/
def outV (c : Dev nD) : Vec F S1024x1024 .f32 := asm (finC (insOf m) c)

/-- What the calls leave: there is one, and it leaves the kernel's result. -/
def outs : Gen.Outs (F := F) := fun _ r c => if h : r = main_v24 then h ▸ outV m c else Gen.V1 m c r

theorem outs_v24 (c : Dev nD) : outs m 2 main_v24 c = outV m c := by unfold outs; exact dif_pos rfl

/-- Before the call, beside its windows. -/
def before0 (c : Dev nD) : sProp 𝕄 :=
  iprop(Xk (insOf m) c ∗ slots (F := F) c ∗ (∃ z : Vec F S128x1024 .bf16, bufPt c qcM z) ∗ ∃ r, prngReg c r)
/-- After it. -/
def after0 (c : Dev nD) : sProp 𝕄 :=
  iprop(semVal (barC c) 0 ∗ zeros (F := F) c ∗ slots (F := F) c ∗ (∃ z : Vec F S128x1024 .bf16, bufPt c qcM z) ∗ ∃ r, prngReg c r)

def dat0 (c : Dev nD) : Dat τ (Elt F) Unit ℕ UU ℕ cfg0 c where
  A w := Gen.V1 m c (Proc.devRef .tc (Pipeline.arrRef spec0 w))
  after
    | 0 => fun _ => (insOf m c).x
    | 1 => fun _ => (insOf m c).wq
    | 2 => fun _ => (insOf m c).kt
    | 3 => fun _ => (insOf m c).vv
    | 4 => fun _ => (insOf m c).wo
    | 5 => fun _ => outV m c
    | ⟨_ + 6, h⟩ => absurd h (Nat.not_lt.2 (Nat.le_add_left _ _))
  Φ t := if t.val = 0 then before0 m c else after0 c
  q _ := fullShare
  owed t := if t.val = 0 then O₀ c else 0

def pdats : (p : Fin 1) → (c : Dev nD) → Dat τ (Elt F) Unit ℕ UU ℕ (cfgs p) c
  | 0 => dat0 m

theorem owed_first (c : Dev nD) : (dat0 m c).owed (t0_0 : Fin cfg0.N).castSucc = O₀ c := by
  show (if (t0_0 : Fin cfg0.N).castSucc.val = 0 then O₀ c else 0) = O₀ c
  exact if_pos rfl
theorem owed_last (c : Dev nD) : (dat0 m c).owed (Fin.last cfg0.N) = 0 := by
  show (if (Fin.last cfg0.N).val = 0 then O₀ c else 0) = 0
  exact if_neg (by rw [Fin.val_last, show cfg0.N = 1 from N_0]; decide)
theorem phi_first (c : Dev nD) : (dat0 m c).Φ (t0_0 : Fin cfg0.N).castSucc = before0 m c := by
  show (if (t0_0 : Fin cfg0.N).castSucc.val = 0 then before0 m c else after0 c) = before0 m c
  exact if_pos rfl
theorem phi_last (c : Dev nD) : (dat0 m c).Φ (Fin.last cfg0.N) = after0 c := by
  show (if (Fin.last cfg0.N).val = 0 then before0 m c else after0 c) = after0 c
  exact if_neg (by rw [Fin.val_last, show cfg0.N = 1 from N_0]; decide)

theorem owes_in (c : Dev nD) (t : Fin (cfg0.N + 1)) (O : CellTallies nD τ sig Unit) (h : (dat0 m c).owed t = O) :
    (owesE (F := F) c O : sProp 𝕄) ⊢ (dat0 m c).owesAt () t := by
  unfold owesE Dat.owesAt Pipeline.owesWithin Dat.bound
  rw [h, show (dat0 m c).recorded t = Set.univ from rfl]
  iintro ⟨%W, HO⟩
  iexists W
  isplitr; · ipureintro; exact fun _ _ => Or.inl trivial
  iexact HO

theorem owes_out (c : Dev nD) (t : Fin (cfg0.N + 1)) (O : CellTallies nD τ sig Unit) (h : (dat0 m c).owed t = O) :
    ((dat0 m c).owesAt () t : sProp 𝕄) ⊢ owesE (F := F) c O := by
  unfold owesE Dat.owesAt Pipeline.owesWithin
  rw [h]
  iintro ⟨%W, -, HO⟩
  iexists W
  iexact HO

/-- A window's buffer, owned at contents, is that buffer at them. -/
theorem owns_in {s : Shape} {e : EltTy} (c : Dev nD) (M : Memref sig .tc .vmem s e) (X : Vec F s e) :
    (owns (c : Thread nD τ) M fullShare X : sProp 𝕄) ⊢ bufPt c M X := by
  unfold owns
  iintro ⟨%f, %h, H⟩
  iapply (bufPt_of_read c M f X h) $$ H

theorem owns_out {s : Shape} {e : EltTy} (c : Dev nD) (M : Memref sig .tc .vmem s e) (X : Vec F s e) :
    (bufPt c M X : sProp 𝕄) ⊢ owns (c : Thread nD τ) M fullShare X := by
  unfold owns bufPt
  iintro H
  iexists _
  isplitr; · ipureintro; exact View.read_rep _ _
  iexact H

/-- The kernel, from `before0` to `after0`. -/
theorem call_run (c : Dev nD) (a0 : Memref sig .tc .vmem S1024x1024 .bf16) (h0 : a0.IsWhole) (a1 : Memref sig .tc .vmem S1024x1024 .bf16)
    (h1 : a1.IsWhole) (a2 : Memref sig .tc .vmem S8x1024x128 .bf16) (h2 : a2.IsWhole) (a3 : Memref sig .tc .vmem S8x1024x128 .f32) (h3 : a3.IsWhole)
    (a4 : Memref sig .tc .vmem S1024x1024 .bf16) (h4 : a4.IsWhole) (a5 : Memref sig .tc .vmem S1024x1024 .f32) (h5 : a5.IsWhole) :
    iprop(before0 m c ∗ owesE (F := F) c (O₀ c) ∗ wins a0 a1 a2 a3 a4 c (insOf m c) ∗ ∃ z, bufPt c a5 z)
      ⊢ WP c (cc0__body a0 h0 a1 h1 a2 h2 a3 h3 a4 h4 a5 h5 rbM hrb sbM hsb arM har alM hal qcM hqc cc0_scratch5 cc0_scratch6 cc0_scratch7 cc0_scratch8 cc0_scratch9 cc0_scratch10) (fun _ => iprop(after0 (F := F) c ∗ owesE (F := F) c 0 ∗ wins a0 a1 a2 a3 a4 c (insOf m c) ∗ bufPt c a5 (outV m c))) := by
  unfold before0 Xk
  iintro ⟨⟨⟨%K, #HK, Hd, Hp⟩, Hs, Hq, Hr⟩, HO, Hw, Ho⟩
  iapply (wp_wand_r frame (wpE (defs₀ (F := F)) 𝒱₀ (c : Thread nD τ) none) Set.univ)
  isplitl [Hd Hp Hs Hq HO Hw Ho]
  · iapply (wp_kernel a0 h0 a1 h1 a2 h2 a3 h3 a4 h4 a5 h5 (insOf m) K c)
    isplitr; · iexact HK
    unfold dealt greet
    icases Hd with ⟨D1, D2, D3, D4, D5, D6⟩
    isplitl [D1 D2 D3 D4 D5 D6 HO]
    · isplitl [D1]; · iexact D1
      isplitl [D2]; · iexact D2
      isplitl [HO]; · iexact HO
      isplitl [D3]; · iexact D3
      isplitl [D4]; · iexact D4
      isplitl [D5] <;> iassumption
    isplitl [Hp]; · iexact Hp
    isplitl [Hs]; · iexact Hs
    isplitl [Hw]; · iexact Hw
    isplitl [Hq] <;> iassumption
  iintro %_ ⟨Hw, Hq, Ho, Hz, Hs, Hb, HO⟩
  unfold after0 outV
  isplitl [Hb Hz Hs Hq Hr]
  · isplitl [Hb]; · iexact Hb
    isplitl [Hz]; · iexact Hz
    isplitl [Hs]; · iexact Hs
    isplitl [Hq] <;> iassumption
  isplitl [HO]; · iexact HO
  isplitl [Hw] <;> iassumption

/-! The one block of an input window is its whole array. -/

theorem fetched_0 (c : Dev nD) (dat : Dat τ (Elt F) Unit ℕ UU ℕ cfg0 c) (t : Fin cfg0.N) (d : Vec F S1024x1024 .bf16) : dat.fetched 0 t d = dat.A 0 := by
  obtain rfl := fin_N0 t
  funext j
  refine congrArg (dat.A 0) (funext fun a => Fin.ext ?_)
  fin_cases a
  · show 0 * 1024 + 1 * (j 0).val = (j 0).val; omega
  · show 0 * 1024 + 1 * (j 1).val = (j 1).val; omega

theorem fetched_1 (c : Dev nD) (dat : Dat τ (Elt F) Unit ℕ UU ℕ cfg0 c) (t : Fin cfg0.N) (d : Vec F S1024x1024 .bf16) : dat.fetched 1 t d = dat.A 1 := by
  obtain rfl := fin_N0 t
  funext j
  refine congrArg (dat.A 1) (funext fun a => Fin.ext ?_)
  fin_cases a
  · show 0 * 1024 + 1 * (j 0).val = (j 0).val; omega
  · show 0 * 1024 + 1 * (j 1).val = (j 1).val; omega

theorem fetched_2 (c : Dev nD) (dat : Dat τ (Elt F) Unit ℕ UU ℕ cfg0 c) (t : Fin cfg0.N) (d : Vec F S8x1024x128 .bf16) : dat.fetched 2 t d = dat.A 2 := by
  obtain rfl := fin_N0 t
  funext j
  refine congrArg (dat.A 2) (funext fun a => Fin.ext ?_)
  fin_cases a
  · show 0 * 8 + 1 * (j 0).val = (j 0).val; omega
  · show 0 * 1024 + 1 * (j 1).val = (j 1).val; omega
  · show 0 * 128 + 1 * (j 2).val = (j 2).val; omega

theorem fetched_3 (c : Dev nD) (dat : Dat τ (Elt F) Unit ℕ UU ℕ cfg0 c) (t : Fin cfg0.N) (d : Vec F S8x1024x128 .f32) : dat.fetched 3 t d = dat.A 3 := by
  obtain rfl := fin_N0 t
  funext j
  refine congrArg (dat.A 3) (funext fun a => Fin.ext ?_)
  fin_cases a
  · show 0 * 8 + 1 * (j 0).val = (j 0).val; omega
  · show 0 * 1024 + 1 * (j 1).val = (j 1).val; omega
  · show 0 * 128 + 1 * (j 2).val = (j 2).val; omega

theorem fetched_4 (c : Dev nD) (dat : Dat τ (Elt F) Unit ℕ UU ℕ cfg0 c) (t : Fin cfg0.N) (d : Vec F S1024x1024 .bf16) : dat.fetched 4 t d = dat.A 4 := by
  obtain rfl := fin_N0 t
  funext j
  refine congrArg (dat.A 4) (funext fun a => Fin.ext ?_)
  fin_cases a
  · show 0 * 1024 + 1 * (j 0).val = (j 0).val; omega
  · show 0 * 1024 + 1 * (j 1).val = (j 1).val; omega

theorem before_0 (c : Dev nD) (t : Fin cfg0.N) (d : Vec F S1024x1024 .bf16) : (dat0 m c).before 0 t d = (insOf m c).x := by unfold Dat.before; rw [if_pos (fetch0_0 t)]; exact fetched_0 c _ t d
theorem before_1 (c : Dev nD) (t : Fin cfg0.N) (d : Vec F S1024x1024 .bf16) : (dat0 m c).before 1 t d = (insOf m c).wq := by unfold Dat.before; rw [if_pos (fetch0_1 t)]; exact fetched_1 c _ t d
theorem before_2 (c : Dev nD) (t : Fin cfg0.N) (d : Vec F S8x1024x128 .bf16) : (dat0 m c).before 2 t d = (insOf m c).kt := by unfold Dat.before; rw [if_pos (fetch0_2 t)]; exact fetched_2 c _ t d
theorem before_3 (c : Dev nD) (t : Fin cfg0.N) (d : Vec F S8x1024x128 .f32) : (dat0 m c).before 3 t d = (insOf m c).vv := by unfold Dat.before; rw [if_pos (fetch0_3 t)]; exact fetched_3 c _ t d
theorem before_4 (c : Dev nD) (t : Fin cfg0.N) (d : Vec F S1024x1024 .bf16) : (dat0 m c).before 4 t d = (insOf m c).wo := by unfold Dat.before; rw [if_pos (fetch0_4 t)]; exact fetched_4 c _ t d

theorem win_in {s : Shape} {e : EltTy} (c : Dev nD) (M : Memref sig .tc .vmem s e) (X : Vec F s e) {D : Type} (b : D → Vec F s e) (h : ∀ d, b d = X) :
    (iprop(∃ d, owns (c : Thread nD τ) M fullShare (b d)) : sProp 𝕄) ⊢ bufPt c M X := by
  iintro ⟨%d, H⟩
  rw [h d]
  iapply (owns_in c M X) $$ H

/-- The call's one step, on the windows' staging buffers. -/
theorem body_run (c : Dev nD) :
    iprop((dat0 m c).Φ (t0_0 : Fin cfg0.N).castSucc ∗ (dat0 m c).owesAt () (t0_0 : Fin cfg0.N).castSucc
      ∗ (∃ d, owns (c : Thread nD τ) (st0_0 t0_0) fullShare ((dat0 m c).before 0 t0_0 d))
      ∗ (∃ d, owns (c : Thread nD τ) (st0_1 t0_0) fullShare ((dat0 m c).before 1 t0_0 d))
      ∗ (∃ d, owns (c : Thread nD τ) (st0_2 t0_0) fullShare ((dat0 m c).before 2 t0_0 d))
      ∗ (∃ d, owns (c : Thread nD τ) (st0_3 t0_0) fullShare ((dat0 m c).before 3 t0_0 d))
      ∗ (∃ d, owns (c : Thread nD τ) (st0_4 t0_0) fullShare ((dat0 m c).before 4 t0_0 d))
      ∗ (∃ d, owns (c : Thread nD τ) (st0_5 t0_0) fullShare ((dat0 m c).before 5 t0_0 d)))
    ⊢ WP c (bodyAt0 t0_0) (fun _ => iprop((dat0 m c).Φ (t0_0 : Fin cfg0.N).succ ∗ (dat0 m c).owesAt () (t0_0 : Fin cfg0.N).succ
      ∗ owns (c : Thread nD τ) (st0_0 t0_0) fullShare ((dat0 m c).after 0 t0_0)
      ∗ owns (c : Thread nD τ) (st0_1 t0_0) fullShare ((dat0 m c).after 1 t0_0)
      ∗ owns (c : Thread nD τ) (st0_2 t0_0) fullShare ((dat0 m c).after 2 t0_0)
      ∗ owns (c : Thread nD τ) (st0_3 t0_0) fullShare ((dat0 m c).after 3 t0_0)
      ∗ owns (c : Thread nD τ) (st0_4 t0_0) fullShare ((dat0 m c).after 4 t0_0)
      ∗ owns (c : Thread nD τ) (st0_5 t0_0) fullShare ((dat0 m c).after 5 t0_0))) := by
  rw [phi_first, show (dat0 m c).Φ (t0_0 : Fin cfg0.N).succ = after0 c from phi_last m c]
  iintro ⟨HΦ, HO, H0, H1, H2, H3, H4, ⟨%d5, H5⟩⟩
  ihave HO := (owes_out m c _ (O₀ c) (owed_first m c)) $$ HO
  ihave H0 := (win_in c (st0_0 t0_0) _ _ (before_0 m c t0_0)) $$ H0
  ihave H1 := (win_in c (st0_1 t0_0) _ _ (before_1 m c t0_0)) $$ H1
  ihave H2 := (win_in c (st0_2 t0_0) _ _ (before_2 m c t0_0)) $$ H2
  ihave H3 := (win_in c (st0_3 t0_0) _ _ (before_3 m c t0_0)) $$ H3
  ihave H4 := (win_in c (st0_4 t0_0) _ _ (before_4 m c t0_0)) $$ H4
  ihave H5 := (owns_in c (st0_5 t0_0) _) $$ H5
  have e := call_run m c (st0_0 t0_0) (hstage0_0 0) (st0_1 t0_0) (hstage0_1 0) (st0_2 t0_0) (hstage0_2 0) (st0_3 t0_0) (hstage0_3 0)
    (st0_4 t0_0) (hstage0_4 0) (st0_5 t0_0) (hstage0_5 0)
  iapply (wp_wand_r frame (wpE (defs₀ (F := F)) 𝒱₀ (c : Thread nD τ) none) Set.univ)
  isplitl [HΦ HO H0 H1 H2 H3 H4 H5]
  · iapply e
    isplitl [HΦ]; · iexact HΦ
    isplitl [HO]; · iexact HO
    unfold wins
    isplitr [H5]
    · isplitl [H0]; · iexact H0
      isplitl [H1]; · iexact H1
      isplitl [H2]; · iexact H2
      isplitl [H3] <;> iassumption
    iexists _; iexact H5
  iintro %_ ⟨HΦ, HO, Hw, H5⟩
  unfold wins
  icases Hw with ⟨H0, H1, H2, H3, H4⟩
  isplitl [HΦ]; · iexact HΦ
  isplitl [HO]; · iapply (owes_in m c _ 0 (owed_last m c)) $$ HO
  isplitl [H0]; · iapply (owns_out c (st0_0 t0_0) _) $$ H0
  isplitl [H1]; · iapply (owns_out c (st0_1 t0_0) _) $$ H1
  isplitl [H2]; · iapply (owns_out c (st0_2 t0_0) _) $$ H2
  isplitl [H3]; · iapply (owns_out c (st0_3 t0_0) _) $$ H3
  isplitl [H4]; · iapply (owns_out c (st0_4 t0_0) _) $$ H4
  iapply (owns_out c (st0_5 t0_0) _) $$ H5

theorem body (c : Dev nD) : BodyObligation (dat0 m c) defs₀ 𝒱₀ () Set.univ := fun t => by
  obtain rfl := fin_N0 t
  rw [bigSep_W0, bigSep_W0]
  exact body_run m c

end Cert.KernelIdeal.Pf

end
-- ==== Proof.Call.lean ====
/-
  The kernel's call as one segment of the whole program.
-/
module

public import proofs.«01_k».proof.Proof.Region

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat RegionSeg)

variable (m : (ℓ : Loc nD τ sig) → Buf (Elt F) ℓ)

/-! ## The scratch buffers, whole and slot by slot -/

/-- The scratch buffers whole are the slots and the queries' buffer. -/
theorem scratch_in (c : Dev nD) : (Pipeline.scopedRest spec0 c : sProp 𝕄)
    ⊢ iprop(slots (F := F) c ∗ ∃ z : Vec F S128x1024 .bf16, bufPt c qcM z) := by
  rw [scopedRest0_eq]
  unfold slots
  iintro ⟨⟨%f0, H0⟩, ⟨%f1, H1⟩, ⟨%f2, H2⟩, ⟨%f3, H3⟩, ⟨%f4, H4⟩⟩
  have e0 : ((c : Thread nD τ).loc cc0_scratch0 ↦{fullShare} f0 : sProp 𝕄) ⊢ bigSep Finset.univ fun s => slotAny (F := F) c rbM s :=
    slots_split c rbM (View.set_whole _) f0
  have e1 : ((c : Thread nD τ).loc cc0_scratch1 ↦{fullShare} f1 : sProp 𝕄) ⊢ bigSep Finset.univ fun s => slotAny (F := F) c sbM s :=
    slots_split c sbM (View.set_whole _) f1
  have e2 : ((c : Thread nD τ).loc cc0_scratch2 ↦{fullShare} f2 : sProp 𝕄) ⊢ bigSep Finset.univ fun s => slotAny (F := F) c arM s :=
    slots_split c arM (View.set_whole _) f2
  have e3 : ((c : Thread nD τ).loc cc0_scratch3 ↦{fullShare} f3 : sProp 𝕄) ⊢ bigSep Finset.univ fun s => slotAny (F := F) c alM s :=
    slots_split c alM (View.set_whole _) f3
  have e4 : ((c : Thread nD τ).loc cc0_scratch4 ↦{fullShare} f4 : sProp 𝕄) ⊢ bufPt c qcM f4 :=
    BIBase.Entails.trans (Entails.of_eq (owns_whole (c : Thread nD τ) cc0_scratch4 fullShare f4).symm) (owns_in c qcM f4)
  isplitl [H0 H1 H2 H3]
  · isplitl [H0]; · iapply e0 $$ H0
    isplitl [H1]; · iapply e1 $$ H1
    isplitl [H2]; · iapply e2 $$ H2
    iapply e3 $$ H3
  iexists f4; iapply e4 $$ H4

include m in
/-- Back: some contents are those of the launch. -/
theorem scratch_out (c : Dev nD) : iprop(slots (F := F) c ∗ ∃ z : Vec F S128x1024 .bf16, bufPt c qcM z)
    ⊢ (Pipeline.scopedRest spec0 c : sProp 𝕄) := by
  rw [scopedRest0_eq]
  unfold slots
  have e0 : (bigSep Finset.univ fun s => slotAny (F := F) c rbM s : sProp 𝕄) ⊢ iprop(∃ f, (c : Thread nD τ).loc cc0_scratch0 ↦{fullShare} f) :=
    slots_join c rbM (View.set_whole _) (m ((c : Thread nD τ).loc cc0_scratch0))
  have e1 : (bigSep Finset.univ fun s => slotAny (F := F) c sbM s : sProp 𝕄) ⊢ iprop(∃ f, (c : Thread nD τ).loc cc0_scratch1 ↦{fullShare} f) :=
    slots_join c sbM (View.set_whole _) (m ((c : Thread nD τ).loc cc0_scratch1))
  have e2 : (bigSep Finset.univ fun s => slotAny (F := F) c arM s : sProp 𝕄) ⊢ iprop(∃ f, (c : Thread nD τ).loc cc0_scratch2 ↦{fullShare} f) :=
    slots_join c arM (View.set_whole _) (m ((c : Thread nD τ).loc cc0_scratch2))
  have e3 : (bigSep Finset.univ fun s => slotAny (F := F) c alM s : sProp 𝕄) ⊢ iprop(∃ f, (c : Thread nD τ).loc cc0_scratch3 ↦{fullShare} f) :=
    slots_join c alM (View.set_whole _) (m ((c : Thread nD τ).loc cc0_scratch3))
  iintro ⟨⟨H0, H1, H2, H3⟩, ⟨%z, H4⟩⟩
  have e4 : (bufPt c qcM z : sProp 𝕄) ⊢ ((c : Thread nD τ).loc cc0_scratch4 ↦{fullShare} z) :=
    BIBase.Entails.trans (owns_out c qcM z) (Entails.of_eq (owns_whole (c : Thread nD τ) cc0_scratch4 fullShare z))
  isplitl [H0]; · iapply e0 $$ H0
  isplitl [H1]; · iapply e1 $$ H1
  isplitl [H2]; · iapply e2 $$ H2
  isplitl [H3]; · iapply e3 $$ H3
  iexists z; iapply e4 $$ H4

/-! ## The segment -/

/-- The unscoped buffers that are no window's. -/
abbrev restRefs : Finset (DevRef τ sig) := Pipeline.ucRefs τ sig \ Pipeline.arrRefs (τ := τ) spec0

theorem arrRefs_sub : Pipeline.arrRefs (τ := τ) spec0 ⊆ Pipeline.ucRefs τ sig := by decide
theorem v24_notMem : (Proc.devRef .tc main_v24 : DevRef τ sig) ∉ restRefs := by decide

theorem held_none (c : Dev nD) (W : Valuation τ sig (Elt F)) : (StableHlo.held (c.tc : Thread nD τ) ∅ W : sProp 𝕄) = BI.emp := by
  unfold StableHlo.held; exact BI.bigSep_empty

theorem V2_v24 (c : Dev nD) : Gen.V2 m (outs m) c main_v24 = outV m c := by
  unfold Gen.V2; rw [Function.update_self]; exact outs_v24 m c

theorem arr_in (c : Dev nD) (w : Fin 6) (h : (cfg0.win w).isOut = false) (hne : (Proc.devRef .tc (Pipeline.arrRef spec0 w) : DevRef τ sig) ≠ Proc.devRef .tc main_v24) :
    (dat0 m c).arrAt w cfg0.N = Gen.V2 m (outs m) c (Proc.devRef .tc (Pipeline.arrRef spec0 w)) := by
  rw [(dat0 m c).arrAt_in w h]
  unfold Gen.V2
  rw [Function.update_of_ne hne]
  rfl

theorem arr_out (c : Dev nD) : (dat0 m c).arrAt 5 cfg0.N = outV m c := by
  refine (dat0 m c).arrAt_eq_of_after_last 5 t0_0 (by decide +kernel) _ fun j => ?_
  rfl

def kitP : Pipeline.PLaunchFacts (nD := nD) (τ := τ) (pcfgs (F := F)) 0 where
  cellOf_inj a := by rw [Subsingleton.elim a Gen.adm]; exact cellOf_inj
  win := winFacts0
  pre := Pipeline.PreFacts.none _
  block_pos := block_pos0
  arr_whole := arr_whole0
  stage_whole := stage_whole0

theorem owed_cut (c : Dev nD) (t : Fin (cfg0.N + 1)) (g : GSem nD τ sig) (i : Unit) (h : 0 < (dat0 m c).owed t g i) : i ∈ L g ∧ 0 < lv g i := by
  have e : (dat0 m c).owed t = if t.val = 0 then O₀ c else 0 := rfl
  rw [e] at h
  split at h
  · unfold O₀ at h
    rw [Pi.add_apply, Finsupp.add_apply, Pi.add_apply, Finsupp.add_apply] at h
    have h3 : 0 < owedAt c 0 0 0 g i ∨ 0 < (tallyAt (barC (rt c)) () 1 : CellTallies nD τ sig Unit) g i
        ∨ 0 < (tallyAt (barC (lf c)) () 1 : CellTallies nD τ sig Unit) g i := by omega
    have hb : ∀ d : Dev nD, 0 < (tallyAt (barC d) () 1 : CellTallies nD τ sig Unit) g i → i ∈ L g ∧ 0 < lv g i := fun d hd => by
      rw [tallyAt_apply] at hd
      split at hd
      · next hg => obtain ⟨rfl, -⟩ := hg; exact ⟨by rw [L_tc]; exact Finset.mem_singleton_self _, Nat.one_pos⟩
      · exact absurd hd (Nat.lt_irrefl 0)
    rcases h3 with h | h | h
    · obtain ⟨h1, h2⟩ := owedAt_pos c 0 0 0 g i h
      refine ⟨h1, ?_⟩
      rcases h2 with ⟨s, -, h2⟩ | ⟨s, -, h2⟩ | ⟨s, -, h2⟩ <;> omega
    · exact hb _ h
    · exact hb _ h
  · exact absurd h (Nat.lt_irrefl 0)

theorem hin (c : Dev nD) : iprop(Pipeline.scopedRest spec0 c ∗ (∃ r, prngReg c r) ∗ StableHlo.held (c.tc : Thread nD τ) ∅ (Gen.V1 m c) ∗ Xk (insOf m) c)
    ⊢ ((dat0 m c).Φ (t0_0 : Fin cfg0.N).castSucc : sProp 𝕄) := by
  rw [phi_first]
  unfold before0
  iintro ⟨Hs, Hr, -, HX⟩
  ihave Hs := (scratch_in c) $$ Hs
  icases Hs with ⟨Hs, Hq⟩
  isplitl [HX]; · iexact HX
  isplitl [Hs]; · iexact Hs
  isplitl [Hq] <;> iassumption

theorem hout (c : Dev nD) : ((dat0 m c).Φ (Fin.last cfg0.N) : sProp 𝕄)
    ⊢ iprop(Pipeline.scopedRest spec0 c ∗ (∃ r, prngReg c r) ∗ StableHlo.held (c.tc : Thread nD τ) ∅ (Gen.V2 m (outs m) c)
      ∗ Pipeline.ownSems0 osem c ∗ semVal (barC c) 0) := by
  rw [phi_last, held_none, zeros_eq]
  unfold after0
  iintro ⟨Hb, Hz, Hs, Hq, Hr⟩
  isplitl [Hs Hq]; · iapply (scratch_out m c); isplitl [Hs] <;> iassumption
  isplitl [Hr]; · iexact Hr
  isplitr; · iempintro
  isplitl [Hz] <;> iassumption

set_option backward.isDefEq.respectTransparency.types false in
def reg0 : RegionSeg (pcfgs (F := F)) Gen.adm (pdats m) () defs₀ 𝒱₀ L lv 0 :=
  Pipeline.RegionSeg.ofTalk (pcfgs (F := F)) Gen.adm (pdats m) () defs₀ 𝒱₀ L lv 0 osem (by decide : Pipeline.OwnSemFacts spec0 osem)
    ∅ restRefs (Finset.empty_subset _) kitP rfl (fun c => (body m c).loose)
    (fun _ => 0) O₀ (fun c => (owed_first m c).trans (zero_add _).symm) (owed_last m) (fun _ => rfl)
    (fun _ w => by unfold Dat.share; split <;> rfl)
    (Gen.V1 m) (Gen.V2 m (outs m))
    (fun c b hb => by
      unfold Gen.V2
      exact Function.update_of_ne (fun h : b = Proc.devRef .tc main_v24 => v24_notMem (h ▸ (Finset.mem_sdiff.mp hb).1)) _ _)
    (Tk (insOf m)) (fun c => semVal (barC c) 0) (Xk (insOf m)) (fun c => semVal (barC c) 0) (hopen (insOf m)) (hin m) (hout m)
    (fun c => by iintro H; imodintro; iexact H)
    (fun _ => 0)
    ⟨fun c w s => by rw [L_tc]; exact Finset.mem_singleton_self _,
      fun c w s => (by fin_cases w <;> fin_cases s <;> exact le_refl _),
      fun c t g i h => owed_cut m c t g i h⟩
    (fun _ => iprop(emp))
    (fun c w => rfl)
    (fun c w => by
      fin_cases w
      · exact arr_in m c 0 rfl (by decide)
      · exact arr_in m c 1 rfl (by decide)
      · exact arr_in m c 2 rfl (by decide)
      · exact arr_in m c 3 rfl (by decide)
      · exact arr_in m c 4 rfl (by decide)
      · exact (arr_out m c).trans (V2_v24 m c).symm)

end Cert.KernelIdeal.Pf

end
-- ==== Proof.Launch.lean ====
/-
  The launch: every cell's invariant is made, the tokens and the credit are dealt to the devices that use them, and the whole
  program runs to its end.
-/
module

public import proofs.«01_k».proof.Proof.Call

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Seg RegionSeg)

/-! ## The cells and the tokens -/

theorem cellD_inj {c c' : Dev nD} {n n' : ℕ} {h : n < 34} {h' : n' < 34} (e : cellD c n h = cellD c' n' h') : c = c' ∧ n = n' :=
  ⟨congrArg (fun g : GSem nD τ sig => g.1.1) e, congrArg Fin.val (SemLoc.dma.inj (congrArg Prod.snd e))⟩

theorem cellD_ne_bar {c c' : Dev nD} {n : ℕ} {h : n < 34} : cellD c n h ≠ barC c' := fun e => by
  have := congrArg Prod.snd e; contradiction

theorem cellD_ne {c c' : Dev nD} {n n' : ℕ} {h : n < 34} {h' : n' < 34} (hn : n ≠ n') : cellD c n h ≠ cellD c' n' h' :=
  fun e => hn (cellD_inj e).2

theorem scC_inj : Function.Injective scC := fun x y e => by
  have h := cellD_inj e
  exact Prod.ext h.1 (Fin.ext (Nat.add_left_cancel h.2))

def barEmb : Dev nD ↪ GSem nD τ sig := ⟨fun c => barC c, fun _ _ h => congrArg (fun g : GSem nD τ sig => g.1.1) h⟩
def scEmb : Dev nD × Fin 28 ↪ GSem nD τ sig := ⟨scC, scC_inj⟩

/-- A duty of a device's cells: of its barrier, or of one of its twenty-eight others. -/
def duty (x : Dev nD × (Bool ⊕ Fin 28)) : GSem nD τ sig × ℕ × Bool :=
  match x.2 with
  | .inl b => (barC x.1, 0, b)
  | .inr k => (scC (x.1, k), 0, false)

theorem duty_inj : Function.Injective duty := by
  rintro ⟨c, b | k⟩ ⟨c', b' | k'⟩ e
  · have h1 : c = c' := congrArg (fun t : GSem nD τ sig × ℕ × Bool => t.1.1.1) e
    have h2 : b = b' := congrArg (fun t : GSem nD τ sig × ℕ × Bool => t.2.2) e
    rw [h1, h2]
  · exact absurd (congrArg Prod.fst e).symm cellD_ne_bar
  · exact absurd (congrArg Prod.fst e) cellD_ne_bar
  · have h := scC_inj (congrArg Prod.fst e)
    exact Prod.ext (show c = c' from congrArg Prod.fst h) (congrArg (fun x : Dev nD × Fin 28 => (Sum.inr x.2 : Bool ⊕ Fin 28)) h)

abbrev barCells : Finset (GSem nD τ sig) := Finset.univ.map barEmb
abbrev scCells : Finset (GSem nD τ sig) := Finset.univ.map scEmb
def duties : Finset (GSem nD τ sig × ℕ × Bool) := Finset.univ.map ⟨duty, duty_inj⟩

theorem disjoint_cells : Disjoint barCells scCells := by
  rw [Finset.disjoint_left]
  rintro g h₁ h₂
  obtain ⟨c, -, rfl⟩ := Finset.mem_map.mp h₁
  obtain ⟨x, -, h⟩ := Finset.mem_map.mp h₂
  exact cellD_ne_bar h

/-- The ring's step to the right, as a permutation. -/
def ring : Dev nD ≃ Dev nD := ⟨rt, lf, lf_rt, rt_lf⟩

/-- A family over the devices, each member handed one step along the ring, either way. -/
theorem turn_rt (Φ : Dev nD → sProp 𝕄) : bigSep Finset.univ Φ = bigSep Finset.univ fun c => Φ (rt c) := bigSep_univ_equiv ring Φ
theorem turn_lf (Φ : Dev nD → sProp 𝕄) : bigSep Finset.univ Φ = bigSep Finset.univ fun c => Φ (lf c) := bigSep_univ_equiv ring.symm Φ

/-- The tokens of a device's barrier that its neighbours' signals use, seen from the device that signals. -/
def barToks (c : Dev nD) : sProp 𝕄 := iprop(dutyTok ER (barC (lf c)) 0 false ∗ dutyTok ER (barC (rt c)) 0 true)

theorem duties_eq : bigSep duties (fun x => (dutyTok ER x.1 x.2.1 x.2.2 : sProp 𝕄))
    = bigSep Finset.univ fun c : Dev nD => iprop(iprop(dutyTok ER (barC c) 0 false ∗ dutyTok ER (barC c) 0 true)
      ∗ (bigSep Finset.univ fun s : Fin 7 => dutyTok ER (rsS c s) 0 false) ∗ (bigSep Finset.univ fun s : Fin 7 => dutyTok ER (rsR c s) 0 false)
      ∗ (bigSep Finset.univ fun s : Fin 4 => dutyTok ER (arS c s) 0 false) ∗ (bigSep Finset.univ fun s : Fin 4 => dutyTok ER (arR c s) 0 false)
      ∗ (bigSep Finset.univ fun s : Fin 3 => dutyTok ER (alS c s) 0 false) ∗ (bigSep Finset.univ fun s : Fin 3 => dutyTok ER (alR c s) 0 false)) := by
  unfold duties
  rw [bigSep_map, bigSep_univ_prod]
  refine bigSep_congr fun c _ => ?_
  rw [bigSep_univ_sum, bigSep_univ_eq_bigSepL [false, true] (by decide) (by decide)]
  exact congrArg₂ _ rfl (split_cells c fun g => dutyTok ER g 0 false)

/-- Every token to the device whose copy or signal uses it. -/
theorem duties_around : bigSep duties (fun x => (dutyTok ER x.1 x.2.1 x.2.2 : sProp 𝕄))
    ⊢ bigSep Finset.univ fun c : Dev nD => iprop(barToks (F := F) c ∗ toks (F := F) c) := by
  rw [duties_eq]
  unfold barToks toks
  simp only [bigSep_sep']
  rw [turn_lf fun c => (dutyTok ER (barC c) 0 false : sProp 𝕄), turn_rt fun c => (dutyTok ER (barC c) 0 true : sProp 𝕄),
    turn_rt fun c => (bigSep Finset.univ fun s : Fin 7 => dutyTok ER (rsR c s) 0 false : sProp 𝕄),
    turn_rt fun c => (bigSep Finset.univ fun s : Fin 4 => dutyTok ER (arR c s) 0 false : sProp 𝕄),
    turn_lf fun c => (bigSep Finset.univ fun s : Fin 3 => dutyTok ER (alR c s) 0 false : sProp 𝕄)]

/-! ## The credit at launch -/

/-- Of the copies `d` owes onto the cells of `c`, one at each of them if it is `d` that copies there. -/
theorem fam_at {n : ℕ} (cell : Dev nD → Fin n → GSem nD τ sig) (hinj : ∀ d c s t, cell d s = cell c t → d = c ∧ s = t) (d c : Dev nD) (s : Fin n) :
    owedFam (cell d) 0 (cell c s) () = if d = c then N else 0 := by
  unfold owedFam
  rw [Finset.sum_apply, Finsupp.finsetSum_apply]
  by_cases h : d = c
  · subst h
    rw [if_pos rfl, Finset.sum_eq_single s]
    · rw [tallyAt_apply, if_pos ⟨rfl, rfl⟩]
    · intro t _ ht
      rw [tallyAt_apply, if_neg fun e => ht (hinj _ _ _ _ e.1.symm).2]
    · intro hs
      exact (hs (by simp)).elim
  · rw [if_neg h]
    refine Finset.sum_eq_zero fun t _ => ?_
    rw [tallyAt_apply, if_neg fun e => h (hinj _ _ _ _ e.1.symm).1]

theorem fam_off {n : ℕ} (cell : Fin n → GSem nD τ sig) (g : GSem nD τ sig) (h : ∀ s, g ≠ cell s) : owedFam cell 0 g () = 0 := by
  by_contra hn
  obtain ⟨s, -, e⟩ := owedFam_pos cell 0 g () (Nat.pos_of_ne_zero hn)
  exact h s e

theorem bar_at (d c : Dev nD) : (tallyAt (barC d) () 1 : CellTallies nD τ sig Unit) (barC c) () = if d = c then 1 else 0 := by
  rw [tallyAt_apply]
  by_cases h : d = c
  · subst h; rw [if_pos ⟨rfl, rfl⟩, if_pos rfl]
  · rw [if_neg fun e => h (congrArg (fun g : GSem nD τ sig => g.1.1) e.1).symm, if_neg h]

theorem bar_off (d c : Dev nD) (n : ℕ) (h : n < 34) : (tallyAt (barC d) () 1 : CellTallies nD τ sig Unit) (cellD c n h) () = 0 := by
  rw [tallyAt_apply, if_neg fun e => cellD_ne_bar e.1]

theorem O₀_apply (d : Dev nD) (g : GSem nD τ sig) : O₀ d g ()
    = owedFam (rsR (rt d)) 0 g () + owedFam (arR (rt d)) 0 g () + owedFam (alR (lf d)) 0 g ()
      + (tallyAt (barC (rt d)) () 1 : CellTallies nD τ sig Unit) g () + (tallyAt (barC (lf d)) () 1 : CellTallies nD τ sig Unit) g () := rfl

theorem sum_rt (c : Dev nD) (n : ℕ) : (∑ d : Dev nD, if rt d = c then n else 0) = n :=
  (Equiv.sum_comp ring fun d => if d = c then n else 0).trans (by rw [Finset.sum_ite_eq' Finset.univ c fun _ => n, if_pos (Finset.mem_univ _)])
theorem sum_lf (c : Dev nD) (n : ℕ) : (∑ d : Dev nD, if lf d = c then n else 0) = n :=
  (Equiv.sum_comp ring.symm fun d => if d = c then n else 0).trans (by rw [Finset.sum_ite_eq' Finset.univ c fun _ => n, if_pos (Finset.mem_univ _)])

theorem sum_bar (c : Dev nD) : ∑ d : Dev nD, O₀ d (barC c) () = 2 := by
  rw [Finset.sum_congr rfl fun d _ => show O₀ d (barC c) () = (if rt d = c then 1 else 0) + (if lf d = c then 1 else 0) from by
    rw [O₀_apply, fam_off _ _ fun s => cellD_ne_bar.symm, fam_off _ _ fun s => cellD_ne_bar.symm, fam_off _ _ fun s => cellD_ne_bar.symm, bar_at, bar_at]
    omega, Finset.sum_add_distrib, sum_rt, sum_lf]

theorem sum_rsR (c : Dev nD) (s : Fin 7) : ∑ d : Dev nD, O₀ d (rsR c s) () = N := by
  rw [Finset.sum_congr rfl fun d _ => show O₀ d (rsR c s) () = (if rt d = c then N else 0) from by
    rw [O₀_apply, fam_at rsR (fun d c s t e => ⟨(cellD_inj e).1, Fin.ext (Nat.add_left_cancel (cellD_inj e).2)⟩), fam_off _ _ fun t => cellD_ne (by omega),
      fam_off _ _ fun t => cellD_ne (by omega), bar_off, bar_off]
    omega, sum_rt]

theorem sum_arR (c : Dev nD) (s : Fin 4) : ∑ d : Dev nD, O₀ d (arR c s) () = N := by
  rw [Finset.sum_congr rfl fun d _ => show O₀ d (arR c s) () = (if rt d = c then N else 0) from by
    rw [O₀_apply, fam_at arR (fun d c s t e => ⟨(cellD_inj e).1, Fin.ext (Nat.add_left_cancel (cellD_inj e).2)⟩), fam_off _ _ fun t => cellD_ne (by omega),
      fam_off _ _ fun t => cellD_ne (by omega), bar_off, bar_off]
    omega, sum_rt]

theorem sum_alR (c : Dev nD) (s : Fin 3) : ∑ d : Dev nD, O₀ d (alR c s) () = N := by
  rw [Finset.sum_congr rfl fun d _ => show O₀ d (alR c s) () = (if lf d = c then N else 0) from by
    rw [O₀_apply, fam_at alR (fun d c s t e => ⟨(cellD_inj e).1, Fin.ext (Nat.add_left_cancel (cellD_inj e).2)⟩), fam_off _ _ fun t => cellD_ne (by omega),
      fam_off _ _ fun t => cellD_ne (by omega), bar_off, bar_off]
    omega, sum_lf]

/-- The credit a cell starts with is what all devices owe it. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

theorem osem_inj : Function.Injective osem := fun k k' e => Fin.ext (Nat.add_left_cancel (congrArg Fin.val (SemLoc.dma.inj e)))

theorem launch_creds (c : Dev nD) : (Pipeline.launchCred O₀ c : sProp 𝕄) ⊢ iprop(cred (tallyAt (barC c) () 2) ∗ creds (F := F) c) := by
  unfold Pipeline.launchCred
  rw [bigSep_univ_at _ (SemLoc.reg barS), launch_at _ _ (sum_bar c)]
  refine sep_mono_right ?_
  refine BIBase.Entails.trans (bigSep_subset (t := Finset.univ.map ⟨osem, osem_inj⟩) fun sm hsm => ?_) ?_
  · obtain ⟨k, -, rfl⟩ := Finset.mem_map.mp hsm
    exact Finset.mem_erase.mpr ⟨fun e => by simp at e, Finset.mem_univ _⟩
  rw [bigSep_map]
  refine BIBase.Entails.trans (Entails.of_eq (split_cells c fun g => cred (tallyOn g (launchCredit (Pipeline.owing O₀) 0 g)))) ?_
  unfold creds
  rw [bigSep_congr fun s _ => congrArg cred (launch_at _ _ (sum_rsR c s)), bigSep_congr fun s _ => congrArg cred (launch_at _ _ (sum_arR c s)),
    bigSep_congr fun s _ => congrArg cred (launch_at _ _ (sum_alR c s))]
  iintro ⟨-, H1, -, H2, -, H3⟩
  isplitl [H1]; · iexact H1
  isplitl [H2] <;> iassumption

end Cert.KernelIdeal.Pf

end
-- ==== Proof.Main.lean ====
/-
  The program's run: the launch's holdings make every device's share of the exchange, the three segments follow one another, and at
  the end every argument is as launched, the result is the broadcast of the attention output, and every counter is zero.
-/
module

public import proofs.«01_k».proof.Proof.Launch

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Seg RegionSeg)
variable (m : (ℓ : Loc nD τ sig) → Buf (Elt F) ℓ) (ρ : Dev nD → PrngReg)

/-- The user element at launch: the staging cells', then the exchange's. -/
def u₀ : UU :=
  (initOf (Pipeline.cells (Pipeline.pin (pcfgs (F := F)) Gen.adm) Gen.cellOf_inj) (Pipeline.launchToks (Pipeline.pin (pcfgs (F := F)) Gen.adm) Gen.cellOf_inj),
    launchOf barCells scCells duties)

/-- A resource held by the first device alone. -/
def atZero (X : sProp 𝕄) (c : Dev nD) : sProp 𝕄 := if c = 0 then X else iprop(emp)

theorem bigSep_atZero (X : sProp 𝕄) : bigSep Finset.univ (atZero X) = X := by
  rw [bigSep_univ_at _ (0 : Dev nD), bigSep_congr (s := Finset.univ.erase 0) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

def park : Dev nD → sProp 𝕄 := atZero (BI.own (ER (launchOf barCells scCells duties)))

/-- What every device may consult: the invariants under one map of names, and that every barrier is at its first round. -/
def records (I : Dev nD → Ins F) (κ : GSem nD τ sig → ℕ) : sProp 𝕄 :=
  iprop(know I κ ∗ bigSep Finset.univ fun c : Dev nD => reached ER (barC c) 0)

instance records_persistent (I : Dev nD → Ins F) (κ : GSem nD τ sig → ℕ) : BI.Persistent (records I κ) := by unfold records; infer_instance

theorem reached_at (c : Dev nD) : (bigSep Finset.univ fun c : Dev nD => (reached ER (barC c) 0 : sProp 𝕄)) ⊢ reached ER (barC c) 0 :=
  bigSep_elim (Finset.mem_univ c)

/-- What stays with device `c`: its barrier's position, its rights to open, the tokens of the duties it pays. -/
def linear (c : Dev nD) : sProp 𝕄 :=
  iprop(atPos ER (barC c) 0 ∅ 0 ∗ (bigSep Finset.univ fun k : Fin 28 => openTok ER (scC (c, k))) ∗ barToks (F := F) c ∗ toks (F := F) c)

/-- What else the launch hands a device. -/
def bundle (c : Dev nD) : sProp 𝕄 :=
  iprop(StableHlo.held (c : Thread nD τ) (Pipeline.ucRefs τ sig) (Gen.V0 m c) ∗ (cred (tallyAt (barC c) () 2) ∗ creds (F := F) c)
    ∗ owes (c : Thread nD τ) (O₀ c) ∅ ∗ ∃ r, prngReg c r)

theorem Tk_intro (I : Dev nD → Ins F) (κ : GSem nD τ sig → ℕ) (c : Dev nD) :
    iprop(records I κ ∗ (linear (F := F) c ∗ (cred (tallyAt (barC c) () 2) ∗ creds (F := F) c))) ⊢ Tk I c := by
  unfold records linear barToks Tk dealt
  iintro ⟨⟨#HK, #HR⟩, ⟨Hat, Ho, ⟨H1, H2⟩, Ht⟩, Hc, Hcs⟩
  iexists κ
  isplitr; · iexact HK
  isplitr [Ho Ht Hcs]
  · isplitl [Hat]; · iexact Hat
    isplitl [Hc]; · iexact Hc
    isplitl [H1]; · iexact H1
    isplitl [H2]; · iexact H2
    isplitr
    · iapply (reached_at (F := F) (lf c)); iexact HR
    · iapply (reached_at (F := F) (rt c)); iexact HR
  isplitl [Ho]; · iexact Ho
  isplitl [Ht] <;> iassumption

/-- What a device carries through its segments beside its buffers: before the call and after it. -/
def E : Fin 2 → Dev nD → sProp 𝕄
  | 0 => fun c => iprop((∃ r, prngReg c r) ∗ Tk (insOf m) c ∗ ∃ W, owes (c : Thread nD τ) (O₀ c) W)
  | 1 => fun c => iprop(semVal (barC c) 0 ∗ ∃ W, owes (c : Thread nD τ) (0 : CellTallies nD τ sig Unit) W)

abbrev T₀ (c : Dev nD) : sProp 𝕄 := iprop(StableHlo.held (c : Thread nD τ) (Pipeline.ucRefs τ sig) (Gen.V0 m c) ∗ E m 0 c)
abbrev Tₙ (c : Dev nD) : sProp 𝕄 := iprop(StableHlo.held (c : Thread nD τ) (Pipeline.ucRefs τ sig) (Gen.V3 m (outs m) c) ∗ semVal (barC c) 0)

theorem T₀_intro (κ : GSem nD τ sig → ℕ) (c : Dev nD) : iprop(records (insOf m) κ ∗ (linear (F := F) c ∗ bundle m c)) ⊢ T₀ m c := by
  unfold bundle T₀ E
  iintro ⟨HR, Hl, Hh, Hc, HO, Hp⟩
  isplitl [Hh]; · iexact Hh
  isplitl [Hp]; · iexact Hp
  isplitr [HO]
  · iapply (Tk_intro (insOf m) κ c)
    isplitl [HR]; · iexact HR
    isplitl [Hl] <;> iassumption
  · iexists ∅; iexact HO

theorem unscoped_eq : ∀ sm : SemLoc sig, sm.isScoped .tc = false → sm = .reg barS := by decide

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide, bigSep_singleton]

/-- One device's launch holdings, sorted. -/
theorem launch_one (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ park (F := F) c)
    ⊢ (iprop(bundle m c ∗ (semVal (barC c) 0 ∗ park (F := F) c)) : sProp 𝕄) := by
  rw [show unscopedBufs c (fun b => m ((c : Thread nD τ).loc b)) = StableHlo.held (c : Thread nD τ) (Pipeline.ucRefs τ sig) (Gen.V0 m c) from
      Pipeline.unscopedBufs_held c (Gen.V0 m c), unscopedSems0_eq]
  unfold bundle
  iintro ⟨Hh, Hus, HO, Hcr, Hp, HG⟩
  isplitl [Hh HO Hcr Hp]
  · isplitl [Hh]; · iexact Hh
    isplitl [Hcr]; · iapply (launch_creds (F := F) c); iexact Hcr
    isplitl [HO]; · iexact HO
    iexists (ρ c); iexact Hp
  isplitl [Hus] <;> iassumption

/-- The invariants made at launch, with the levels, are what every device knows. -/
theorem know_intro (I : Dev nD → Ins F) (κ : GSem nD τ sig → ℕ) :
    iprop((bigSep (barCells ∪ scCells) fun g => cellInv ER (rd I) (κ g) g) ∗ levAts L lv) ⊢ (know I κ : sProp 𝕄) := by
  rw [bigSep_union disjoint_cells, bigSep_map, bigSep_map]
  unfold know
  show iprop(iprop((bigSep Finset.univ fun c : Dev nD => cellInv ER (rd I) (κ (barC c)) (barC c))
    ∗ (bigSep Finset.univ fun x : Dev nD × Fin 28 => cellInv ER (rd I) (κ (scC x)) (scC x))) ∗ levAts L lv) ⊢ _
  iintro ⟨⟨H1, H2⟩, H3⟩
  isplitl [H1]; · iexact H1
  isplitl [H2] <;> iassumption

theorem init : iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ park (F := F) c)) ∗ levAts L lv)
      ⊢ (|={Set.univ}=> bigSep Finset.univ (T₀ m) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barC c) 0 : sProp 𝕄)) :=
    Entails.of_eq (bigSep_map (s := Finset.univ) barEmb (Φ := fun g : GSem nD τ sig => (reached ER g 0 : sProp 𝕄)))
  have ho : bigSep scCells (fun g => (openTok ER g : sProp 𝕄))
      ⊢ bigSep Finset.univ (fun c : Dev nD => bigSep Finset.univ fun k : Fin 28 => (openTok ER (scC (c, k)) : sProp 𝕄)) :=
    Entails.of_eq (by rw [bigSep_map, bigSep_univ_prod]; rfl)
  iintro ⟨H, #Hla⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ park (F := F) c))
      ⊢ (bigSep Finset.univ fun c : Dev nD => iprop(bundle m c ∗ (semVal (barC c) 0 ∗ park (F := F) c)) : sProp 𝕄) from
      bigSep_mono fun c _ => launch_one m ρ c) $$ H
  ihave H2 := (unzip _ _) $$ H'; icases H2 with ⟨HB, H3⟩
  ihave H4 := (unzip _ _) $$ H3; icases H4 with ⟨Hv, HG⟩
  ihave Hu := (show bigSep Finset.univ (park (F := F)) ⊢ BI.own (ER (launchOf barCells scCells duties)) from
    Entails.of_eq (bigSep_atZero (F := F) (BI.own (ER (launchOf barCells scCells duties))))) $$ HG
  imod (Rounds.fund_launch ER (rd (insOf m)) disjoint_cells (fun g _ h => h) duties) $$ [Hv Hu] with ⟨%κ, -, #Hinv, #Hr, Hat, Hopen, Htok⟩
  · isplitl [Hv]
    · iapply hv $$ Hv
    · iexact Hu
  imodintro
  iapply (bigSep_with_persistent (R := records (insOf m) κ) (Φ := fun c => iprop(linear (F := F) c ∗ bundle m c)) fun c _ => T₀_intro m κ c)
  isplitr
  · unfold records
    isplitr
    · iapply (know_intro (insOf m) κ)
      isplitr; · iexact Hinv
      iexact Hla
    · iapply hre; iexact Hr
  iapply (zip fun _ => BI.Entails.refl _)
  isplitr [HB]
  · unfold linear
    iapply (zip fun _ => BI.Entails.refl _); isplitl [Hat]; · iapply hat $$ Hat
    iapply (zip fun _ => BI.Entails.refl _); isplitl [Hopen]; · iapply ho $$ Hopen
    iapply (duties_around (F := F)) $$ Htok
  · iexact HB

/-- The call takes over the buffers and the exchange's share. -/
theorem pre0 (c : Dev nD) : iprop(StableHlo.held (c : Thread nD τ) (Pipeline.ucRefs τ sig) (Gen.V1 m c) ∗ E m 0 c) ⊢ (reg0 m).pre c := by
  show _ ⊢ iprop(StableHlo.held (c.tc : Thread nD τ) (Pipeline.arrRefs (τ := τ) spec0) (Gen.V1 m c) ∗ (∃ r, prngReg c r)
    ∗ (StableHlo.held (c.tc : Thread nD τ) restRefs (Gen.V1 m c) ∗ emp) ∗ Tk (insOf m) c ∗ ∃ Wd, owes (c : Thread nD τ) (0 + O₀ c) Wd)
  rw [StableHlo.held_sub_split (c.tc : Thread nD τ) arrRefs_sub (Gen.V1 m c), zero_add]
  unfold E
  iintro ⟨⟨H1, H2⟩, Hp, HT, HO⟩
  isplitl [H1]; · iexact H1
  isplitl [Hp]; · iexact Hp
  isplitl [H2]
  · isplitl [H2]; · iexact H2
    iempintro
  isplitl [HT] <;> iassumption

theorem post0 (c : Dev nD) : (reg0 m).post c ⊢ iprop(StableHlo.held (c : Thread nD τ) (Pipeline.ucRefs τ sig) (Gen.V2 m (outs m) c) ∗ E m 1 c) := by
  show iprop(StableHlo.held (c.tc : Thread nD τ) (Pipeline.arrRefs (τ := τ) spec0) (Gen.V2 m (outs m) c) ∗ (∃ r, prngReg c r)
    ∗ (StableHlo.held (c.tc : Thread nD τ) restRefs (Gen.V2 m (outs m) c) ∗ emp) ∗ semVal (barC c) 0 ∗ ∃ Wd, owes (c : Thread nD τ) 0 Wd) ⊢ _
  rw [StableHlo.held_sub_split (c.tc : Thread nD τ) arrRefs_sub (Gen.V2 m (outs m) c)]
  unfold E
  iintro ⟨H1, -, ⟨H2, -⟩, Hb, HO⟩
  isplitl [H1 H2]; · isplitl [H1] <;> iassumption
  isplitl [Hb] <;> iassumption

theorem last (c : Dev nD) : iprop(StableHlo.held (c : Thread nD τ) (Pipeline.ucRefs τ sig) (Gen.V3 m (outs m) c) ∗ E m 1 c)
    ⊢ iprop(Tₙ m c ∗ ∃ W, owes (c : Thread nD τ) (0 : CellTallies nD τ sig Unit) W) := by
  unfold E
  iintro ⟨Hh, Hb, HO⟩
  isplitr [HO]
  · isplitl [Hh] <;> iassumption
  · iexact HO

/-- The result's buffer at the end: the attention output under one more unit axis. -/
theorem V3_v25 (c : Dev nD) : Gen.V3 m (outs m) c main_v25 = broadcastInDim S1x1024x1024 ![1, 2] Gen.bcast_S1024x1024_S1x1024x1024_1_2 (outV m c) := by
  unfold Gen.V3
  rw [StableHlo.after_cons, StableHlo.after_nil, StableHlo.unary_result, V2_v24]

/-- What a final state holds on device `c`. -/
def Done (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v25) = broadcastInDim S1x1024x1024 ![1, 2] Gen.bcast_S1024x1024_S1x1024x1024_1_2 (outV m c)

theorem read_all (c : Dev nD) (s' : Phys nD τ sig (Elt F)) : iprop(Tₙ m c ∗ SI s')
    ⊢ |={Set.univ}=> iprop(⌜Done m c s'.mem ∧ s'.mem.sem (barC c) = 0⌝ ∗ SI s') := by
  unfold Tₙ StableHlo.held
  iintro ⟨⟨Hh, Hb⟩, HSI⟩
  icombine HSI Hb gives %hb
  ihave Hr := (pointsTo_read_all (Pipeline.ucRefs τ sig) (fun b => ((c : Thread nD τ).1, b)) (Gen.V3 m (outs m) c) s') $$ [Hh HSI]
  · isplitl [Hh] <;> iassumption
  icases Hr with ⟨%h, HSI⟩
  imodintro
  isplitr
  · ipureintro
    refine ⟨⟨⟨(h (Proc.devRef .tc main_arg0) (Finset.mem_filter.mpr ⟨StableHlo.devRef_mem_tcRefs main_arg0, by decide⟩)).trans (Gen.V3_main_arg0 m (outs m) c),
      (h (Proc.devRef .tc main_arg1) (Finset.mem_filter.mpr ⟨StableHlo.devRef_mem_tcRefs main_arg1, by decide⟩)).trans (Gen.V3_main_arg1 m (outs m) c),
      (h (Proc.devRef .tc main_arg2) (Finset.mem_filter.mpr ⟨StableHlo.devRef_mem_tcRefs main_arg2, by decide⟩)).trans (Gen.V3_main_arg2 m (outs m) c),
      (h (Proc.devRef .tc main_arg3) (Finset.mem_filter.mpr ⟨StableHlo.devRef_mem_tcRefs main_arg3, by decide⟩)).trans (Gen.V3_main_arg3 m (outs m) c),
      (h (Proc.devRef .tc main_arg4) (Finset.mem_filter.mpr ⟨StableHlo.devRef_mem_tcRefs main_arg4, by decide⟩)).trans (Gen.V3_main_arg4 m (outs m) c)⟩,
      (h (Proc.devRef .tc main_v25) (Finset.mem_filter.mpr ⟨StableHlo.devRef_mem_tcRefs main_v25, by decide⟩)).trans (V3_v25 m c)⟩, by simpa using hb⟩
  · iexact HSI

set_option backward.isDefEq.respectTransparency.types false in
/-- THE RUN: from any memory with zero counters every fair execution of the program ends, with every argument as launched, the result
    the attention output on every device, and every counter at zero. -/
theorem run_main : θ_run defs (onTc (τ := τ) (main (F := F))) ⟨m, fun _ => 0, ρ⟩
    (fun r => (∀ c : Dev nD, Done m c r.2) ∧ r.2.sem = fun _ => 0) := by
  refine Pipeline.θ_run_regions_kit_dev_sems (pcfgs (F := F)) Gen.adm (pdats m) () Gen.cellOf_inj EP defs₀ 𝒱₀ L lv m ρ main
    (Gen.segs m (outs m) 𝒱₀ L lv (E m) () (pdats m) (reg0 m))
    (fun c Q => by
      rewrite [Gen.main_chain c, Seg.run_eq_chain,
        show (Gen.segs m (outs m) 𝒱₀ L lv (E m) () (pdats m) (reg0 m) c).map Seg.prog = [
          StableHlo.seq (Gen.hostOps0 c), Prog.lift (.customCall (Pipeline.entry 0) ()), StableHlo.seq Gen.hostOps1] from rfl]
      dsimp (config := { failIfUnchanged := false }) only
      exact .rfl)
    (fun c => by simp only [Gen.segs, Seg.pipes_host, Seg.pipes_region, Seg.pipes_nil]; decide) O₀ L_of_ne park u₀
    (by
      unfold u₀ park
      iintro Hu
      ihave H := (ownU_pair _ _) $$ Hu
      icases H with ⟨HP, HX⟩
      imodintro
      isplitl [HP]; · iexact HP
      rw [bigSep_atZero]; iexact HX)
    (T₀ := T₀ m) (Tₙ := Tₙ m) (hch := fun c => ⟨.rfl, pre0 m c, post0 m c, last m c⟩) (hinit := init m ρ)
    (QY := fun c s => Done m c s ∧ s.sem (barC c) = 0) (hfin := read_all m)
    (hQ := fun s h hs => ⟨fun c => (h c).1, sem_eq_zero hs fun c sm hsm => by
      obtain rfl := unscoped_eq sm hsm
      exact (h c).2⟩)

/-- The run, read at the arguments and the counters alone. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) := by
  refine (θ_run defs _ _).mono (fun r h => ?_) (run_main m ρ)
  exact ⟨fun c => (h.1 c).1, h.2⟩

end Cert.KernelIdeal.Pf

end
-- ==== Proof.Model.lean ====
/-
  The mathematics both programs compute, over the ideal numbers: which pairs of blocks attend to each other, one head's
  attention, and the whole layer as a sum over the positions of all heads.
-/
module

public import Idealize.ShloMosaic.Lib.Pointwise

@[expose] public section

set_option maxRecDepth 16384

noncomputable section

namespace Cert.Model

open Idealize.ShloMosaic

/-- Whether block `a` of the rows attends to block `b` of the columns: the same block, the first one, or a sum divisible by
    three. -/
def seen (a b : ℕ) : BitVec 1 := BitVec.ofBool (a == b || b == 0 || (a + b) % 3 == 0)

/-- Every row attends to the first block. -/
theorem seen_zero (a : ℕ) : seen a 0 = 1#1 := by simp [seen]

section
variable (q : ℕ) (Q : Fin 128 → EReal) (K V : Fin 1024 → Fin 128 → EReal)

/-- The masked, scaled score of row `q`, whose query is `Q`, at column `j`. -/
def score (j : Fin 1024) : EReal :=
  Scalar.select (seen (q / 64) (j.val / 64)) ((∑ k, Q k * K j k) * Ideal.ofBits .f32 0x3DB504F3#32) (Ideal.ofBits .f32 0xCE6E6B28#32)

/-- The exponential of the score less the row's greatest. -/
def expo (j : Fin 1024) : EReal :=
  Ideal.exp (score q Q K j - Finset.univ.fold max (Ideal.ofBits .f32 0xFF800000#32) (score q Q K))

/-- The row's weighted sum of the values, in position `k`. -/
def head (k : Fin 128) : EReal := ∑ j, Ideal.div (expo q Q K j) (∑ j', expo q Q K j') * V j k
end

/-- Position `k` of head `h` among all heads' positions. -/
def posn (h : Fin 64) (k : Fin 128) : Fin 8192 := ⟨128 * h.val + k.val, by omega⟩

section
variable (x : Fin 1024 → Fin 1024 → EReal) (wq : Fin 1024 → Fin 8192 → EReal) (kx vx : Fin 1024 → Fin 64 → Fin 128 → EReal)
  (wo : Fin 8192 → Fin 1024 → EReal)

/-- What head `h` gives for row `q` at position `k`. -/
def ctx (q : Fin 1024) (h : Fin 64) (k : Fin 128) : EReal :=
  head q.val (fun k' => ∑ e, x q e * wq e (posn h k')) (fun j => kx j h) (fun j => vx j h) k

/-- The layer's output in row `q` and column `n`. -/
def out (q n : Fin 1024) : EReal := ∑ h, ∑ k, ctx x wq kx vx q h k * wo (posn h k) n
end

/-- A sum over `m` groups of `n`, group by group. -/
theorem sum_groups (m n : ℕ) (f : Fin (m * n) → EReal) :
    ∑ p, f p = ∑ a : Fin m, ∑ b : Fin n, f (finProdFinEquiv (a, b)) := by
  rw [← finProdFinEquiv.sum_comp, Fintype.sum_prod_type]

/-- A sum over all positions, head by head. -/
theorem sum_posn (f : Fin 8192 → EReal) : ∑ p, f p = ∑ h : Fin 64, ∑ k : Fin 128, f (posn h k) := by
  refine (sum_groups 64 128 f).trans (Finset.sum_congr rfl fun h _ => Finset.sum_congr rfl fun k _ => congrArg f (Fin.ext ?_))
  show k.val + 128 * h.val = 128 * h.val + k.val
  omega

/-- Head `h` of the eight that device `d` keeps. -/
def headOf (d h : Fin 8) : Fin 64 := ⟨8 * d.val + h.val, by omega⟩

/-- A sum over all heads, device by device. -/
theorem sum_heads (f : Fin 64 → EReal) : ∑ p, f p = ∑ d : Fin 8, ∑ h : Fin 8, f (headOf d h) := by
  refine (sum_groups 8 8 f).trans (Finset.sum_congr rfl fun d _ => Finset.sum_congr rfl fun h _ => congrArg f (Fin.ext ?_))
  show h.val + 8 * d.val = 8 * d.val + h.val
  omega

end Cert.Model

end
-- ==== Proof.Part.lean ====
/-
  The kernel's values over the ideal numbers: a device's partial product is its own heads' share of the layer, and the exchange
  around the ring adds the eight devices' shares.
-/
module

public import proofs.«01_k».proof.Proof.Model
public import proofs.«01_k».proof.Proof.Values

@[expose] public section

set_option maxRecDepth 16384

noncomputable section

namespace Cert.KernelIdeal.Pf

open Cert.KernelIdeal Cert.KernelIdeal.Gen
open Idealize.ShloMosaic
open Cert.Model

/-! ## The mask -/

/-- The quotient, rounded down as the kernel rounds it, of a word by 64. -/
def floorW (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)

/-- Of the word of a number below 1024 that quotient is the word of the quotient. -/
theorem floorW_lt : ∀ n : Fin 1024, floorW (BitVec.ofNat 32 n.val) = BitVec.ofNat 32 (n.val / 64) := by
  unfold floorW
  decide +kernel

/-- The kernel's mask on the words of two block numbers. -/
def maskW (a b : BitVec 32) : BitVec 1 :=
  IntOp.ori (IntOp.ori (IntOp.cmpi .eq a b) (IntOp.cmpi .eq b 0#32)) (IntOp.cmpi .eq (IntOp.remsi .vector (IntOp.addi a b) 3#32) 0#32)

/-- Of the words of two block numbers that mask says whether the one attends to the other. -/
theorem maskW_lt : ∀ a b : Fin 16, maskW (BitVec.ofNat 32 a.val) (BitVec.ofNat 32 b.val) = seen a.val b.val := by
  unfold maskW
  decide +kernel

/-- Row `q` of chunk `r`. -/
def rowOf (r : Fin 8) (q : Fin 128) : Fin 1024 := ⟨128 * r.val + q.val, by omega⟩

/-- The block number that the kernel gives row `q` of chunk `r`. -/
theorem qb_at (r : Fin 8) (q : Fin 128) (j : Fin 1024) : qbV (rowW r) (ix2 q j) = BitVec.ofNat 32 ((rowOf r q).val / 64) := by
  have hw : IntOp.addi (BitVec.ofNat 32 q.val) (rowW r) = BitVec.ofNat 32 (rowOf r q).val := by
    show BitVec.ofNat 32 q.val + BitVec.ofNat 32 (128 * r.val) = _
    rw [← BitVec.ofNat_add, Nat.add_comm]; rfl
  pointwise [qbV, k0_pay12]
  rw [hw]
  exact floorW_lt (rowOf r q)

/-! ## One head -/

/-- The query of row `q` of chunk `r` in head `h`. -/
theorem q_at (i : Ins Ideal) (r h : Fin 8) (q k : Fin 128) :
    colsOf (qOf i r) h (ix2 q k) = ∑ e, i.x (ix2 (rowOf r q) e) * i.wq (ix2 e (rowOf h k)) := by
  pointwise [colsOf, qOf, k0_pay1, rowsOf]
  rfl

/-- Plane `h` of an array of eight planes, at an index. -/
theorem plane_at {e : EltTy} (X : Vec Ideal S8x1024x128 e) (h : Fin 8) (j : Fin 1024) (k : Fin 128) : planeOf X h (ix3 0 j k) = X (ix3 h j k) := by
  pointwise [planeOf]

/-- Row chunk `r` of an array, at an index. -/
theorem rows_at {e : EltTy} (X : Vec Ideal S1024x1024 e) (r : Fin 8) (q : Fin 128) (n : Fin 1024) : rowsOf X r (ix2 q n) = X (ix2 (rowOf r q) n) := by
  pointwise [rowsOf]
  rfl

/-- Head `h` of a device, for row `q` of chunk `r`, at position `k`. -/
def headAt (i : Ins Ideal) (r : Fin 8) (q : Fin 128) (h : Fin 8) (k : Fin 128) : EReal :=
  head (rowOf r q).val (fun k' => ∑ e, i.x (ix2 (rowOf r q) e) * i.wq (ix2 e (rowOf h k')))
    (fun j k' => i.kt (ix3 h j k')) (fun j k' => i.vv (ix3 h j k')) k

set_option maxHeartbeats 2000000 in
/-- A head's step, its mask written by the words of the two block numbers. -/
theorem step_words (a b : IVec S128x1024 32) (acc : FVec Ideal S128x1024 .f32) (Q : Vec Ideal S128x128 .bf16) (K : Vec Ideal S1x1024x128 .bf16)
    (V : Vec Ideal S1x1024x128 .f32) (W : Vec Ideal S128x1024 .bf16) (q : Fin 128) (n : Fin 1024) (s : Fin 1024 → EReal)
    (hs : ∀ j, s j = Scalar.select (maskW (b (ix2 q j)) (floorW (a (ix2 q j))))
      ((∑ k, Q (ix2 q k) * K (ix3 0 j k)) * Ideal.ofBits .f32 0x3DB504F3#32) (Ideal.ofBits .f32 0xCE6E6B28#32)) :
    k0_pay4 a b acc Q K V W (ix2 q n) = acc (ix2 q n) + ∑ k, (∑ j, Ideal.div
        (Ideal.exp (s j - Finset.univ.fold max (Ideal.ofBits .f32 0xFF800000#32) s))
        (∑ j', Ideal.exp (s j' - Finset.univ.fold max (Ideal.ofBits .f32 0xFF800000#32) s)) * V (ix3 0 j k)) * W (ix2 k n) := by
  obtain rfl : s = _ := funext hs
  pointwise [k0_pay4]
  rfl

/-- A head's step adds that head's weighted values against its rows of the output weights. -/
theorem step_at (i : Ins Ideal) (r h : Fin 8) (acc : FVec Ideal S128x1024 .f32) (q : Fin 128) (n : Fin 1024) :
    headStep i r h acc (ix2 q n) = acc (ix2 q n) + ∑ k, headAt i r q h k * i.wo (ix2 (rowOf h k) n) := by
  unfold headStep
  rw [step_words (s := score (rowOf r q).val (fun k' => ∑ e, i.x (ix2 (rowOf r q) e) * i.wq (ix2 e (rowOf h k'))) (fun j k' => i.kt (ix3 h j k')))]
  · simp only [rows_at, plane_at]
    rfl
  · intro j
    have hk : kbV (ix2 q j) = BitVec.ofNat 32 j.val := by pointwise [kbV]
    rw [hk, floorW_lt, qb_at]
    simp only [q_at, plane_at]
    unfold score
    rw [← maskW_lt ⟨(rowOf r q).val / 64, by have := (rowOf r q).isLt; omega⟩ ⟨j.val / 64, by omega⟩]

/-- A device's partial product for row `q` of chunk `r`: its heads' weighted values against its rows of the output weights. -/
theorem part_at (i : Ins Ideal) (r : Fin 8) (q : Fin 128) (n : Fin 1024) :
    part i r (ix2 q n) = ∑ h, ∑ k, headAt i r q h k * i.wo (ix2 (rowOf h k) n) := by
  have hz : k0_pay3 (F := Ideal) (ix2 q n) = 0 := by pointwise [k0_pay3]
  have hsum : ∀ (N : ℕ) (hN : N ≤ 8), headAcc i r N (ix2 q n)
      = ∑ h : Fin N, ∑ k, headAt i r q (h.castLE hN) k * i.wo (ix2 (rowOf (h.castLE hN) k) n) := by
    intro N
    induction N with
    | zero => intro _; rw [Fin.sum_univ_zero]; exact hz
    | succ N ih =>
      intro hN
      have hlt : N < 8 := hN
      rw [Fin.sum_univ_castSucc]
      show (if hh : N < 8 then headStep i r ⟨N, hh⟩ (headAcc i r N) else headAcc i r N) (ix2 q n) = _
      rw [dif_pos hlt, step_at, ih (by omega)]
      rfl
  exact hsum 8 le_rfl

/-! ## The exchange -/

/-- `t` steps to the left from the left neighbour are `t + 1` steps to the left; no step leads nowhere. -/
theorem sh_lf (d : Dev nD) (t : ℕ) : sh (lf d) (7 * t) = sh d (7 * (t + 1)) :=
  Fin.ext (by show ((d.val + 7) % 8 + 7 * t) % 8 = (d.val + 7 * (t + 1)) % 8; omega)
theorem sh_none (d : Dev nD) : sh d (7 * 0) = d := Fin.ext (Nat.mod_eq_of_lt d.isLt)

section
variable (I : Dev nD → Ins Ideal) (q : Fin 128) (n : Fin 1024)

/-- The kernel's sum of a chunk in f32 and one in bf16, over the ideal numbers. -/
theorem add_at (a : Vec Ideal S128x1024 .f32) (b : Vec Ideal S128x1024 .bf16) : k0_pay5 a (up b) (ix2 q n) = a (ix2 q n) + b (ix2 q n) := by
  pointwise [k0_pay5, up]

/-- Over the ideal numbers a chunk rounded to bf16 is the chunk. -/
theorem round_at (a : Vec Ideal S128x1024 .f32) : down (k0_pay6 a) (ix2 q n) = a (ix2 q n) := by
  pointwise [k0_pay6, down]

/-- What travels in round `s` is the sum of `s + 1` devices' partial products. -/
theorem RS_at (s : ℕ) : ∀ d : Dev nD, RS I s d (ix2 q n) = ∑ t ∈ Finset.range (s + 1), part (I (sh d (7 * t))) (sh d (7 * s)) (ix2 q n) := by
  induction s with
  | zero =>
    intro d
    rw [Finset.sum_range_one, sh_none]
    show down (k0_pay17 (part (I d) d)) (ix2 q n) = _
    pointwise [k0_pay17, down]
  | succ s ih =>
    intro d
    rw [Finset.sum_range_succ', sh_none]
    show down (k0_pay6 (k0_pay5 (part (I d) (sh d (7 * (s + 1)))) (up (RS I s (lf d))))) (ix2 q n) = _
    rw [round_at, add_at, ih, add_comm]
    simp only [sh_lf]

/-- The chunk a device owns at the end is the sum of all devices' partial products for it. -/
theorem own_at (d : Dev nD) : ownC I d (ix2 q n) = ∑ e : Dev nD, part (I e) (rt d) (ix2 q n) := by
  have hr : sh (lf d) (7 * 6) = rt d := Fin.ext (by show ((d.val + 7) % 8 + 7 * 6) % 8 = (d.val + 1) % 8; omega)
  have hb : Function.Bijective (fun t : Fin 8 => (sh d (7 * t.val) : Dev nD)) := Finite.injective_iff_bijective.mp (by
    intro a b hab
    have h := congrArg Fin.val hab
    have h' : (d.val + 7 * a.val) % 8 = (d.val + 7 * b.val) % 8 := h
    exact Fin.ext (by omega))
  unfold ownC
  rw [add_at, RS_at, hr, ← Fintype.sum_bijective _ hb _ (fun e => part (I e) (rt d) (ix2 q n)) (fun _ => rfl),
    Fin.sum_univ_eq_sum_range (fun t => part (I (sh d (7 * t))) (rt d) (ix2 q n)) 8, Finset.sum_range_succ' _ 7, sh_none, add_comm]
  simp only [sh_lf]

/-- Every device ends with every chunk so summed. -/
theorem fin_at (d : Dev nD) (j : Fin 8) : finC I d j (ix2 q n) = ∑ e : Dev nD, part (I e) j (ix2 q n) := by
  unfold finC
  split
  · next h => rw [own_at, h]
  · have hu : ∀ b : Vec Ideal S128x1024 .bf16, k0_pay7 (up b) (ix2 q n) = b (ix2 q n) := fun b => by pointwise [k0_pay7, up]
    rw [hu]
    unfold ownB
    rw [round_at, own_at, rt_lf]

end

/-- Row `q` of a result put together from chunks is in chunk `q / 128`. -/
theorem asm_at (g : Fin 8 → Vec Ideal S128x1024 .f32) (r : Fin 8) (q : Fin 128) (n : Fin 1024) : asm g (ix2 (rowOf r q) n) = g r (ix2 q n) := by
  rw [← rows_at (e := .f32) (asm g), rows_asm]

end Cert.KernelIdeal.Pf

end
-- ==== Proof.Entry.lean ====
/-
  What the kernel's windows hold when it is entered, over the ideal numbers: each device's share of the arguments, read at an
  index.
-/
module

public import proofs.«01_k».proof.Proof.Region
public import proofs.«01_k».proof.Proof.Part

@[expose] public section

set_option maxRecDepth 16384

noncomputable section

namespace Cert.KernelIdeal.Pf

open Cert.KernelIdeal Cert.KernelIdeal.Gen
open Idealize.ShloMosaic Idealize.ShloMosaic.TcCoe Idealize.SL.Sem Idealize.ShloMosaic.StableHlo
open Cert.Model

variable (m : (ℓ : Loc nD τ sig) → Buf (Elt Ideal) ℓ) (c : Dev nD)

/-- The first of device `c`'s 1024 columns or rows of a weight matrix, as the program works it out: 1024 times the device's
    number, moved up by 8192 were it negative. -/
def startW : BitVec 32 :=
  Scalar.select
    (IntOp.cmpi .slt (IntOp.muli (IntOp.remui .host (IntOp.divui .host (Dev.word c) 1#32) 8#32) 1024#32) 0#32)
    (IntOp.addi (IntOp.muli (IntOp.remui .host (IntOp.divui .host (Dev.word c) 1#32) 8#32) 1024#32) 8192#32)
    (IntOp.muli (IntOp.remui .host (IntOp.divui .host (Dev.word c) 1#32) 8#32) 1024#32)

/-- That word is 1024 times the device's number. -/
theorem startW_eq : (startW c).toInt = 1024 * (c.val : ℤ) := by
  revert c
  unfold startW
  decide +kernel

/-- The rows of `x` without their leading axis, rounded to bf16. -/
def xOf (x : FVec Ideal S1x1024x1024 .f32) : FVec Ideal S1024x1024 .bf16 :=
  truncf .bf16 (shapeCast S1024x1024 x shapeCasts_S1x1024x1024_S1024x1024) bitsLt_bf16_f32
/-- The values: the heads' axis first. -/
def vOf (v : FVec Ideal S1x1024x8x128 .f32) : FVec Ideal S8x1024x128 .f32 :=
  transpose S8x1024x128 [1, 0, 2] (shapeCast S1024x8x128 v shapeCasts_S1x1024x8x128_S1024x8x128) transposes_S1024x8x128_S8x1024x128_1_0_2
/-- The keys: the heads' axis first, rounded to bf16. -/
def kOf (k : FVec Ideal S1x1024x8x128 .f32) : FVec Ideal S8x1024x128 .bf16 := truncf .bf16 (vOf k) bitsLt_bf16_f32
/-- A thousand and twenty-four columns of a weight matrix from the offsets `o`. -/
def colsAt (o : Fin 2 → ℤ) (w : FVec Ideal S1024x8192 .f32) : FVec Ideal S1024x1024 .bf16 :=
  truncf .bf16 (Host.dynamicSlice S1024x1024 w o sliceFits_S1024x8192_S1024x1024) bitsLt_bf16_f32
/-- A thousand and twenty-four rows of a weight matrix from the offsets `o`. -/
def rowsAt (o : Fin 2 → ℤ) (w : FVec Ideal S8192x1024 .f32) : FVec Ideal S1024x1024 .bf16 :=
  truncf .bf16 (Host.dynamicSlice S1024x1024 w o sliceFits_S8192x1024_S1024x1024) bitsLt_bf16_f32

set_option maxHeartbeats 2000000 in
/-- The window of `x` holds `x` without its leading axis. -/
theorem entry_x : (insOf m c).x = xOf (m (c.tc.loc main_arg0)) := by
  unfold insOf
  after_results_simp <;> rfl

set_option maxHeartbeats 2000000 in
/-- The window of the keys holds the keys, head by head. -/
theorem entry_k : (insOf m c).kt = kOf (m (c.tc.loc main_arg2)) := by
  unfold insOf
  after_results_simp <;> rfl

set_option maxHeartbeats 2000000 in
/-- The window of the values holds the values, head by head. -/
theorem entry_v : (insOf m c).vv = vOf (m (c.tc.loc main_arg3)) := by
  unfold insOf
  after_results_simp <;> rfl

set_option maxHeartbeats 2000000 in
/-- The window of the query weights holds the device's columns. -/
theorem entry_wq : (insOf m c).wq = colsAt (fun k => ((![0#32, startW c] : Fin 2 → BitVec 32) k).toInt) (m (c.tc.loc main_arg1)) := by
  unfold insOf
  after_results_simp
  refine congrArg (fun o => colsAt o (m (c.tc.loc main_arg1))) (funext fun k => ?_)
  match k with
  | 0 => dsimp only [Matrix.cons_val_zero]; after_results_simp; rfl
  | 1 => dsimp only [Matrix.cons_val_one, Matrix.cons_val_zero]; after_results_simp; rfl

set_option maxHeartbeats 2000000 in
/-- The window of the output weights holds the device's rows. -/
theorem entry_wo : (insOf m c).wo = rowsAt (fun k => ((![startW c, 0#32] : Fin 2 → BitVec 32) k).toInt) (m (c.tc.loc main_arg4)) := by
  unfold insOf
  after_results_simp
  refine congrArg (fun o => rowsAt o (m (c.tc.loc main_arg4))) (funext fun k => ?_)
  match k with
  | 0 => dsimp only [Matrix.cons_val_zero]; after_results_simp; rfl
  | 1 => dsimp only [Matrix.cons_val_one, Matrix.cons_val_zero]; after_results_simp; rfl

/-- The window of `x` at an index. -/
theorem x_at (x : FVec Ideal S1x1024x1024 .f32) (q e : Fin 1024) : xOf x (ix2 q e) = x (ix3 0 q e) := by
  pointwise [xOf]

/-- The window of the values at an index. -/
theorem v_at (v : FVec Ideal S1x1024x8x128 .f32) (h : Fin 8) (j : Fin 1024) (k : Fin 128) : vOf v (ix3 h j k) = v (ix4 0 j h k) := by
  pointwise [vOf]

/-- The window of the keys at an index. -/
theorem k_at (v : FVec Ideal S1x1024x8x128 .f32) (h : Fin 8) (j : Fin 1024) (k : Fin 128) : kOf v (ix3 h j k) = v (ix4 0 j h k) := by
  pointwise [kOf]
  exact v_at v h j k

/-- The device's columns of the query weights at an index: the positions of its own heads. -/
theorem wq_at (e : Fin 1024) (h : Fin 8) (k : Fin 128) (w : FVec Ideal S1024x8192 .f32) :
    colsAt (fun k => ((![0#32, startW c] : Fin 2 → BitVec 32) k).toInt) w (ix2 e (rowOf h k)) = w (ix2 e (posn (headOf c h) k)) := by
  have h0 := Host.clampedStart_of_le (s := S1024x8192) (t := S1024x1024) rfl (fun k => ((![0#32, startW c] : Fin 2 → BitVec 32) k).toInt) 0 0
    rfl (by decide)
  have h1 := Host.clampedStart_of_le (s := S1024x8192) (t := S1024x1024) rfl (fun k => ((![0#32, startW c] : Fin 2 → BitVec 32) k).toInt) 1
    (1024 * c.val) ((startW_eq c).trans (by push_cast; rfl)) (by show 1024 * c.val + 1024 ≤ 8192; have := c.isLt; simp only [nD] at this; omega)
  pointwise [colsAt]
  refine congrArg w (congrArg₂ ix2 (Fin.ext ?_) (Fin.ext ?_))
  · show Host.clampedStart _ _ _ _ 0 + e.val = e.val
    rw [h0, Nat.zero_add]
  · show Host.clampedStart _ _ _ _ 1 + (128 * h.val + k.val) = 128 * (8 * c.val + h.val) + k.val
    rw [h1]; omega

/-- The device's rows of the output weights at an index: the positions of its own heads. -/
theorem wo_at (h : Fin 8) (k : Fin 128) (n : Fin 1024) (w : FVec Ideal S8192x1024 .f32) :
    rowsAt (fun k => ((![startW c, 0#32] : Fin 2 → BitVec 32) k).toInt) w (ix2 (rowOf h k) n) = w (ix2 (posn (headOf c h) k) n) := by
  have h1 := Host.clampedStart_of_le (s := S8192x1024) (t := S1024x1024) rfl (fun k => ((![startW c, 0#32] : Fin 2 → BitVec 32) k).toInt) 1 0
    rfl (by decide)
  have h0 := Host.clampedStart_of_le (s := S8192x1024) (t := S1024x1024) rfl (fun k => ((![startW c, 0#32] : Fin 2 → BitVec 32) k).toInt) 0
    (1024 * c.val) ((startW_eq c).trans (by push_cast; rfl)) (by show 1024 * c.val + 1024 ≤ 8192; have := c.isLt; simp only [nD] at this; omega)
  pointwise [rowsAt]
  refine congrArg w (congrArg₂ ix2 (Fin.ext ?_) (Fin.ext ?_))
  · show Host.clampedStart _ _ _ _ 0 + (128 * h.val + k.val) = 128 * (8 * c.val + h.val) + k.val
    rw [h0]; omega
  · show Host.clampedStart _ _ _ _ 1 + n.val = n.val
    rw [h1, Nat.zero_add]

/-! ## The kernel's result -/

/-- When every device holds the two weight matrices and `x` whole and its eight heads of the keys and values, every device's
    result is the layer. -/
theorem outV_at (x : FVec Ideal S1x1024x1024 .f32) (wq : FVec Ideal S1024x8192 .f32) (kx vx : (⟨4, ![1, 1024, 64, 128]⟩ : Shape).Idx → EReal)
    (wo : FVec Ideal S8192x1024 .f32) (hx : ∀ e : Dev nD, m (e.tc.loc main_arg0) = x) (hwq : ∀ e : Dev nD, m (e.tc.loc main_arg1) = wq)
    (hk : ∀ (e : Dev nD) (j : Fin 1024) (h : Fin 8) (k : Fin 128),
      (m (e.tc.loc main_arg2) : FVec Ideal S1x1024x8x128 .f32) (ix4 0 j h k) = kx (ix4 0 j (headOf e h) k))
    (hv : ∀ (e : Dev nD) (j : Fin 1024) (h : Fin 8) (k : Fin 128),
      (m (e.tc.loc main_arg3) : FVec Ideal S1x1024x8x128 .f32) (ix4 0 j h k) = vx (ix4 0 j (headOf e h) k))
    (hwo : ∀ e : Dev nD, m (e.tc.loc main_arg4) = wo) (q n : Fin 1024) :
    outV m c (ix2 q n) = out (fun q e => x (ix3 0 q e)) (fun e p => wq (ix2 e p)) (fun j h k => kx (ix4 0 j h k))
      (fun j h k => vx (ix4 0 j h k)) (fun p n => wo (ix2 p n)) q n := by
  obtain ⟨r, s, rfl⟩ : ∃ (r : Fin 8) (s : Fin 128), q = rowOf r s :=
    ⟨⟨q.val / 128, by omega⟩, ⟨q.val % 128, Nat.mod_lt _ (by decide)⟩, Fin.ext (by show q.val = 128 * (q.val / 128) + q.val % 128; omega)⟩
  unfold outV
  rw [asm_at, fin_at]
  unfold out ctx
  rw [sum_heads]
  refine Finset.sum_congr rfl fun e _ => ?_
  rw [part_at]
  refine Finset.sum_congr rfl fun h _ => Finset.sum_congr rfl fun k _ => ?_
  unfold headAt
  rw [entry_x, entry_wq, entry_k, entry_v, entry_wo, hx, hwq, hwo]
  simp only [wo_at, wq_at, x_at, k_at, v_at, hk, hv]

end Cert.KernelIdeal.Pf

end
-- ==== Proof.Ref.lean ====
/-
  The reference's result, named piece by piece, and each piece read at an index.
-/
module

public import proofs.«01_k».proof.Proof.Gen.ReferenceIdeal.Run
public import proofs.«01_k».proof.Proof.Model
public import Idealize.ShloMosaic.Lib.Routing.OpsOrder

@[expose] public section

set_option maxRecDepth 16384

noncomputable section

namespace Cert.ReferenceIdeal.Pf

open Cert.ReferenceIdeal Cert.ReferenceIdeal.Gen
open Idealize.ShloMosaic
open Cert.Model hiding expo
open Idealize.ShloMosaic.TcCoe

/-! ## The mask -/

/-- A one-element vector holding the word `w`. -/
abbrev word (w : BitVec 32) : IVec S_ 32 := constantI S_ 32 w
/-- A one-element vector along 1024 positions. -/
abbrev line (v : IVec S_ 32) : IVec S1024 32 := broadcastInDim S1024 ![] bcast_S_S1024 v
/-- A one-element vector over the 1024 × 1024 plane. -/
abbrev plane {w : ℕ} (v : IVec S_ w) : IVec S1024x1024 w := broadcastInDim S1024x1024 ![] bcast_S_S1024x1024 v

/-- The block number of each position: its number divided by 64, rounded down. -/
def blk : IVec S1024 32 :=
  select (andi (cmpi .ne (signi (iotaInDim S1024 32 0)) (line (signi (id (word 64#32)))))
      (cmpi .ne (Host.remsi (iotaInDim S1024 32 0) (line (id (word 64#32)))) (line (word 0#32))))
    (subi (Host.divsi (iotaInDim S1024 32 0) (line (id (word 64#32)))) (line (word 1#32)))
    (Host.divsi (iotaInDim S1024 32 0) (line (id (word 64#32))))

/-- The block number of the row, over the plane. -/
def rowB : IVec S1024x1024 32 :=
  broadcastInDim S1024x1024 ![0, 1] bcast_S1024x1_S1024x1024_0_1 (broadcastInDim S1024x1 ![0] bcast_S1024_S1024x1_0 blk)
/-- The block number of each column, as one row. -/
abbrev colB1 : IVec S1x1024 32 := broadcastInDim S1x1024 ![1] bcast_S1024_S1x1024_1 blk
/-- The block number of the column, over the plane. -/
def colB : IVec S1024x1024 32 := broadcastInDim S1024x1024 ![0, 1] bcast_S1x1024_S1024x1024_0_1 colB1

/-- The divisor 3, guarded against zero. -/
def three : IVec S_ 32 := select (cmpi .eq (id (word 3#32)) (word 0#32)) (word 1#32) (id (word 3#32))
/-- The truncated remainder of the block numbers' sum by the divisor. -/
def rem0 : IVec S1024x1024 32 := Host.remsi (addi rowB colB) (plane three)
/-- The remainder with the divisor's sign. -/
def rem : IVec S1024x1024 32 :=
  select (andi (cmpi .ne (cmpi .slt rem0 (plane (word 0#32))) (plane (cmpi .slt three (word 0#32)))) (cmpi .ne rem0 (plane (word 0#32))))
    (addi rem0 (plane three)) rem0

/-- The mask: same block, or the first block, or the block numbers' sum divisible by 3. -/
def mask : IVec S1024x1024 1 :=
  ori (ori (cmpi .eq rowB colB)
      (broadcastInDim S1024x1024 ![0, 1] bcast_S1x1024_S1024x1024_0_1
        (cmpi .eq colB1 (broadcastInDim S1x1024 ![] bcast_S_S1x1024 (word 0#32)))))
    (cmpi .eq rem (plane (word 0#32)))

/-- Whether a row of the mask has any bit set. -/
def keep : IVec S1x1x1024x1 1 :=
  broadcastInDim S1x1x1024x1 ![2] bcast_S1024_S1x1x1024x1_2
    (Host.reduce IntOp.ori mask (constantI S_ 1 0#1) reducesTo_S1024x1024_S1024_d1 h_S_)

/-! ## The attention -/

section
variable {F : FTy → Type} [FloatOps F]
variable (x : FVec F S1x1024x1024 .f32) (wq : FVec F S1024x8192 .f32) (kx vx : FVec F S1x1024x64x128 .f32) (wo : FVec F S8192x1024 .f32)

/-- The queries, head by head. -/
def query : FVec F S1x1024x64x128 .f32 :=
  shapeCast S1x1024x64x128 (Host.dotGeneral dot_S1x1024x1024_S1024x8192_S1x1024x8192_2_0_01_1_n_n none x wq) shapeCasts_S1x1024x8192_S1x1024x64x128

/-- The scaled scores, with the large negative number where the mask is off. -/
def scores (q : FVec F S1x1024x64x128 .f32) : FVec F S1x64x1024x1024 .f32 :=
  select (broadcastInDim S1x64x1024x1024 ![0, 1, 2, 3] bcast_S1x1x1024x1024_S1x64x1024x1024_0_1_2_3
      (broadcastInDim S1x1x1024x1024 ![2, 3] bcast_S1024x1024_S1x1x1024x1024_2_3 mask))
    (mulf (Host.dotGeneral dot_S1x1024x64x128_S1x1024x64x128_S1x64x1024x1024_3_3_1_1_02_02 none q kx)
      (broadcastInDim S1x64x1024x1024 ![] bcast_S_S1x64x1024x1024 (constant S_ .f32 0x3DB504F3#32)))
    (broadcastInDim S1x64x1024x1024 ![] bcast_S_S1x64x1024x1024 (id (constant S_ .f32 0xCE6E6B28#32)))

/-- Each score less its row's greatest, exponentiated. -/
def expo (s : FVec F S1x64x1024x1024 .f32) : FVec F S1x64x1024x1024 .f32 :=
  Host.exp (subf s (broadcastInDim S1x64x1024x1024 ![0, 1, 2, 3] bcast_S1x64x1024x1_S1x64x1024x1024_0_1_2_3
    (broadcastInDim S1x64x1024x1 ![0, 1, 2] bcast_S1x64x1024_S1x64x1024x1_0_1_2
      (Host.reduce FloatOps.maximumf s (constant S_ .f32 0xFF800000#32) reducesTo_S1x64x1024x1024_S1x64x1024_d3 h_S_))))

/-- The weights: each exponential over its row's sum, where the row has any bit of the mask set. -/
def weight (e : FVec F S1x64x1024x1024 .f32) : FVec F S1x64x1024x1024 .f32 :=
  select (broadcastInDim S1x64x1024x1024 ![0, 1, 2, 3] bcast_S1x1x1024x1_S1x64x1024x1024_0_1_2_3 keep)
    (Host.divf e (broadcastInDim S1x64x1024x1024 ![0, 1, 2, 3] bcast_S1x64x1024x1_S1x64x1024x1024_0_1_2_3
      (select (broadcastInDim S1x64x1024x1 ![0, 1, 2, 3] bcast_S1x1x1024x1_S1x64x1024x1_0_1_2_3 keep)
        (broadcastInDim S1x64x1024x1 ![0, 1, 2] bcast_S1x64x1024_S1x64x1024x1_0_1_2
          (Host.reduceAdd e (constant S_ .f32 0x00000000#32) reducesTo_S1x64x1024x1024_S1x64x1024_d3 h_S_))
        (broadcastInDim S1x64x1024x1 ![] bcast_S_S1x64x1024x1 (id (constant S_ .f32 0x3F800000#32))))))
    (broadcastInDim S1x64x1024x1024 ![] bcast_S_S1x64x1024x1024 (id (constant S_ .f32 0x00000000#32)))

/-- Each head's weighted values, the heads side by side. -/
def context (w : FVec F S1x64x1024x1024 .f32) : FVec F S1x1024x8192 .f32 :=
  shapeCast S1x1024x8192 (transpose S1x1024x64x128 [0, 3, 1, 2]
    (Host.dotGeneral dot_S1x1024x64x128_S1x64x1024x1024_S1x64x128x1024_1_3_3_2_02_01 none vx w) transposes_S1x64x128x1024_S1x1024x64x128_0_3_1_2)
    shapeCasts_S1x1024x64x128_S1x1024x8192
/-- The context against the output weights. -/
def result : FVec F S1x1024x1024 .f32 :=
  Host.dotGeneral dot_S1x1024x8192_S8192x1024_S1x1024x1024_2_0_01_1_n_n none
    (context vx (weight (expo (scores kx (query x wq))))) wo

end

set_option maxHeartbeats 2000000 in
/-- The reference's result is the composition of these pieces. -/
theorem result_eq {F : FTy → Type} [FloatOps F] (m : (ℓ : Loc nD τ sig) → Buf (Elt F) ℓ) (c : Dev nD) :
    Value.res_main_v44 m c = result (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v44
  rfl

/-! ## Each piece at an index -/

/-- The sign of a word. -/
def signW (w : BitVec 32) : BitVec 32 := if w = 0 then 0 else if w.msb = true then -1 else 1

/-- The quotient, rounded down as the reference rounds it, of each word below 1024 by 64. -/
theorem floor_word : ∀ n : Fin 1024, Scalar.select
      (IntOp.andi
        (IntOp.cmpi .ne (signW (BitVec.ofNat 32 n.val)) (signW 64#32))
        (IntOp.cmpi .ne (IntOp.remsi .host (BitVec.ofNat 32 n.val) 64#32) 0#32))
      (IntOp.subi (IntOp.divsi .host (BitVec.ofNat 32 n.val) 64#32) 1#32)
      (IntOp.divsi .host (BitVec.ofNat 32 n.val) 64#32) = BitVec.ofNat 32 (n.val / 64) := by
  unfold signW
  decide +kernel

/-- The block number of a position. -/
theorem blk_at (n : Fin 1024) : blk (ix1 n) = BitVec.ofNat 32 (n.val / 64) := by
  pointwise [blk]
  exact floor_word n

/-- The reference's mask on the words of two block numbers. -/
theorem mask_word : ∀ a b : Fin 16,
    IntOp.ori
      (IntOp.ori (IntOp.cmpi .eq (BitVec.ofNat 32 a.val) (BitVec.ofNat 32 b.val)) (IntOp.cmpi .eq (BitVec.ofNat 32 b.val) 0#32))
      (IntOp.cmpi .eq
        (Scalar.select
          (IntOp.andi
            (IntOp.cmpi .ne
              (IntOp.cmpi .slt (IntOp.remsi .host (IntOp.addi (BitVec.ofNat 32 a.val) (BitVec.ofNat 32 b.val))
                (Scalar.select (IntOp.cmpi .eq 3#32 0#32) 1#32 3#32)) 0#32)
              (IntOp.cmpi .slt (Scalar.select (IntOp.cmpi .eq 3#32 0#32) 1#32 3#32) 0#32))
            (IntOp.cmpi .ne (IntOp.remsi .host (IntOp.addi (BitVec.ofNat 32 a.val) (BitVec.ofNat 32 b.val))
              (Scalar.select (IntOp.cmpi .eq 3#32 0#32) 1#32 3#32)) 0#32))
          (IntOp.addi (IntOp.remsi .host (IntOp.addi (BitVec.ofNat 32 a.val) (BitVec.ofNat 32 b.val))
              (Scalar.select (IntOp.cmpi .eq 3#32 0#32) 1#32 3#32))
            (Scalar.select (IntOp.cmpi .eq 3#32 0#32) 1#32 3#32))
          (IntOp.remsi .host (IntOp.addi (BitVec.ofNat 32 a.val) (BitVec.ofNat 32 b.val))
            (Scalar.select (IntOp.cmpi .eq 3#32 0#32) 1#32 3#32)))
        0#32) = seen a.val b.val := by
  decide +kernel

/-- The mask says whether the row's block attends to the column's. -/
theorem mask_at (q j : Fin 1024) : mask (ix2 q j) = seen (q.val / 64) (j.val / 64) := by
  pointwise [mask, rem, rem0, three, rowB, colB]
  rw [blk_at, blk_at]
  exact mask_word ⟨q.val / 64, by omega⟩ ⟨j.val / 64, by omega⟩

/-- Every row of the mask has a bit set. -/
theorem keep_at (q : Fin 1024) : keep (ix4 0 0 q 0) = 1#1 := by
  pointwise [keep]
  exact (Routing.fold_ori _ _).2 ⟨0, Finset.mem_univ _, (mask_at q 0).trans (seen_zero _)⟩

section
variable (x : FVec Ideal S1x1024x1024 .f32) (wq : FVec Ideal S1024x8192 .f32) (kx vx : FVec Ideal S1x1024x64x128 .f32)
  (wo : FVec Ideal S8192x1024 .f32)

/-- A query at an index. -/
theorem query_at (q : Fin 1024) (h : Fin 64) (k : Fin 128) : query x wq (ix4 0 q h k) = ∑ e, x (ix3 0 q e) * wq (ix2 e (posn h k)) := by
  pointwise [query]
  refine Finset.sum_congr rfl fun e _ => ?_
  have hp : (⟨h.val * 128 + k.val, by omega⟩ : Fin 8192) = posn h k := Fin.ext (by
    show h.val * 128 + k.val = 128 * h.val + k.val; omega)
  rw [hp]

/-- A score at an index. -/
theorem scores_at (Q : FVec Ideal S1x1024x64x128 .f32) (h : Fin 64) (q j : Fin 1024) :
    scores kx Q (ix4 0 h q j) = score q.val (fun k => Q (ix4 0 q h k)) (fun j k => kx (ix4 0 j h k)) j := by
  pointwise [scores]
  rw [mask_at]
  rfl

/-- An exponential at an index. -/
theorem expo_at (Q : FVec Ideal S1x1024x64x128 .f32) (h : Fin 64) (q j : Fin 1024) :
    Pf.expo (scores kx Q) (ix4 0 h q j) = Model.expo q.val (fun k => Q (ix4 0 q h k)) (fun j k => kx (ix4 0 j h k)) j := by
  pointwise [Pf.expo]
  simp only [scores_at]
  rfl

/-- A weight at an index: every row keeps its own. -/
theorem weight_at (s : FVec Ideal S1x64x1024x1024 .f32) (h : Fin 64) (q j : Fin 1024) :
    weight s (ix4 0 h q j) = Ideal.div (s (ix4 0 h q j)) (∑ j', s (ix4 0 h q j')) := by
  pointwise [weight]
  rw [keep_at]
  rfl

/-- A head's weighted values at an index. -/
theorem context_at (Q : FVec Ideal S1x1024x64x128 .f32) (q : Fin 1024) (h : Fin 64) (k : Fin 128) :
    context vx (weight (Pf.expo (scores kx Q))) (ix3 0 q (posn h k))
      = head q.val (fun k => Q (ix4 0 q h k)) (fun j k => kx (ix4 0 j h k)) (fun j k => vx (ix4 0 j h k)) k := by
  pointwise [context]
  have hh : (⟨(posn h k).val / 128, by have := (posn h k).isLt; omega⟩ : Fin 64) = h := Fin.ext (by show (128 * h.val + k.val) / 128 = _; omega)
  have hk : (⟨(posn h k).val % 128, Nat.mod_lt _ (by decide)⟩ : Fin 128) = k := Fin.ext (by show (128 * h.val + k.val) % 128 = _; omega)
  rw [hh, hk]
  unfold head
  refine Finset.sum_congr rfl fun j _ => ?_
  rw [weight_at, mul_comm]
  simp only [expo_at]

/-- The reference computes the layer. -/
theorem result_at (q n : Fin 1024) :
    result x wq kx vx wo (ix3 0 q n)
      = out (fun q e => x (ix3 0 q e)) (fun e p => wq (ix2 e p)) (fun j h k => kx (ix4 0 j h k)) (fun j h k => vx (ix4 0 j h k))
          (fun p n => wo (ix2 p n)) q n := by
  pointwise [result]
  rw [sum_posn]
  unfold out ctx
  refine Finset.sum_congr rfl fun h _ => Finset.sum_congr rfl fun k _ => ?_
  rw [context_at]
  simp only [query_at]

end

end Cert.ReferenceIdeal.Pf

end
-- ==== Proof.lean ====
/-
  The claims of this certificate: the three programs run and leave the machine quiet, the idealized kernel is the kernel, and over the
  ideal numbers the kernel's result is the reference's on every device.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Main
public import proofs.«01_k».proof.Proof.Entry
public import proofs.«01_k».proof.Proof.Ref
public import Idealize.ShloMosaic.Lib.Layout
public import Idealize.ShloMosaic.Adequacy
public import Idealize.ShloMosaic.Init

@[expose] public section

set_option maxRecDepth 16384

noncomputable section

namespace Cert.Proof

open Idealize.ShloMosaic Idealize.SL.Sem Cert.Kernel

/-- The two programs' body tables are one. -/
theorem bodies {F : FTy → Type} [FloatOps F] : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl
  | ⟨n + 1, h⟩, _ => exact absurd h (Nat.not_lt.2 (Nat.le_add_left _ _))

theorem tables {F : FTy → Type} [FloatOps F] : Cert.Kernel.defs (F := F) = Cert.KernelIdeal.defs (F := F) :=
  congrArg (Pipeline.defs (Cert.Kernel.pcfgs (F := F))) bodies

/-- The kernel's run over the machine's own floats: it is the same program at another float type. -/
theorem frame_kernel : Cert.quiescent_Kernel := fun m ρ _ => by
  rw [tables]
  exact Cert.KernelIdeal.Pf.frame_run (F := Bits) m ρ

theorem frame_kernelIdeal : Cert.quiescent_KernelIdeal := fun m ρ _ => Cert.KernelIdeal.Pf.frame_run (F := Ideal) m ρ

/-- The reference declares no semaphore, so its counters are zero at every state. -/
theorem frame_referenceIdeal : Cert.quiescent_ReferenceIdeal := by
  intro m ρ _
  exact (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Head `h` of the eight that device `e` holds of an array of sixty-four heads. -/
theorem block_at (e : Fin 8) (v : (⟨4, ![1, 1024, 64, 128]⟩ : Shape).Idx → EReal) (j : Fin 1024) (h : Fin 8) (k : Fin 128) :
    Layout.block ⟨4, ![1, 1024, 8, 128]⟩ ⟨4, ![1, 1024, 64, 128]⟩ 2 8 e v (by decide) (ix4 0 j h k) = v (ix4 0 j (Cert.Model.headOf e h) k) := by
  rw [Layout.block_apply]
  refine congrArg v (funext fun b => Fin.ext ?_)
  rw [Layout.Tiles.idx_val]
  match b with
  | 0 => rfl
  | 1 => rfl
  | 2 => show e.val * 8 + h.val = 8 * e.val + h.val; omega
  | 3 => rfl

/-- Over the ideal numbers every device of the kernel ends holding the reference's result. -/
theorem algebraic : Cert.algebraic_KernelIdeal_ReferenceIdeal := by
  intro m g m' g' _ hin
  refine ⟨Cert.ReferenceIdeal.Value.res_main_v44 m' 0,
    (θ_run Cert.KernelIdeal.defs _ _).mono (fun r h c => ?_) (Cert.KernelIdeal.Pf.run_main (F := Ideal) m g),
    (θ_run Cert.ReferenceIdeal.defs _ _).mono (fun r h => h 0) (Cert.ReferenceIdeal.Value.run (F := Ideal) m' g')⟩
  obtain ⟨hargs, hres⟩ := h.1 c
  refine ⟨hres.trans ?_, hargs⟩
  rw [Cert.ReferenceIdeal.Pf.result_eq]
  funext i
  obtain ⟨q, n, rfl⟩ : ∃ q n : Fin 1024, i = ix3 0 q n := ⟨i 1, i 2, by
    have h0 : (show Fin 1 from i 0) = 0 := Subsingleton.elim _ _
    exact (eq_ix3 i).trans (congrArg (fun a : Fin 1 => ix3 a (i 1) (i 2)) h0)⟩
  refine Eq.trans ?_ (Cert.ReferenceIdeal.Pf.result_at _ _ _ _ _ q n).symm
  refine Eq.trans ?_ (Cert.KernelIdeal.Pf.outV_at m c _ _ _ _ _ (fun e => (hin e).1) (fun e => (hin e).2.1)
    (fun e j h k => (congrFun (hin e).2.2.1 (ix4 0 j h k)).trans (block_at e _ j h k))
    (fun e j h k => (congrFun (hin e).2.2.2.1 (ix4 0 j h k)).trans (block_at e _ j h k)) (fun e => (hin e).2.2.2.2) q n)
  generalize Cert.KernelIdeal.Pf.outV m c = w
  pointwise

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
